-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31_13)) (v1 : (c : Dev Cert.KernelIdeal.nD) → Buf (Elt Ideal) ((c.tc : Thread Cert.KernelIdeal.nD Cert.KernelIdeal.τ).loc Cert.KernelIdeal.main_v31_14)) (v2 : (c : Dev Cert.KernelIdeal.nD) → Buf (Elt Ideal) ((c.tc : Thread Cert.KernelIdeal.nD Cert.KernelIdeal.τ).loc Cert.KernelIdeal.main_v31_12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_13) = v0 c
          ∧ r.2.mem ((c.tc : Thread Cert.KernelIdeal.nD Cert.KernelIdeal.τ).loc Cert.KernelIdeal.main_v31_14) = v1 c
          ∧ r.2.mem ((c.tc : Thread Cert.KernelIdeal.nD Cert.KernelIdeal.τ).loc Cert.KernelIdeal.main_v31_12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31_13) = v0 c
          ∧ r.2.mem ((c.tc : Thread Cert.ReferenceIdeal.nD Cert.ReferenceIdeal.τ).loc Cert.ReferenceIdeal.main_v31_14) = v1 c
          ∧ r.2.mem ((c.tc : Thread Cert.ReferenceIdeal.nD Cert.ReferenceIdeal.τ).loc Cert.ReferenceIdeal.main_v31_12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128 : Shape := ⟨1, ![128]⟩
abbrev S10000x128 : Shape := ⟨2, ![10000, 128]⟩
abbrev S100000x128 : Shape := ⟨2, ![100000, 128]⟩
abbrev S256x128 : Shape := ⟨2, ![256, 128]⟩
abbrev S128x384 : Shape := ⟨2, ![128, 384]⟩
abbrev S384 : Shape := ⟨1, ![384]⟩
abbrev S128x100000 : Shape := ⟨2, ![128, 100000]⟩
abbrev S100000 : Shape := ⟨1, ![100000]⟩
abbrev S_ : Shape := ⟨0, ![]⟩
abbrev S128x1 : Shape := ⟨2, ![128, 1]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S2 : Shape := ⟨1, ![2]⟩
abbrev S15x128 : Shape := ⟨2, ![15, 128]⟩
abbrev S1x384 : Shape := ⟨2, ![1, 384]⟩
abbrev S1x100000 : Shape := ⟨2, ![1, 100000]⟩
abbrev S8x128 : Shape := ⟨2, ![8, 128]⟩
abbrev S3328x128 : Shape := ⟨2, ![3328, 128]⟩
abbrev S8192x128 : Shape := ⟨2, ![8192, 128]⟩
abbrev S32x128 : Shape := ⟨2, ![32, 128]⟩
abbrev S128x3328 : Shape := ⟨2, ![128, 3328]⟩
abbrev S128x44 : Shape := ⟨2, ![128, 44]⟩
abbrev S128x44x1 : Shape := ⟨3, ![128, 44, 1]⟩
abbrev S32 : Shape := ⟨1, ![32]⟩
abbrev S1x1x32 : Shape := ⟨3, ![1, 1, 32]⟩
abbrev S128x44x32 : Shape := ⟨3, ![128, 44, 32]⟩
abbrev S128x1408 : Shape := ⟨2, ![128, 1408]⟩
abbrev S1408x128 : Shape := ⟨2, ![1408, 128]⟩
abbrev S1408x128x1 : Shape := ⟨3, ![1408, 128, 1]⟩
abbrev S1x1x1 : Shape := ⟨3, ![1, 1, 1]⟩
abbrev S128x40 : Shape := ⟨2, ![128, 40]⟩
abbrev S128x40x1 : Shape := ⟨3, ![128, 40, 1]⟩
abbrev S1x1 : Shape := ⟨2, ![1, 1]⟩
abbrev S128x1x1 : Shape := ⟨3, ![128, 1, 1]⟩

abbrev nBuf : Space → Nat
  | .hbm => 843
  | .vmem => 6
  | .smem => 0
  | _ => 0

abbrev hbmTy0_0 (i : Nat) : BufTy := match i % 128 with
  | 0 => ⟨S128, .i32⟩
  | 1 => ⟨S128, .i32⟩
  | 2 => ⟨S10000x128, .f32⟩
  | 3 => ⟨S10000x128, .f32⟩
  | 4 => ⟨S100000x128, .f32⟩
  | 5 => ⟨S256x128, .f32⟩
  | 6 => ⟨S128, .f32⟩
  | 7 => ⟨S128x384, .f32⟩
  | 8 => ⟨S128x384, .f32⟩
  | 9 => ⟨S384, .f32⟩
  | 10 => ⟨S384, .f32⟩
  | 11 => ⟨S128x100000, .f32⟩
  | 12 => ⟨S100000, .f32⟩
  | 13 => ⟨S_, .i32⟩
  | 14 => ⟨S128, .i32⟩
  | 15 => ⟨S128, .i1⟩
  | 16 => ⟨S_, .i32⟩
  | 17 => ⟨S128, .i32⟩
  | 18 => ⟨S128, .i32⟩
  | 19 => ⟨S128, .i32⟩
  | 20 => ⟨S128x1, .i32⟩
  | 21 => ⟨S128x128, .f32⟩
  | 22 => ⟨S_, .i32⟩
  | 23 => ⟨S128, .i32⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S128x128, .f32⟩
  | 31 => ⟨S128x256, .f32⟩
  | 32 => ⟨S128x128, .f32⟩
  | 33 => ⟨S1x128, .f32⟩
  | 34 => ⟨S128x128, .f32⟩
  | 35 => ⟨S128x128, .f32⟩
  | 36 => ⟨S128x128, .f32⟩
  | 37 => ⟨S_, .i32⟩
  | 38 => ⟨S128, .i32⟩
  | 39 => ⟨S_, .i32⟩
  | 40 => ⟨S128, .i32⟩
  | 41 => ⟨S_, .i32⟩
  | 42 => ⟨S_, .i32⟩
  | 43 => ⟨S_, .i32⟩
  | 44 => ⟨S_, .i32⟩
  | 45 => ⟨S1, .i32⟩
  | 46 => ⟨S_, .i32⟩
  | 47 => ⟨S_, .i32⟩
  | 48 => ⟨S_, .i32⟩
  | 49 => ⟨S1, .i32⟩
  | 50 => ⟨S2, .i32⟩
  | 51 => ⟨S_, .i32⟩
  | 52 => ⟨S15x128, .i32⟩
  | 53 => ⟨S_, .f32⟩
  | 54 => ⟨S15x128, .f32⟩
  | 55 => ⟨S_, .i32⟩
  | 56 => ⟨S_, .i32⟩
  | 57 => ⟨S100000x128, .f32⟩
  | 58 => ⟨S128x384, .f32⟩
  | 59 => ⟨S384, .f32⟩
  | 60 => ⟨S128x384, .f32⟩
  | 61 => ⟨S384, .f32⟩
  | 62 => ⟨S128x100000, .f32⟩
  | 63 => ⟨S100000, .f32⟩
  | 64 => ⟨S2, .i32⟩
  | 65 => ⟨S_, .i32⟩
  | 66 => ⟨S_, .i32⟩
  | 67 => ⟨S128x128, .f32⟩
  | 68 => ⟨S128, .i32⟩
  | 69 => ⟨S128, .i32⟩
  | 70 => ⟨S15x128, .i32⟩
  | 71 => ⟨S15x128, .f32⟩
  | 72 => ⟨S_, .i32⟩
  | 73 => ⟨S_, .i1⟩
  | 74 => ⟨S_, .i32⟩
  | 75 => ⟨S_, .i32⟩
  | 76 => ⟨S_, .i32⟩
  | 77 => ⟨S128, .i32⟩
  | 78 => ⟨S128, .i1⟩
  | 79 => ⟨S_, .i32⟩
  | 80 => ⟨S128, .i32⟩
  | 81 => ⟨S128, .i32⟩
  | 82 => ⟨S128, .i32⟩
  | 83 => ⟨S128x1, .i32⟩
  | 84 => ⟨S128x128, .f32⟩
  | 85 => ⟨S128x384, .f32⟩
  | 86 => ⟨S1x384, .f32⟩
  | 87 => ⟨S128x384, .f32⟩
  | 88 => ⟨S128x384, .f32⟩
  | 89 => ⟨S128x384, .f32⟩
  | 90 => ⟨S1x384, .f32⟩
  | 91 => ⟨S128x384, .f32⟩
  | 92 => ⟨S128x384, .f32⟩
  | 93 => ⟨S128x128, .f32⟩
  | 94 => ⟨S128x128, .f32⟩
  | 95 => ⟨S128x128, .f32⟩
  | 96 => ⟨S128x128, .f32⟩
  | 97 => ⟨S128x128, .f32⟩
  | 98 => ⟨S128x128, .f32⟩
  | 99 => ⟨S128x128, .f32⟩
  | 100 => ⟨S128x128, .f32⟩
  | 101 => ⟨S128x128, .f32⟩
  | 102 => ⟨S_, .f32⟩
  | 103 => ⟨S128x128, .f32⟩
  | 104 => ⟨S128x128, .f32⟩
  | 105 => ⟨S_, .f32⟩
  | 106 => ⟨S128x128, .f32⟩
  | 107 => ⟨S128x128, .f32⟩
  | 108 => ⟨S128x128, .f32⟩
  | 109 => ⟨S128x128, .f32⟩
  | 110 => ⟨S128x128, .f32⟩
  | 111 => ⟨S_, .f32⟩
  | 112 => ⟨S128x128, .f32⟩
  | 113 => ⟨S128x128, .f32⟩
  | 114 => ⟨S_, .f32⟩
  | 115 => ⟨S128x128, .f32⟩
  | 116 => ⟨S128x128, .f32⟩
  | 117 => ⟨S128x128, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S128x128, .f32⟩
  | 124 => ⟨S128x128, .f32⟩
  | 125 => ⟨S128x128, .f32⟩
  | 126 => ⟨S128x100000, .f32⟩
  | 127 => ⟨S1x100000, .f32⟩
  | _ => ⟨S128, .i32⟩

abbrev hbmTy0_1 (i : Nat) : BufTy := match i % 128 with
  | 0 => ⟨S128x100000, .f32⟩
  | 1 => ⟨S128x100000, .f32⟩
  | 2 => ⟨S_, .f32⟩
  | 3 => ⟨S128, .f32⟩
  | 4 => ⟨S128x1, .f32⟩
  | 5 => ⟨S128x100000, .f32⟩
  | 6 => ⟨S128x100000, .f32⟩
  | 7 => ⟨S128x100000, .f32⟩
  | 8 => ⟨S_, .f32⟩
  | 9 => ⟨S128, .f32⟩
  | 10 => ⟨S128x1, .f32⟩
  | 11 => ⟨S128x1, .f32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S1, .i32⟩
  | 25 => ⟨S1, .i32⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S1, .i32⟩
  | 120 => ⟨S_, .i32⟩
  | 121 => ⟨S1, .i32⟩
  | 122 => ⟨S1, .i32⟩
  | 123 => ⟨S_, .i32⟩
  | 124 => ⟨S1, .i32⟩
  | 125 => ⟨S1, .i32⟩
  | 126 => ⟨S1, .i32⟩
  | 127 => ⟨S1, .i32⟩
  | _ => ⟨S128, .i32⟩

abbrev hbmTy0_2 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S2, .i32⟩
  | 121 => ⟨S100000x128, .f32⟩
  | 122 => ⟨S1x128, .f32⟩
  | 123 => ⟨S8x128, .f32⟩
  | 124 => ⟨S1x128, .f32⟩
  | 125 => ⟨S8x128, .f32⟩
  | 126 => ⟨S3328x128, .f32⟩
  | 127 => ⟨S128x3328, .f32⟩
  | _ => ⟨S128, .i32⟩

abbrev hbmTy0_3 (i : Nat) : BufTy := match i % 128 with
  | 0 => ⟨S128x44, .f32⟩
  | 1 => ⟨S128x44, .i32⟩
  | 2 => ⟨S128x44, .i32⟩
  | 3 => ⟨S128x44x1, .i32⟩
  | 4 => ⟨S_, .i32⟩
  | 5 => ⟨S128x44x1, .i32⟩
  | 6 => ⟨S128x44x1, .i32⟩
  | 7 => ⟨S32, .i32⟩
  | 8 => ⟨S1x1x32, .i32⟩
  | 9 => ⟨S128x44x32, .i32⟩
  | 10 => ⟨S128x44x32, .i32⟩
  | 11 => ⟨S128x44x32, .i32⟩
  | 12 => ⟨S128x1408, .i32⟩
  | 13 => ⟨S_, .i32⟩
  | 14 => ⟨S128x1408, .i32⟩
  | 15 => ⟨S128x1408, .i32⟩
  | 16 => ⟨S1408x128, .i32⟩
  | 17 => ⟨S_, .i32⟩
  | 18 => ⟨S1408x128, .i32⟩
  | 19 => ⟨S1408x128, .i1⟩
  | 20 => ⟨S_, .i32⟩
  | 21 => ⟨S1408x128, .i32⟩
  | 22 => ⟨S1408x128, .i32⟩
  | 23 => ⟨S1408x128, .i32⟩
  | 24 => ⟨S1408x128x1, .i32⟩
  | 25 => ⟨S1, .i32⟩
  | 26 => ⟨S_, .i32⟩
  | 27 => ⟨S1408x128x1, .i32⟩
  | 28 => ⟨S1408x128x1, .i1⟩
  | 29 => ⟨S1x1x1, .i32⟩
  | 30 => ⟨S1408x128x1, .i32⟩
  | 31 => ⟨S1408x128x1, .i1⟩
  | 32 => ⟨S1408x128x1, .i1⟩
  | 33 => ⟨S_, .i1⟩
  | 34 => ⟨S1408x128, .i1⟩
  | 35 => ⟨S1408x128, .f32⟩
  | 36 => ⟨S_, .f32⟩
  | 37 => ⟨S1408x128, .f32⟩
  | 38 => ⟨S1408x128, .f32⟩
  | 39 => ⟨S128x1408, .f32⟩
  | 40 => ⟨S128x1408, .f32⟩
  | 41 => ⟨S128x1408, .f32⟩
  | 42 => ⟨S128x1408, .f32⟩
  | 43 => ⟨S128x1408, .f32⟩
  | 44 => ⟨S128x1408, .f32⟩
  | 45 => ⟨S_, .i32⟩
  | 46 => ⟨S128x1408, .i32⟩
  | 47 => ⟨S128x1408, .i1⟩
  | 48 => ⟨S_, .f32⟩
  | 49 => ⟨S_, .f32⟩
  | 50 => ⟨S128x1408, .f32⟩
  | 51 => ⟨S128x1408, .f32⟩
  | 52 => ⟨S128x40, .f32⟩
  | 53 => ⟨S128x40, .i32⟩
  | 54 => ⟨S_, .i32⟩
  | 55 => ⟨S128x40, .i32⟩
  | 56 => ⟨S128x40, .i1⟩
  | 57 => ⟨S_, .i32⟩
  | 58 => ⟨S128x40, .i32⟩
  | 59 => ⟨S128x40, .i32⟩
  | 60 => ⟨S128x40, .i32⟩
  | 61 => ⟨S128x40x1, .i32⟩
  | 62 => ⟨S1, .i32⟩
  | 63 => ⟨S_, .i32⟩
  | 64 => ⟨S128x40x1, .i32⟩
  | 65 => ⟨S128x40x1, .i1⟩
  | 66 => ⟨S1x1x1, .i32⟩
  | 67 => ⟨S128x40x1, .i32⟩
  | 68 => ⟨S128x40x1, .i1⟩
  | 69 => ⟨S128x40x1, .i1⟩
  | 70 => ⟨S_, .i1⟩
  | 71 => ⟨S128x40, .i1⟩
  | 72 => ⟨S128x40, .i32⟩
  | 73 => ⟨S_, .i32⟩
  | 74 => ⟨S128x40, .i32⟩
  | 75 => ⟨S128x40, .i32⟩
  | 76 => ⟨S128x1, .f32⟩
  | 77 => ⟨S128x3328, .f32⟩
  | 78 => ⟨S128x3328, .i1⟩
  | 79 => ⟨S128x3328, .i32⟩
  | 80 => ⟨S_, .i32⟩
  | 81 => ⟨S128, .i32⟩
  | 82 => ⟨S_, .i32⟩
  | 83 => ⟨S128, .i32⟩
  | 84 => ⟨S128, .i1⟩
  | 85 => ⟨S_, .i1⟩
  | 86 => ⟨S_, .i1⟩
  | 87 => ⟨S_, .i32⟩
  | 88 => ⟨S128x40, .f32⟩
  | 89 => ⟨S128x40, .i32⟩
  | 90 => ⟨S128x100000, .f32⟩
  | 91 => ⟨S128x100000, .f32⟩
  | 92 => ⟨S128x100000, .f32⟩
  | 93 => ⟨S128x100000, .f32⟩
  | 94 => ⟨S128x100000, .f32⟩
  | 95 => ⟨S128x40, .f32⟩
  | 96 => ⟨S128x40, .i32⟩
  | 97 => ⟨S_, .f32⟩
  | 98 => ⟨S128x40, .f32⟩
  | 99 => ⟨S128x40, .f32⟩
  | 100 => ⟨S128x40, .f32⟩
  | 101 => ⟨S_, .f32⟩
  | 102 => ⟨S_, .f32⟩
  | 103 => ⟨S_, .f32⟩
  | 104 => ⟨S1x1, .f32⟩
  | 105 => ⟨S1x1, .f32⟩
  | 106 => ⟨S1, .i32⟩
  | 107 => ⟨S_, .i32⟩
  | 108 => ⟨S1, .i32⟩
  | 109 => ⟨S_, .i32⟩
  | 110 => ⟨S128x40, .i64⟩
  | 111 => ⟨S128x40, .i64⟩
  | 112 => ⟨S_, .i64⟩
  | 113 => ⟨S128x40, .i64⟩
  | 114 => ⟨S128x40, .i64⟩
  | 115 => ⟨S_, .i64⟩
  | 116 => ⟨S128x40, .i64⟩
  | 117 => ⟨S128x40, .i64⟩
  | 118 => ⟨S128x40, .i64⟩
  | 119 => ⟨S_, .i64⟩
  | 120 => ⟨S128x40, .i64⟩
  | 121 => ⟨S128x40, .i64⟩
  | 122 => ⟨S128x40, .i32⟩
  | 123 => ⟨S128x40, .i32⟩
  | 124 => ⟨S_, .i32⟩
  | 125 => ⟨S_, .i32⟩
  | 126 => ⟨S_, .i32⟩
  | 127 => ⟨S128x40, .i32⟩
  | _ => ⟨S128, .i32⟩

abbrev hbmTy0_4 (i : Nat) : BufTy := match i % 128 with
  | 0 => ⟨S128x40, .i32⟩
  | 1 => ⟨S128x40, .i32⟩
  | 2 => ⟨S128x40, .i32⟩
  | 3 => ⟨S128x40, .i32⟩
  | 4 => ⟨S_, .i32⟩
  | 5 => ⟨S128x40, .i32⟩
  | 6 => ⟨S128x40, .i32⟩
  | 7 => ⟨S_, .i32⟩
  | 8 => ⟨S128x40, .i32⟩
  | 9 => ⟨S128x40, .i32⟩
  | 10 => ⟨S128x40, .i32⟩
  | 11 => ⟨S128x40, .i32⟩
  | 12 => ⟨S128x40, .i32⟩
  | 13 => ⟨S_, .i32⟩
  | 14 => ⟨S128x40, .i32⟩
  | 15 => ⟨S128x40, .i32⟩
  | 16 => ⟨S_, .i32⟩
  | 17 => ⟨S128x40, .i32⟩
  | 18 => ⟨S128x40, .i32⟩
  | 19 => ⟨S128x40, .i32⟩
  | 20 => ⟨S128x40, .i32⟩
  | 21 => ⟨S128x40, .i32⟩
  | 22 => ⟨S_, .i32⟩
  | 23 => ⟨S128x40, .i32⟩
  | 24 => ⟨S128x40, .i32⟩
  | 25 => ⟨S_, .i32⟩
  | 26 => ⟨S128x40, .i32⟩
  | 27 => ⟨S128x40, .i32⟩
  | 28 => ⟨S128x40, .i32⟩
  | 29 => ⟨S128x40, .i32⟩
  | 30 => ⟨S128x40, .i32⟩
  | 31 => ⟨S_, .i32⟩
  | 32 => ⟨S128x40, .i32⟩
  | 33 => ⟨S128x40, .i32⟩
  | 34 => ⟨S_, .i32⟩
  | 35 => ⟨S128x40, .i32⟩
  | 36 => ⟨S128x40, .i32⟩
  | 37 => ⟨S128x40, .i32⟩
  | 38 => ⟨S128x40, .i32⟩
  | 39 => ⟨S128x40, .i32⟩
  | 40 => ⟨S128x40, .i32⟩
  | 41 => ⟨S128x40, .i32⟩
  | 42 => ⟨S128x40, .i32⟩
  | 43 => ⟨S_, .i32⟩
  | 44 => ⟨S128x40, .i32⟩
  | 45 => ⟨S128x40, .i32⟩
  | 46 => ⟨S128x40, .i32⟩
  | 47 => ⟨S_, .i32⟩
  | 48 => ⟨S128x40, .i32⟩
  | 49 => ⟨S128x40, .i32⟩
  | 50 => ⟨S_, .i32⟩
  | 51 => ⟨S128x40, .i32⟩
  | 52 => ⟨S128x40, .i32⟩
  | 53 => ⟨S128x40, .i32⟩
  | 54 => ⟨S128x40, .i32⟩
  | 55 => ⟨S128x40, .i32⟩
  | 56 => ⟨S_, .i32⟩
  | 57 => ⟨S128x40, .i32⟩
  | 58 => ⟨S128x40, .i32⟩
  | 59 => ⟨S_, .i32⟩
  | 60 => ⟨S128x40, .i32⟩
  | 61 => ⟨S128x40, .i32⟩
  | 62 => ⟨S128x40, .i32⟩
  | 63 => ⟨S128x40, .i32⟩
  | 64 => ⟨S128x40, .i32⟩
  | 65 => ⟨S_, .i32⟩
  | 66 => ⟨S128x40, .i32⟩
  | 67 => ⟨S128x40, .i32⟩
  | 68 => ⟨S_, .i32⟩
  | 69 => ⟨S128x40, .i32⟩
  | 70 => ⟨S128x40, .i32⟩
  | 71 => ⟨S128x40, .i32⟩
  | 72 => ⟨S128x40, .i32⟩
  | 73 => ⟨S128x40, .i32⟩
  | 74 => ⟨S_, .i32⟩
  | 75 => ⟨S128x40, .i32⟩
  | 76 => ⟨S128x40, .i32⟩
  | 77 => ⟨S_, .i32⟩
  | 78 => ⟨S128x40, .i32⟩
  | 79 => ⟨S128x40, .i32⟩
  | 80 => ⟨S128x40, .i32⟩
  | 81 => ⟨S128x40, .i32⟩
  | 82 => ⟨S128x40, .i32⟩
  | 83 => ⟨S128x40, .i32⟩
  | 84 => ⟨S128x40, .i32⟩
  | 85 => ⟨S128x40, .i32⟩
  | 86 => ⟨S_, .i32⟩
  | 87 => ⟨S128x40, .i32⟩
  | 88 => ⟨S128x40, .i32⟩
  | 89 => ⟨S128x40, .i32⟩
  | 90 => ⟨S_, .i32⟩
  | 91 => ⟨S128x40, .i32⟩
  | 92 => ⟨S128x40, .i32⟩
  | 93 => ⟨S_, .i32⟩
  | 94 => ⟨S128x40, .i32⟩
  | 95 => ⟨S128x40, .i32⟩
  | 96 => ⟨S128x40, .i32⟩
  | 97 => ⟨S128x40, .i32⟩
  | 98 => ⟨S128x40, .i32⟩
  | 99 => ⟨S_, .i32⟩
  | 100 => ⟨S128x40, .i32⟩
  | 101 => ⟨S128x40, .i32⟩
  | 102 => ⟨S_, .i32⟩
  | 103 => ⟨S128x40, .i32⟩
  | 104 => ⟨S128x40, .i32⟩
  | 105 => ⟨S128x40, .i32⟩
  | 106 => ⟨S128x40, .i32⟩
  | 107 => ⟨S128x40, .i32⟩
  | 108 => ⟨S_, .i32⟩
  | 109 => ⟨S128x40, .i32⟩
  | 110 => ⟨S128x40, .i32⟩
  | 111 => ⟨S_, .i32⟩
  | 112 => ⟨S128x40, .i32⟩
  | 113 => ⟨S128x40, .i32⟩
  | 114 => ⟨S128x40, .i32⟩
  | 115 => ⟨S128x40, .i32⟩
  | 116 => ⟨S128x40, .i32⟩
  | 117 => ⟨S_, .i32⟩
  | 118 => ⟨S128x40, .i32⟩
  | 119 => ⟨S128x40, .i32⟩
  | 120 => ⟨S_, .i32⟩
  | 121 => ⟨S128x40, .i32⟩
  | 122 => ⟨S128x40, .i32⟩
  | 123 => ⟨S128x40, .i32⟩
  | 124 => ⟨S128x40, .i32⟩
  | 125 => ⟨S128x40, .i32⟩
  | 126 => ⟨S128x40, .i32⟩
  | 127 => ⟨S128x40, .i32⟩
  | _ => ⟨S128, .i32⟩

abbrev hbmTy0_5 (i : Nat) : BufTy := match i % 128 with
  | 0 => ⟨S128x40, .i32⟩
  | 1 => ⟨S_, .i32⟩
  | 2 => ⟨S128x40, .i32⟩
  | 3 => ⟨S128x40, .i32⟩
  | 4 => ⟨S128x40, .i32⟩
  | 5 => ⟨S_, .i32⟩
  | 6 => ⟨S128x40, .i32⟩
  | 7 => ⟨S128x40, .i32⟩
  | 8 => ⟨S_, .i32⟩
  | 9 => ⟨S128x40, .i32⟩
  | 10 => ⟨S128x40, .i32⟩
  | 11 => ⟨S128x40, .i32⟩
  | 12 => ⟨S128x40, .i32⟩
  | 13 => ⟨S128x40, .i32⟩
  | 14 => ⟨S_, .i32⟩
  | 15 => ⟨S128x40, .i32⟩
  | 16 => ⟨S128x40, .i32⟩
  | 17 => ⟨S_, .i32⟩
  | 18 => ⟨S128x40, .i32⟩
  | 19 => ⟨S128x40, .i32⟩
  | 20 => ⟨S128x40, .i32⟩
  | 21 => ⟨S128x40, .i32⟩
  | 22 => ⟨S128x40, .i32⟩
  | 23 => ⟨S_, .i32⟩
  | 24 => ⟨S128x40, .i32⟩
  | 25 => ⟨S128x40, .i32⟩
  | 26 => ⟨S_, .i32⟩
  | 27 => ⟨S128x40, .i32⟩
  | 28 => ⟨S128x40, .i32⟩
  | 29 => ⟨S128x40, .i32⟩
  | 30 => ⟨S128x40, .i32⟩
  | 31 => ⟨S128x40, .i32⟩
  | 32 => ⟨S_, .i32⟩
  | 33 => ⟨S128x40, .i32⟩
  | 34 => ⟨S128x40, .i32⟩
  | 35 => ⟨S_, .i32⟩
  | 36 => ⟨S128x40, .i32⟩
  | 37 => ⟨S128x40, .i32⟩
  | 38 => ⟨S128x40, .i32⟩
  | 39 => ⟨S128x40, .i32⟩
  | 40 => ⟨S128x40, .i32⟩
  | 41 => ⟨S128x40, .i32⟩
  | 42 => ⟨S128x40, .i32⟩
  | 43 => ⟨S128x40, .i32⟩
  | 44 => ⟨S_, .i32⟩
  | 45 => ⟨S128x40, .i32⟩
  | 46 => ⟨S128x40, .i32⟩
  | 47 => ⟨S128x40, .i32⟩
  | 48 => ⟨S_, .i32⟩
  | 49 => ⟨S128x40, .i32⟩
  | 50 => ⟨S128x40, .i32⟩
  | 51 => ⟨S_, .i32⟩
  | 52 => ⟨S128x40, .i32⟩
  | 53 => ⟨S128x40, .i32⟩
  | 54 => ⟨S128x40, .i32⟩
  | 55 => ⟨S128x40, .i32⟩
  | 56 => ⟨S128x40, .i32⟩
  | 57 => ⟨S_, .i32⟩
  | 58 => ⟨S128x40, .i32⟩
  | 59 => ⟨S128x40, .i32⟩
  | 60 => ⟨S_, .i32⟩
  | 61 => ⟨S128x40, .i32⟩
  | 62 => ⟨S128x40, .i32⟩
  | 63 => ⟨S128x40, .i32⟩
  | 64 => ⟨S128x40, .i32⟩
  | 65 => ⟨S128x40, .i32⟩
  | 66 => ⟨S_, .i32⟩
  | 67 => ⟨S128x40, .i32⟩
  | 68 => ⟨S128x40, .i32⟩
  | 69 => ⟨S_, .i32⟩
  | 70 => ⟨S128x40, .i32⟩
  | 71 => ⟨S128x40, .i32⟩
  | 72 => ⟨S128x40, .i32⟩
  | 73 => ⟨S128x40, .i32⟩
  | 74 => ⟨S128x40, .i32⟩
  | 75 => ⟨S_, .i32⟩
  | 76 => ⟨S128x40, .i32⟩
  | 77 => ⟨S128x40, .i32⟩
  | 78 => ⟨S_, .i32⟩
  | 79 => ⟨S128x40, .i32⟩
  | 80 => ⟨S128x40, .i32⟩
  | 81 => ⟨S128x40, .i32⟩
  | 82 => ⟨S128x40, .i32⟩
  | 83 => ⟨S128x40, .i32⟩
  | 84 => ⟨S128x40, .i32⟩
  | 85 => ⟨S128x40, .i32⟩
  | 86 => ⟨S128x40, .i32⟩
  | 87 => ⟨S_, .i32⟩
  | 88 => ⟨S128x40, .i32⟩
  | 89 => ⟨S128x40, .i32⟩
  | 90 => ⟨S128x40, .i32⟩
  | 91 => ⟨S_, .i32⟩
  | 92 => ⟨S128x40, .i32⟩
  | 93 => ⟨S128x40, .i32⟩
  | 94 => ⟨S_, .i32⟩
  | 95 => ⟨S128x40, .i32⟩
  | 96 => ⟨S128x40, .i32⟩
  | 97 => ⟨S128x40, .f32⟩
  | 98 => ⟨S_, .f32⟩
  | 99 => ⟨S128x40, .f32⟩
  | 100 => ⟨S128x40, .f32⟩
  | 101 => ⟨S1x1, .f32⟩
  | 102 => ⟨S128x40, .f32⟩
  | 103 => ⟨S128x40, .f32⟩
  | 104 => ⟨S128x40, .f32⟩
  | 105 => ⟨S128x40, .f32⟩
  | 106 => ⟨S128x40, .f32⟩
  | 107 => ⟨S128x40, .f32⟩
  | 108 => ⟨S128x40, .f32⟩
  | 109 => ⟨S128x40, .f32⟩
  | 110 => ⟨S128x40, .f32⟩
  | 111 => ⟨S128x40, .f32⟩
  | 112 => ⟨S128x40, .f32⟩
  | 113 => ⟨S128x40, .i32⟩
  | 114 => ⟨S_, .f32⟩
  | 115 => ⟨S_, .i32⟩
  | 116 => ⟨S128, .f32⟩
  | 117 => ⟨S128, .i32⟩
  | 118 => ⟨S128x1, .i32⟩
  | 119 => ⟨S_, .i32⟩
  | 120 => ⟨S128x1, .i32⟩
  | 121 => ⟨S128x1, .i1⟩
  | 122 => ⟨S_, .i32⟩
  | 123 => ⟨S128x1, .i32⟩
  | 124 => ⟨S128x1, .i32⟩
  | 125 => ⟨S128x1, .i32⟩
  | 126 => ⟨S128x1x1, .i32⟩
  | 127 => ⟨S1, .i32⟩
  | _ => ⟨S128, .i32⟩

abbrev hbmTy0_6 (i : Nat) : BufTy := match i % 128 with
  | 0 => ⟨S_, .i32⟩
  | 1 => ⟨S128x1x1, .i32⟩
  | 2 => ⟨S128x1x1, .i1⟩
  | 3 => ⟨S1x1x1, .i32⟩
  | 4 => ⟨S128x1x1, .i32⟩
  | 5 => ⟨S128x1x1, .i1⟩
  | 6 => ⟨S128x1x1, .i1⟩
  | 7 => ⟨S_, .i1⟩
  | 8 => ⟨S128x1, .i1⟩
  | 9 => ⟨S128x1, .f32⟩
  | 10 => ⟨S_, .f32⟩
  | 11 => ⟨S128x1, .f32⟩
  | 12 => ⟨S128x1, .f32⟩
  | 13 => ⟨S128, .f32⟩
  | 14 => ⟨S128x1, .i32⟩
  | 15 => ⟨S_, .i32⟩
  | 16 => ⟨S128x1, .i32⟩
  | 17 => ⟨S128x1, .i1⟩
  | 18 => ⟨S_, .i32⟩
  | 19 => ⟨S128x1, .i32⟩
  | 20 => ⟨S128x1, .i32⟩
  | 21 => ⟨S128x1, .i32⟩
  | 22 => ⟨S128x1x1, .i32⟩
  | 23 => ⟨S1, .i32⟩
  | 24 => ⟨S_, .i32⟩
  | 25 => ⟨S128x1x1, .i32⟩
  | 26 => ⟨S128x1x1, .i1⟩
  | 27 => ⟨S1x1x1, .i32⟩
  | 28 => ⟨S128x1x1, .i32⟩
  | 29 => ⟨S128x1x1, .i1⟩
  | 30 => ⟨S128x1x1, .i1⟩
  | 31 => ⟨S_, .i1⟩
  | 32 => ⟨S128x1, .i1⟩
  | 33 => ⟨S128x1, .i32⟩
  | 34 => ⟨S_, .i32⟩
  | 35 => ⟨S128x1, .i32⟩
  | 36 => ⟨S128x1, .i32⟩
  | 37 => ⟨S128, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S1, .i32⟩
  | 45 => ⟨S15x128, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S1, .i32⟩
  | 53 => ⟨S15x128, .f32⟩
  | 54 => ⟨S_, .i32⟩
  | 55 => ⟨S128, .i32⟩
  | 56 => ⟨S128, .i1⟩
  | 57 => ⟨S_, .i32⟩
  | 58 => ⟨S128, .i32⟩
  | 59 => ⟨S128, .i1⟩
  | 60 => ⟨S_, .i32⟩
  | 61 => ⟨S_, .i1⟩
  | 62 => ⟨S128, .i1⟩
  | 63 => ⟨S_, .i32⟩
  | 64 => ⟨S_, .i32⟩
  | 65 => ⟨S_, .i32⟩
  | 66 => ⟨S128, .i32⟩
  | 67 => ⟨S128, .i32⟩
  | 68 => ⟨S_, .i32⟩
  | 69 => ⟨S_, .i32⟩
  | 70 => ⟨S128, .i32⟩
  | 71 => ⟨S128, .i32⟩
  | 72 => ⟨S128, .i32⟩
  | 73 => ⟨S_, .i32⟩
  | 74 => ⟨S_, .i32⟩
  | _ => ⟨S128, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S128, .i32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8x128, .f32⟩
  | .local _ .vmem, ⟨3, _⟩ => ⟨S8x128, .f32⟩
  | .local _ .vmem, ⟨4, _⟩ => ⟨S256x128, .f32⟩
  | .local _ .vmem, ⟨5, _⟩ => ⟨S256x128, .f32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_c_5 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_cst : Ref sig .tc := ⟨.hbm, 53, rfl⟩
abbrev main_v30 : Ref sig .tc := ⟨.hbm, 54, rfl⟩
abbrev main_c_9 : Ref sig .tc := ⟨.hbm, 55, rfl⟩
abbrev main_c_10 : Ref sig .tc := ⟨.hbm, 56, rfl⟩
abbrev main_v31_0 : Ref sig .tc := ⟨.hbm, 57, rfl⟩
abbrev main_v31_1 : Ref sig .tc := ⟨.hbm, 58, rfl⟩
abbrev main_v31_2 : Ref sig .tc := ⟨.hbm, 59, rfl⟩
abbrev main_v31_3 : Ref sig .tc := ⟨.hbm, 60, rfl⟩
abbrev main_v31_4 : Ref sig .tc := ⟨.hbm, 61, rfl⟩
abbrev main_v31_5 : Ref sig .tc := ⟨.hbm, 62, rfl⟩
abbrev main_v31_6 : Ref sig .tc := ⟨.hbm, 63, rfl⟩
abbrev main_v31_7 : Ref sig .tc := ⟨.hbm, 64, rfl⟩
abbrev main_v31_8 : Ref sig .tc := ⟨.hbm, 65, rfl⟩
abbrev main_v31_9 : Ref sig .tc := ⟨.hbm, 66, rfl⟩
abbrev main_v31_10 : Ref sig .tc := ⟨.hbm, 67, rfl⟩
abbrev main_v31_11 : Ref sig .tc := ⟨.hbm, 68, rfl⟩
abbrev main_v31_12 : Ref sig .tc := ⟨.hbm, 69, rfl⟩
abbrev main_v31_13 : Ref sig .tc := ⟨.hbm, 70, rfl⟩
abbrev main_v31_14 : Ref sig .tc := ⟨.hbm, 71, rfl⟩
abbrev main_while0c_c_25 : Ref sig .tc := ⟨.hbm, 72, rfl⟩
abbrev main_while0c_v32 : Ref sig .tc := ⟨.hbm, 73, rfl⟩
abbrev main_while0b_c_25 : Ref sig .tc := ⟨.hbm, 74, rfl⟩
abbrev main_while0b_v32 : Ref sig .tc := ⟨.hbm, 75, rfl⟩
abbrev main_while0b_c_26 : Ref sig .tc := ⟨.hbm, 76, rfl⟩
abbrev main_while0b_v33 : Ref sig .tc := ⟨.hbm, 77, rfl⟩
abbrev main_while0b_v34 : Ref sig .tc := ⟨.hbm, 78, rfl⟩
abbrev main_while0b_c_27 : Ref sig .tc := ⟨.hbm, 79, rfl⟩
abbrev main_while0b_v35 : Ref sig .tc := ⟨.hbm, 80, rfl⟩
abbrev main_while0b_v36 : Ref sig .tc := ⟨.hbm, 81, rfl⟩
abbrev main_while0b_v37 : Ref sig .tc := ⟨.hbm, 82, rfl⟩
abbrev main_while0b_v38 : Ref sig .tc := ⟨.hbm, 83, rfl⟩
abbrev main_while0b_v39 : Ref sig .tc := ⟨.hbm, 84, rfl⟩
abbrev main_while0b_v40 : Ref sig .tc := ⟨.hbm, 85, rfl⟩
abbrev main_while0b_v41 : Ref sig .tc := ⟨.hbm, 86, rfl⟩
abbrev main_while0b_v42 : Ref sig .tc := ⟨.hbm, 87, rfl⟩
abbrev main_while0b_v43 : Ref sig .tc := ⟨.hbm, 88, rfl⟩
abbrev main_while0b_v44 : Ref sig .tc := ⟨.hbm, 89, rfl⟩
abbrev main_while0b_v45 : Ref sig .tc := ⟨.hbm, 90, rfl⟩
abbrev main_while0b_v46 : Ref sig .tc := ⟨.hbm, 91, rfl⟩
abbrev main_while0b_v47 : Ref sig .tc := ⟨.hbm, 92, rfl⟩
abbrev main_while0b_v48 : Ref sig .tc := ⟨.hbm, 93, rfl⟩
abbrev main_while0b_v49 : Ref sig .tc := ⟨.hbm, 94, rfl⟩
abbrev main_while0b_v50 : Ref sig .tc := ⟨.hbm, 95, rfl⟩
abbrev main_while0b_v51 : Ref sig .tc := ⟨.hbm, 96, rfl⟩
abbrev main_while0b_v52 : Ref sig .tc := ⟨.hbm, 97, rfl⟩
abbrev main_while0b_v53 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_cst_28 : Ref sig .tc := ⟨.hbm, 102, rfl⟩
abbrev main_while0b_v57 : Ref sig .tc := ⟨.hbm, 103, rfl⟩
abbrev main_while0b_v58 : Ref sig .tc := ⟨.hbm, 104, rfl⟩
abbrev main_while0b_cst_29 : Ref sig .tc := ⟨.hbm, 105, rfl⟩
abbrev main_while0b_v59 : Ref sig .tc := ⟨.hbm, 106, rfl⟩
abbrev main_while0b_v60 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_cst_30 : Ref sig .tc := ⟨.hbm, 111, rfl⟩
abbrev main_while0b_v64 : Ref sig .tc := ⟨.hbm, 112, rfl⟩
abbrev main_while0b_v65 : Ref sig .tc := ⟨.hbm, 113, rfl⟩
abbrev main_while0b_cst_31 : Ref sig .tc := ⟨.hbm, 114, rfl⟩
abbrev main_while0b_v66 : Ref sig .tc := ⟨.hbm, 115, rfl⟩
abbrev main_while0b_v67 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_cst_32 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_cst_33 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_v84 : Ref sig .tc := ⟨.hbm, 135, rfl⟩
abbrev main_while0b_cst_34 : Ref sig .tc := ⟨.hbm, 136, rfl⟩
abbrev main_while0b_v85 : Ref sig .tc := ⟨.hbm, 137, rfl⟩
abbrev main_while0b_v86 : Ref sig .tc := ⟨.hbm, 138, rfl⟩
abbrev main_while0b_v87 : Ref sig .tc := ⟨.hbm, 139, rfl⟩
abbrev main_while0b_v88 : Ref sig .tc := ⟨.hbm, 140, rfl⟩
abbrev main_while0b_call0_c : Ref sig .tc := ⟨.hbm, 141, rfl⟩
abbrev main_while0b_call0_v0 : Ref sig .tc := ⟨.hbm, 142, rfl⟩
abbrev main_while0b_call0_v1 : Ref sig .tc := ⟨.hbm, 143, rfl⟩
abbrev main_while0b_call0_c_0 : Ref sig .tc := ⟨.hbm, 144, rfl⟩
abbrev main_while0b_call0_v2 : Ref sig .tc := ⟨.hbm, 145, rfl⟩
abbrev main_while0b_call0_v3 : Ref sig .tc := ⟨.hbm, 146, rfl⟩
abbrev main_while0b_call0_v4 : Ref sig .tc := ⟨.hbm, 147, rfl⟩
abbrev main_while0b_call0_v5 : Ref sig .tc := ⟨.hbm, 148, rfl⟩
abbrev main_while0b_call0_v6 : Ref sig .tc := ⟨.hbm, 149, rfl⟩
abbrev main_while0b_call0_v7 : Ref sig .tc := ⟨.hbm, 150, rfl⟩
abbrev main_while0b_call0_v8 : Ref sig .tc := ⟨.hbm, 151, rfl⟩
abbrev main_while0b_call0_v9 : Ref sig .tc := ⟨.hbm, 152, rfl⟩
abbrev main_while0b_call0_v10 : Ref sig .tc := ⟨.hbm, 153, rfl⟩
abbrev main_while0b_call0_call0_v0 : Ref sig .tc := ⟨.hbm, 154, rfl⟩
abbrev main_while0b_call0_call0_c : Ref sig .tc := ⟨.hbm, 155, rfl⟩
abbrev main_while0b_call0_call0_v1 : Ref sig .tc := ⟨.hbm, 156, rfl⟩
abbrev main_while0b_call0_call0_v2 : Ref sig .tc := ⟨.hbm, 157, rfl⟩
abbrev main_while0b_call0_call0_v3 : Ref sig .tc := ⟨.hbm, 158, rfl⟩
abbrev main_while0b_call0_call0_v4 : Ref sig .tc := ⟨.hbm, 159, rfl⟩
abbrev main_while0b_call0_call0_v5 : Ref sig .tc := ⟨.hbm, 160, rfl⟩
abbrev main_while0b_call0_call0_v6 : Ref sig .tc := ⟨.hbm, 161, rfl⟩
abbrev main_while0b_call0_call0_c_0 : Ref sig .tc := ⟨.hbm, 162, rfl⟩
abbrev main_while0b_call0_call0_v7 : Ref sig .tc := ⟨.hbm, 163, rfl⟩
abbrev main_while0b_call0_call0_v8 : Ref sig .tc := ⟨.hbm, 164, rfl⟩
abbrev main_while0b_call0_call0_c_1 : Ref sig .tc := ⟨.hbm, 165, rfl⟩
abbrev main_while0b_call0_call0_v9 : Ref sig .tc := ⟨.hbm, 166, rfl⟩
abbrev main_while0b_call0_call0_v10 : Ref sig .tc := ⟨.hbm, 167, rfl⟩
abbrev main_while0b_call0_call0_v11 : Ref sig .tc := ⟨.hbm, 168, rfl⟩
abbrev main_while0b_call0_call0_v12 : Ref sig .tc := ⟨.hbm, 169, rfl⟩
abbrev main_while0b_call0_call0_v13 : Ref sig .tc := ⟨.hbm, 170, rfl⟩
abbrev main_while0b_call0_call0_c_2 : Ref sig .tc := ⟨.hbm, 171, rfl⟩
abbrev main_while0b_call0_call0_v14 : Ref sig .tc := ⟨.hbm, 172, rfl⟩
abbrev main_while0b_call0_call0_v15 : Ref sig .tc := ⟨.hbm, 173, rfl⟩
abbrev main_while0b_call0_call0_c_3 : Ref sig .tc := ⟨.hbm, 174, rfl⟩
abbrev main_while0b_call0_call0_v16 : Ref sig .tc := ⟨.hbm, 175, rfl⟩
abbrev main_while0b_call0_call0_v17 : Ref sig .tc := ⟨.hbm, 176, rfl⟩
abbrev main_while0b_call0_call0_v18 : Ref sig .tc := ⟨.hbm, 177, rfl⟩
abbrev main_while0b_call0_call0_v19 : Ref sig .tc := ⟨.hbm, 178, rfl⟩
abbrev main_while0b_call0_call0_v20 : Ref sig .tc := ⟨.hbm, 179, rfl⟩
abbrev main_while0b_call0_call0_c_4 : Ref sig .tc := ⟨.hbm, 180, rfl⟩
abbrev main_while0b_call0_call0_v21 : Ref sig .tc := ⟨.hbm, 181, rfl⟩
abbrev main_while0b_call0_call0_v22 : Ref sig .tc := ⟨.hbm, 182, rfl⟩
abbrev main_while0b_call0_call0_c_5 : Ref sig .tc := ⟨.hbm, 183, rfl⟩
abbrev main_while0b_call0_call0_v23 : Ref sig .tc := ⟨.hbm, 184, rfl⟩
abbrev main_while0b_call0_call0_v24 : Ref sig .tc := ⟨.hbm, 185, rfl⟩
abbrev main_while0b_call0_call0_v25 : Ref sig .tc := ⟨.hbm, 186, rfl⟩
abbrev main_while0b_call0_call0_v26 : Ref sig .tc := ⟨.hbm, 187, rfl⟩
abbrev main_while0b_call0_call0_v27 : Ref sig .tc := ⟨.hbm, 188, rfl⟩
abbrev main_while0b_call0_call0_c_6 : Ref sig .tc := ⟨.hbm, 189, rfl⟩
abbrev main_while0b_call0_call0_v28 : Ref sig .tc := ⟨.hbm, 190, rfl⟩
abbrev main_while0b_call0_call0_v29 : Ref sig .tc := ⟨.hbm, 191, rfl⟩
abbrev main_while0b_call0_call0_c_7 : Ref sig .tc := ⟨.hbm, 192, rfl⟩
abbrev main_while0b_call0_call0_v30 : Ref sig .tc := ⟨.hbm, 193, rfl⟩
abbrev main_while0b_call0_call0_v31 : Ref sig .tc := ⟨.hbm, 194, rfl⟩
abbrev main_while0b_call0_call0_v32 : Ref sig .tc := ⟨.hbm, 195, rfl⟩
abbrev main_while0b_call0_call0_v33 : Ref sig .tc := ⟨.hbm, 196, rfl⟩
abbrev main_while0b_call0_call0_v34 : Ref sig .tc := ⟨.hbm, 197, rfl⟩
abbrev main_while0b_call0_call0_v35 : Ref sig .tc := ⟨.hbm, 198, rfl⟩
abbrev main_while0b_call0_call0_v36 : Ref sig .tc := ⟨.hbm, 199, rfl⟩
abbrev main_while0b_call0_call0_v37 : Ref sig .tc := ⟨.hbm, 200, rfl⟩
abbrev main_while0b_call0_call0_c_8 : Ref sig .tc := ⟨.hbm, 201, rfl⟩
abbrev main_while0b_call0_call0_v38 : Ref sig .tc := ⟨.hbm, 202, rfl⟩
abbrev main_while0b_call0_call0_v39 : Ref sig .tc := ⟨.hbm, 203, rfl⟩
abbrev main_while0b_call0_call0_v40 : Ref sig .tc := ⟨.hbm, 204, rfl⟩
abbrev main_while0b_call0_call0_c_9 : Ref sig .tc := ⟨.hbm, 205, rfl⟩
abbrev main_while0b_call0_call0_v41 : Ref sig .tc := ⟨.hbm, 206, rfl⟩
abbrev main_while0b_call0_call0_v42 : Ref sig .tc := ⟨.hbm, 207, rfl⟩
abbrev main_while0b_call0_call0_c_10 : Ref sig .tc := ⟨.hbm, 208, rfl⟩
abbrev main_while0b_call0_call0_v43 : Ref sig .tc := ⟨.hbm, 209, rfl⟩
abbrev main_while0b_call0_call0_v44 : Ref sig .tc := ⟨.hbm, 210, rfl⟩
abbrev main_while0b_call0_call0_v45 : Ref sig .tc := ⟨.hbm, 211, rfl⟩
abbrev main_while0b_call0_call0_v46 : Ref sig .tc := ⟨.hbm, 212, rfl⟩
abbrev main_while0b_call0_call0_v47 : Ref sig .tc := ⟨.hbm, 213, rfl⟩
abbrev main_while0b_call0_call0_c_11 : Ref sig .tc := ⟨.hbm, 214, rfl⟩
abbrev main_while0b_call0_call0_v48 : Ref sig .tc := ⟨.hbm, 215, rfl⟩
abbrev main_while0b_call0_call0_v49 : Ref sig .tc := ⟨.hbm, 216, rfl⟩
abbrev main_while0b_call0_call0_c_12 : Ref sig .tc := ⟨.hbm, 217, rfl⟩
abbrev main_while0b_call0_call0_v50 : Ref sig .tc := ⟨.hbm, 218, rfl⟩
abbrev main_while0b_call0_call0_v51 : Ref sig .tc := ⟨.hbm, 219, rfl⟩
abbrev main_while0b_call0_call0_v52 : Ref sig .tc := ⟨.hbm, 220, rfl⟩
abbrev main_while0b_call0_call0_v53 : Ref sig .tc := ⟨.hbm, 221, rfl⟩
abbrev main_while0b_call0_call0_v54 : Ref sig .tc := ⟨.hbm, 222, rfl⟩
abbrev main_while0b_call0_call0_c_13 : Ref sig .tc := ⟨.hbm, 223, rfl⟩
abbrev main_while0b_call0_call0_v55 : Ref sig .tc := ⟨.hbm, 224, rfl⟩
abbrev main_while0b_call0_call0_v56 : Ref sig .tc := ⟨.hbm, 225, rfl⟩
abbrev main_while0b_call0_call0_c_14 : Ref sig .tc := ⟨.hbm, 226, rfl⟩
abbrev main_while0b_call0_call0_v57 : Ref sig .tc := ⟨.hbm, 227, rfl⟩
abbrev main_while0b_call0_call0_v58 : Ref sig .tc := ⟨.hbm, 228, rfl⟩
abbrev main_while0b_call0_call0_v59 : Ref sig .tc := ⟨.hbm, 229, rfl⟩
abbrev main_while0b_call0_call0_v60 : Ref sig .tc := ⟨.hbm, 230, rfl⟩
abbrev main_while0b_call0_call0_v61 : Ref sig .tc := ⟨.hbm, 231, rfl⟩
abbrev main_while0b_call0_call0_c_15 : Ref sig .tc := ⟨.hbm, 232, rfl⟩
abbrev main_while0b_call0_call0_v62 : Ref sig .tc := ⟨.hbm, 233, rfl⟩
abbrev main_while0b_call0_call0_v63 : Ref sig .tc := ⟨.hbm, 234, rfl⟩
abbrev main_while0b_call0_call0_c_16 : Ref sig .tc := ⟨.hbm, 235, rfl⟩
abbrev main_while0b_call0_call0_v64 : Ref sig .tc := ⟨.hbm, 236, rfl⟩
abbrev main_while0b_call0_call0_v65 : Ref sig .tc := ⟨.hbm, 237, rfl⟩
abbrev main_while0b_call0_call0_v66 : Ref sig .tc := ⟨.hbm, 238, rfl⟩
abbrev main_while0b_call0_call0_v67 : Ref sig .tc := ⟨.hbm, 239, rfl⟩
abbrev main_while0b_call0_call0_v68 : Ref sig .tc := ⟨.hbm, 240, rfl⟩
abbrev main_while0b_call0_call0_v69 : Ref sig .tc := ⟨.hbm, 241, rfl⟩
abbrev main_while0b_call0_call0_v70 : Ref sig .tc := ⟨.hbm, 242, rfl⟩
abbrev main_while0b_call0_call0_v71 : Ref sig .tc := ⟨.hbm, 243, rfl⟩
abbrev main_while0b_call0_call0_c_17 : Ref sig .tc := ⟨.hbm, 244, rfl⟩
abbrev main_while0b_call0_call0_v72 : Ref sig .tc := ⟨.hbm, 245, rfl⟩
abbrev main_while0b_call0_call0_v73 : Ref sig .tc := ⟨.hbm, 246, rfl⟩
abbrev main_while0b_call0_call0_v74 : Ref sig .tc := ⟨.hbm, 247, rfl⟩
abbrev main_while0b_call0_call0_c_18 : Ref sig .tc := ⟨.hbm, 248, rfl⟩
abbrev main_while0b_call0_call0_v75 : Ref sig .tc := ⟨.hbm, 249, rfl⟩
abbrev main_while0b_call0_call0_v76 : Ref sig .tc := ⟨.hbm, 250, rfl⟩
abbrev main_while0b_call0_call0_c_19 : Ref sig .tc := ⟨.hbm, 251, rfl⟩
abbrev main_while0b_call0_call0_v77 : Ref sig .tc := ⟨.hbm, 252, rfl⟩
abbrev main_while0b_call0_call0_v78 : Ref sig .tc := ⟨.hbm, 253, rfl⟩
abbrev main_while0b_call0_call0_v79 : Ref sig .tc := ⟨.hbm, 254, rfl⟩
abbrev main_while0b_call0_call0_v80 : Ref sig .tc := ⟨.hbm, 255, rfl⟩
abbrev main_while0b_call0_call0_v81 : Ref sig .tc := ⟨.hbm, 256, rfl⟩
abbrev main_while0b_call0_call0_c_20 : Ref sig .tc := ⟨.hbm, 257, rfl⟩
abbrev main_while0b_call0_call0_v82 : Ref sig .tc := ⟨.hbm, 258, rfl⟩
abbrev main_while0b_call0_call0_v83 : Ref sig .tc := ⟨.hbm, 259, rfl⟩
abbrev main_while0b_call0_call0_c_21 : Ref sig .tc := ⟨.hbm, 260, rfl⟩
abbrev main_while0b_call0_call0_v84 : Ref sig .tc := ⟨.hbm, 261, rfl⟩
abbrev main_while0b_call0_call0_v85 : Ref sig .tc := ⟨.hbm, 262, rfl⟩
abbrev main_while0b_call0_call0_v86 : Ref sig .tc := ⟨.hbm, 263, rfl⟩
abbrev main_while0b_call0_call0_v87 : Ref sig .tc := ⟨.hbm, 264, rfl⟩
abbrev main_while0b_call0_call0_v88 : Ref sig .tc := ⟨.hbm, 265, rfl⟩
abbrev main_while0b_call0_call0_c_22 : Ref sig .tc := ⟨.hbm, 266, rfl⟩
abbrev main_while0b_call0_call0_v89 : Ref sig .tc := ⟨.hbm, 267, rfl⟩
abbrev main_while0b_call0_call0_v90 : Ref sig .tc := ⟨.hbm, 268, rfl⟩
abbrev main_while0b_call0_call0_c_23 : Ref sig .tc := ⟨.hbm, 269, rfl⟩
abbrev main_while0b_call0_call0_v91 : Ref sig .tc := ⟨.hbm, 270, rfl⟩
abbrev main_while0b_call0_call0_v92 : Ref sig .tc := ⟨.hbm, 271, rfl⟩
abbrev main_while0b_call0_call0_v93 : Ref sig .tc := ⟨.hbm, 272, rfl⟩
abbrev main_while0b_call0_call0_v94 : Ref sig .tc := ⟨.hbm, 273, rfl⟩
abbrev main_while0b_call0_call0_v95 : Ref sig .tc := ⟨.hbm, 274, rfl⟩
abbrev main_while0b_call0_call0_c_24 : Ref sig .tc := ⟨.hbm, 275, rfl⟩
abbrev main_while0b_call0_call0_v96 : Ref sig .tc := ⟨.hbm, 276, rfl⟩
abbrev main_while0b_call0_call0_v97 : Ref sig .tc := ⟨.hbm, 277, rfl⟩
abbrev main_while0b_call0_call0_c_25 : Ref sig .tc := ⟨.hbm, 278, rfl⟩
abbrev main_while0b_call0_call0_v98 : Ref sig .tc := ⟨.hbm, 279, rfl⟩
abbrev main_while0b_call0_call0_v99 : Ref sig .tc := ⟨.hbm, 280, rfl⟩
abbrev main_while0b_call0_call0_v100 : Ref sig .tc := ⟨.hbm, 281, rfl⟩
abbrev main_while0b_call0_call0_v101 : Ref sig .tc := ⟨.hbm, 282, rfl⟩
abbrev main_while0b_call0_call0_v102 : Ref sig .tc := ⟨.hbm, 283, rfl⟩
abbrev main_while0b_call0_call0_v103 : Ref sig .tc := ⟨.hbm, 284, rfl⟩
abbrev main_while0b_call0_call0_v104 : Ref sig .tc := ⟨.hbm, 285, rfl⟩
abbrev main_while0b_call0_call0_v105 : Ref sig .tc := ⟨.hbm, 286, rfl⟩
abbrev main_while0b_call0_call0_c_26 : Ref sig .tc := ⟨.hbm, 287, rfl⟩
abbrev main_while0b_call0_call0_v106 : Ref sig .tc := ⟨.hbm, 288, rfl⟩
abbrev main_while0b_call0_call0_v107 : Ref sig .tc := ⟨.hbm, 289, rfl⟩
abbrev main_while0b_call0_call0_v108 : Ref sig .tc := ⟨.hbm, 290, rfl⟩
abbrev main_while0b_call0_call0_c_27 : Ref sig .tc := ⟨.hbm, 291, rfl⟩
abbrev main_while0b_call0_call0_v109 : Ref sig .tc := ⟨.hbm, 292, rfl⟩
abbrev main_while0b_call0_call0_v110 : Ref sig .tc := ⟨.hbm, 293, rfl⟩
abbrev main_while0b_call0_call0_c_28 : Ref sig .tc := ⟨.hbm, 294, rfl⟩
abbrev main_while0b_call0_call0_v111 : Ref sig .tc := ⟨.hbm, 295, rfl⟩
abbrev main_while0b_call0_call0_v112 : Ref sig .tc := ⟨.hbm, 296, rfl⟩
abbrev main_while0b_call0_call0_v113 : Ref sig .tc := ⟨.hbm, 297, rfl⟩
abbrev main_while0b_call0_call0_v114 : Ref sig .tc := ⟨.hbm, 298, rfl⟩
abbrev main_while0b_call0_call0_v115 : Ref sig .tc := ⟨.hbm, 299, rfl⟩
abbrev main_while0b_call0_call0_c_29 : Ref sig .tc := ⟨.hbm, 300, rfl⟩
abbrev main_while0b_call0_call0_v116 : Ref sig .tc := ⟨.hbm, 301, rfl⟩
abbrev main_while0b_call0_call0_v117 : Ref sig .tc := ⟨.hbm, 302, rfl⟩
abbrev main_while0b_call0_call0_c_30 : Ref sig .tc := ⟨.hbm, 303, rfl⟩
abbrev main_while0b_call0_call0_v118 : Ref sig .tc := ⟨.hbm, 304, rfl⟩
abbrev main_while0b_call0_call0_v119 : Ref sig .tc := ⟨.hbm, 305, rfl⟩
abbrev main_while0b_call0_call0_v120 : Ref sig .tc := ⟨.hbm, 306, rfl⟩
abbrev main_while0b_call0_call0_v121 : Ref sig .tc := ⟨.hbm, 307, rfl⟩
abbrev main_while0b_call0_call0_v122 : Ref sig .tc := ⟨.hbm, 308, rfl⟩
abbrev main_while0b_call0_call0_c_31 : Ref sig .tc := ⟨.hbm, 309, rfl⟩
abbrev main_while0b_call0_call0_v123 : Ref sig .tc := ⟨.hbm, 310, rfl⟩
abbrev main_while0b_call0_call0_v124 : Ref sig .tc := ⟨.hbm, 311, rfl⟩
abbrev main_while0b_call0_call0_c_32 : Ref sig .tc := ⟨.hbm, 312, rfl⟩
abbrev main_while0b_call0_call0_v125 : Ref sig .tc := ⟨.hbm, 313, rfl⟩
abbrev main_while0b_call0_call0_v126 : Ref sig .tc := ⟨.hbm, 314, rfl⟩
abbrev main_while0b_call0_call0_v127 : Ref sig .tc := ⟨.hbm, 315, rfl⟩
abbrev main_while0b_call0_call0_v128 : Ref sig .tc := ⟨.hbm, 316, rfl⟩
abbrev main_while0b_call0_call0_v129 : Ref sig .tc := ⟨.hbm, 317, rfl⟩
abbrev main_while0b_call0_call0_c_33 : Ref sig .tc := ⟨.hbm, 318, rfl⟩
abbrev main_while0b_call0_call0_v130 : Ref sig .tc := ⟨.hbm, 319, rfl⟩
abbrev main_while0b_call0_call0_v131 : Ref sig .tc := ⟨.hbm, 320, rfl⟩
abbrev main_while0b_call0_call0_c_34 : Ref sig .tc := ⟨.hbm, 321, rfl⟩
abbrev main_while0b_call0_call0_v132 : Ref sig .tc := ⟨.hbm, 322, rfl⟩
abbrev main_while0b_call0_call0_v133 : Ref sig .tc := ⟨.hbm, 323, rfl⟩
abbrev main_while0b_call0_call0_v134 : Ref sig .tc := ⟨.hbm, 324, rfl⟩
abbrev main_while0b_call0_call0_v135 : Ref sig .tc := ⟨.hbm, 325, rfl⟩
abbrev main_while0b_call0_call0_v136 : Ref sig .tc := ⟨.hbm, 326, rfl⟩
abbrev main_while0b_call0_call0_v137 : Ref sig .tc := ⟨.hbm, 327, rfl⟩
abbrev main_while0b_call0_call0_v138 : Ref sig .tc := ⟨.hbm, 328, rfl⟩
abbrev main_while0b_call0_call0_v139 : Ref sig .tc := ⟨.hbm, 329, rfl⟩
abbrev main_while0b_call0_call0_c_35 : Ref sig .tc := ⟨.hbm, 330, rfl⟩
abbrev main_while0b_call0_call0_v140 : Ref sig .tc := ⟨.hbm, 331, rfl⟩
abbrev main_while0b_call0_call0_v141 : Ref sig .tc := ⟨.hbm, 332, rfl⟩
abbrev main_while0b_call0_call0_v142 : Ref sig .tc := ⟨.hbm, 333, rfl⟩
abbrev main_while0b_call0_call0_c_36 : Ref sig .tc := ⟨.hbm, 334, rfl⟩
abbrev main_while0b_call0_call0_v143 : Ref sig .tc := ⟨.hbm, 335, rfl⟩
abbrev main_while0b_call0_call0_v144 : Ref sig .tc := ⟨.hbm, 336, rfl⟩
abbrev main_while0b_call0_call0_c_37 : Ref sig .tc := ⟨.hbm, 337, rfl⟩
abbrev main_while0b_call0_call0_v145 : Ref sig .tc := ⟨.hbm, 338, rfl⟩
abbrev main_while0b_call0_call0_v146 : Ref sig .tc := ⟨.hbm, 339, rfl⟩
abbrev main_while0b_call0_call0_v147 : Ref sig .tc := ⟨.hbm, 340, rfl⟩
abbrev main_while0b_call0_call0_v148 : Ref sig .tc := ⟨.hbm, 341, rfl⟩
abbrev main_while0b_call0_call0_v149 : Ref sig .tc := ⟨.hbm, 342, rfl⟩
abbrev main_while0b_call0_call0_c_38 : Ref sig .tc := ⟨.hbm, 343, rfl⟩
abbrev main_while0b_call0_call0_v150 : Ref sig .tc := ⟨.hbm, 344, rfl⟩
abbrev main_while0b_call0_call0_v151 : Ref sig .tc := ⟨.hbm, 345, rfl⟩
abbrev main_while0b_call0_call0_c_39 : Ref sig .tc := ⟨.hbm, 346, rfl⟩
abbrev main_while0b_call0_call0_v152 : Ref sig .tc := ⟨.hbm, 347, rfl⟩
abbrev main_while0b_call0_call0_v153 : Ref sig .tc := ⟨.hbm, 348, rfl⟩
abbrev main_while0b_call0_call0_v154 : Ref sig .tc := ⟨.hbm, 349, rfl⟩
abbrev main_while0b_call0_call0_v155 : Ref sig .tc := ⟨.hbm, 350, rfl⟩
abbrev main_while0b_call0_call0_v156 : Ref sig .tc := ⟨.hbm, 351, rfl⟩
abbrev main_while0b_call0_call0_c_40 : Ref sig .tc := ⟨.hbm, 352, rfl⟩
abbrev main_while0b_call0_call0_v157 : Ref sig .tc := ⟨.hbm, 353, rfl⟩
abbrev main_while0b_call0_call0_v158 : Ref sig .tc := ⟨.hbm, 354, rfl⟩
abbrev main_while0b_call0_call0_c_41 : Ref sig .tc := ⟨.hbm, 355, rfl⟩
abbrev main_while0b_call0_call0_v159 : Ref sig .tc := ⟨.hbm, 356, rfl⟩
abbrev main_while0b_call0_call0_v160 : Ref sig .tc := ⟨.hbm, 357, rfl⟩
abbrev main_while0b_call0_call0_v161 : Ref sig .tc := ⟨.hbm, 358, rfl⟩
abbrev main_while0b_call0_call0_v162 : Ref sig .tc := ⟨.hbm, 359, rfl⟩
abbrev main_while0b_call0_call0_v163 : Ref sig .tc := ⟨.hbm, 360, rfl⟩
abbrev main_while0b_call0_call0_c_42 : Ref sig .tc := ⟨.hbm, 361, rfl⟩
abbrev main_while0b_call0_call0_v164 : Ref sig .tc := ⟨.hbm, 362, rfl⟩
abbrev main_while0b_call0_call0_v165 : Ref sig .tc := ⟨.hbm, 363, rfl⟩
abbrev main_while0b_call0_call0_c_43 : Ref sig .tc := ⟨.hbm, 364, rfl⟩
abbrev main_while0b_call0_call0_v166 : Ref sig .tc := ⟨.hbm, 365, rfl⟩
abbrev main_while0b_call0_call0_v167 : Ref sig .tc := ⟨.hbm, 366, rfl⟩
abbrev main_while0b_call0_call0_v168 : Ref sig .tc := ⟨.hbm, 367, rfl⟩
abbrev main_while0b_call0_call0_v169 : Ref sig .tc := ⟨.hbm, 368, rfl⟩
abbrev main_while0b_call0_call0_v170 : Ref sig .tc := ⟨.hbm, 369, rfl⟩
abbrev main_while0b_call0_v11_0 : Ref sig .tc := ⟨.hbm, 370, rfl⟩
abbrev main_while0b_call0_call0_v172 : Ref sig .tc := ⟨.hbm, 371, rfl⟩
abbrev main_while0b_call0_call0_v173 : Ref sig .tc := ⟨.hbm, 372, rfl⟩
abbrev main_while0b_call0_call0_c_44 : Ref sig .tc := ⟨.hbm, 373, rfl⟩
abbrev main_while0b_call0_call0_v174 : Ref sig .tc := ⟨.hbm, 374, rfl⟩
abbrev main_while0b_call0_v11_1 : Ref sig .tc := ⟨.hbm, 375, rfl⟩
abbrev main_while0b_v89 : Ref sig .tc := ⟨.hbm, 376, rfl⟩
abbrev main_while0b_v90 : Ref sig .tc := ⟨.hbm, 377, rfl⟩
abbrev main_while0b_v91 : Ref sig .tc := ⟨.hbm, 378, rfl⟩
abbrev main_while0b_v92 : Ref sig .tc := ⟨.hbm, 379, rfl⟩
abbrev main_while0b_v93 : Ref sig .tc := ⟨.hbm, 380, rfl⟩
abbrev main_while0b_v94 : Ref sig .tc := ⟨.hbm, 381, rfl⟩
abbrev main_while0b_v95 : Ref sig .tc := ⟨.hbm, 382, rfl⟩
abbrev main_while0b_v96 : Ref sig .tc := ⟨.hbm, 383, rfl⟩
abbrev main_while0b_values : Ref sig .tc := ⟨.hbm, 384, rfl⟩
abbrev main_while0b_indices : Ref sig .tc := ⟨.hbm, 385, rfl⟩
abbrev main_while0b_v97 : Ref sig .tc := ⟨.hbm, 386, rfl⟩
abbrev main_while0b_v98 : Ref sig .tc := ⟨.hbm, 387, rfl⟩
abbrev main_while0b_c_35 : Ref sig .tc := ⟨.hbm, 388, rfl⟩
abbrev main_while0b_v99 : Ref sig .tc := ⟨.hbm, 389, rfl⟩
abbrev main_while0b_v100 : Ref sig .tc := ⟨.hbm, 390, rfl⟩
abbrev main_while0b_v101 : Ref sig .tc := ⟨.hbm, 391, rfl⟩
abbrev main_while0b_v102 : Ref sig .tc := ⟨.hbm, 392, rfl⟩
abbrev main_while0b_v103 : Ref sig .tc := ⟨.hbm, 393, rfl⟩
abbrev main_while0b_v104 : Ref sig .tc := ⟨.hbm, 394, rfl⟩
abbrev main_while0b_v105 : Ref sig .tc := ⟨.hbm, 395, rfl⟩
abbrev main_while0b_v106 : Ref sig .tc := ⟨.hbm, 396, rfl⟩
abbrev main_while0b_c_36 : Ref sig .tc := ⟨.hbm, 397, rfl⟩
abbrev main_while0b_v107 : Ref sig .tc := ⟨.hbm, 398, rfl⟩
abbrev main_while0b_v108 : Ref sig .tc := ⟨.hbm, 399, rfl⟩
abbrev main_while0b_v109 : Ref sig .tc := ⟨.hbm, 400, rfl⟩
abbrev main_while0b_call2_c : Ref sig .tc := ⟨.hbm, 401, rfl⟩
abbrev main_while0b_call2_v0 : Ref sig .tc := ⟨.hbm, 402, rfl⟩
abbrev main_while0b_call2_v1 : Ref sig .tc := ⟨.hbm, 403, rfl⟩
abbrev main_while0b_call2_c_0 : Ref sig .tc := ⟨.hbm, 404, rfl⟩
abbrev main_while0b_call2_v2 : Ref sig .tc := ⟨.hbm, 405, rfl⟩
abbrev main_while0b_call2_v3 : Ref sig .tc := ⟨.hbm, 406, rfl⟩
abbrev main_while0b_call2_v4 : Ref sig .tc := ⟨.hbm, 407, rfl⟩
abbrev main_while0b_call2_v5 : Ref sig .tc := ⟨.hbm, 408, rfl⟩
abbrev main_while0b_call2_c_1 : Ref sig .tc := ⟨.hbm, 409, rfl⟩
abbrev main_while0b_call2_c_2 : Ref sig .tc := ⟨.hbm, 410, rfl⟩
abbrev main_while0b_call2_v6 : Ref sig .tc := ⟨.hbm, 411, rfl⟩
abbrev main_while0b_call2_v7 : Ref sig .tc := ⟨.hbm, 412, rfl⟩
abbrev main_while0b_call2_v8 : Ref sig .tc := ⟨.hbm, 413, rfl⟩
abbrev main_while0b_call2_v9 : Ref sig .tc := ⟨.hbm, 414, rfl⟩
abbrev main_while0b_call2_v10 : Ref sig .tc := ⟨.hbm, 415, rfl⟩
abbrev main_while0b_call2_v11 : Ref sig .tc := ⟨.hbm, 416, rfl⟩
abbrev main_while0b_call2_c_3 : Ref sig .tc := ⟨.hbm, 417, rfl⟩
abbrev main_while0b_call2_v12 : Ref sig .tc := ⟨.hbm, 418, rfl⟩
abbrev main_while0b_call2_v13 : Ref sig .tc := ⟨.hbm, 419, rfl⟩
abbrev main_while0b_call2_cst : Ref sig .tc := ⟨.hbm, 420, rfl⟩
abbrev main_while0b_call2_v14 : Ref sig .tc := ⟨.hbm, 421, rfl⟩
abbrev main_while0b_v110 : Ref sig .tc := ⟨.hbm, 422, rfl⟩
abbrev main_while0b_v111 : Ref sig .tc := ⟨.hbm, 423, rfl⟩
abbrev main_while0b_v112 : Ref sig .tc := ⟨.hbm, 424, rfl⟩
abbrev main_while0b_v113 : Ref sig .tc := ⟨.hbm, 425, rfl⟩
abbrev main_while0b_v114 : Ref sig .tc := ⟨.hbm, 426, rfl⟩
abbrev main_while0b_v115 : Ref sig .tc := ⟨.hbm, 427, rfl⟩
abbrev main_while0b_v116 : Ref sig .tc := ⟨.hbm, 428, rfl⟩
abbrev main_while0b_c_37 : Ref sig .tc := ⟨.hbm, 429, rfl⟩
abbrev main_while0b_v117 : Ref sig .tc := ⟨.hbm, 430, rfl⟩
abbrev main_while0b_v118 : Ref sig .tc := ⟨.hbm, 431, rfl⟩
abbrev main_while0b_cst_38 : Ref sig .tc := ⟨.hbm, 432, rfl⟩
abbrev main_while0b_call3_v0 : Ref sig .tc := ⟨.hbm, 433, rfl⟩
abbrev main_while0b_call3_v1 : Ref sig .tc := ⟨.hbm, 434, rfl⟩
abbrev main_while0b_v119 : Ref sig .tc := ⟨.hbm, 435, rfl⟩
abbrev main_while0b_values_39 : Ref sig .tc := ⟨.hbm, 436, rfl⟩
abbrev main_while0b_indices_40 : Ref sig .tc := ⟨.hbm, 437, rfl⟩
abbrev main_while0b_call4_c : Ref sig .tc := ⟨.hbm, 438, rfl⟩
abbrev main_while0b_call4_v0 : Ref sig .tc := ⟨.hbm, 439, rfl⟩
abbrev main_while0b_call4_v1 : Ref sig .tc := ⟨.hbm, 440, rfl⟩
abbrev main_while0b_call4_c_0 : Ref sig .tc := ⟨.hbm, 441, rfl⟩
abbrev main_while0b_call4_v2 : Ref sig .tc := ⟨.hbm, 442, rfl⟩
abbrev main_while0b_call4_v3 : Ref sig .tc := ⟨.hbm, 443, rfl⟩
abbrev main_while0b_call4_v4 : Ref sig .tc := ⟨.hbm, 444, rfl⟩
abbrev main_while0b_call4_v5 : Ref sig .tc := ⟨.hbm, 445, rfl⟩
abbrev main_while0b_call4_c_1 : Ref sig .tc := ⟨.hbm, 446, rfl⟩
abbrev main_while0b_call4_c_2 : Ref sig .tc := ⟨.hbm, 447, rfl⟩
abbrev main_while0b_call4_v6 : Ref sig .tc := ⟨.hbm, 448, rfl⟩
abbrev main_while0b_call4_v7 : Ref sig .tc := ⟨.hbm, 449, rfl⟩
abbrev main_while0b_call4_v8 : Ref sig .tc := ⟨.hbm, 450, rfl⟩
abbrev main_while0b_call4_v9 : Ref sig .tc := ⟨.hbm, 451, rfl⟩
abbrev main_while0b_call4_v10 : Ref sig .tc := ⟨.hbm, 452, rfl⟩
abbrev main_while0b_call4_v11 : Ref sig .tc := ⟨.hbm, 453, rfl⟩
abbrev main_while0b_call4_c_3 : Ref sig .tc := ⟨.hbm, 454, rfl⟩
abbrev main_while0b_call4_v12 : Ref sig .tc := ⟨.hbm, 455, rfl⟩
abbrev main_while0b_call4_v13 : Ref sig .tc := ⟨.hbm, 456, rfl⟩
abbrev main_while0b_call4_c_4 : Ref sig .tc := ⟨.hbm, 457, rfl⟩
abbrev main_while0b_call4_v14 : Ref sig .tc := ⟨.hbm, 458, rfl⟩
abbrev main_while0b_v120 : Ref sig .tc := ⟨.hbm, 459, rfl⟩
abbrev main_while0b_v121 : Ref sig .tc := ⟨.hbm, 460, rfl⟩
abbrev main_while0b_v122 : Ref sig .tc := ⟨.hbm, 461, rfl⟩
abbrev main_while0b_v123 : Ref sig .tc := ⟨.hbm, 462, rfl⟩
abbrev main_while0b_v124 : Ref sig .tc := ⟨.hbm, 463, rfl⟩
abbrev main_while0b_c_41 : Ref sig .tc := ⟨.hbm, 464, rfl⟩
abbrev main_while0b_v125 : Ref sig .tc := ⟨.hbm, 465, rfl⟩
abbrev main_while0b_c_42 : Ref sig .tc := ⟨.hbm, 466, rfl⟩
abbrev main_while0b_v126 : Ref sig .tc := ⟨.hbm, 467, rfl⟩
abbrev main_while0b_v127 : Ref sig .tc := ⟨.hbm, 468, rfl⟩
abbrev main_while0b_c_43 : Ref sig .tc := ⟨.hbm, 469, rfl⟩
abbrev main_while0b_v128 : Ref sig .tc := ⟨.hbm, 470, rfl⟩
abbrev main_while0b_v129 : Ref sig .tc := ⟨.hbm, 471, rfl⟩
abbrev main_while0b_v130_0 : Ref sig .tc := ⟨.hbm, 472, rfl⟩
abbrev main_while0b_v130_1 : Ref sig .tc := ⟨.hbm, 473, rfl⟩
abbrev main_while0b_case0b0_v166 : Ref sig .tc := ⟨.hbm, 474, rfl⟩
abbrev main_while0b_case0b0_v167 : Ref sig .tc := ⟨.hbm, 475, rfl⟩
abbrev main_while0b_case0b0_v168 : Ref sig .tc := ⟨.hbm, 476, rfl⟩
abbrev main_while0b_case0b0_v169 : Ref sig .tc := ⟨.hbm, 477, rfl⟩
abbrev main_while0b_case0b0_v170 : Ref sig .tc := ⟨.hbm, 478, rfl⟩
abbrev main_while0b_case0b0_values_55 : Ref sig .tc := ⟨.hbm, 479, rfl⟩
abbrev main_while0b_case0b0_indices_56 : Ref sig .tc := ⟨.hbm, 480, rfl⟩
abbrev main_while0b_cst_44 : Ref sig .tc := ⟨.hbm, 481, rfl⟩
abbrev main_while0b_v131 : Ref sig .tc := ⟨.hbm, 482, rfl⟩
abbrev main_while0b_v132 : Ref sig .tc := ⟨.hbm, 483, rfl⟩
abbrev main_while0b_v133 : Ref sig .tc := ⟨.hbm, 484, rfl⟩
abbrev main_while0b_call5_cst : Ref sig .tc := ⟨.hbm, 485, rfl⟩
abbrev main_while0b_call5_cst_0 : Ref sig .tc := ⟨.hbm, 486, rfl⟩
abbrev main_while0b_call5_call0_v0 : Ref sig .tc := ⟨.hbm, 487, rfl⟩
abbrev main_while0b_call5_call0_v1 : Ref sig .tc := ⟨.hbm, 488, rfl⟩
abbrev main_while0b_call5_call0_v2 : Ref sig .tc := ⟨.hbm, 489, rfl⟩
abbrev main_while0b_call5_call0_v3 : Ref sig .tc := ⟨.hbm, 490, rfl⟩
abbrev main_while0b_call5_call0_v4 : Ref sig .tc := ⟨.hbm, 491, rfl⟩
abbrev main_while0b_call5_call0_v5 : Ref sig .tc := ⟨.hbm, 492, rfl⟩
abbrev main_while0b_call5_call0_v6 : Ref sig .tc := ⟨.hbm, 493, rfl⟩
abbrev main_while0b_call5_call0_v7 : Ref sig .tc := ⟨.hbm, 494, rfl⟩
abbrev main_while0b_call5_call0_v8 : Ref sig .tc := ⟨.hbm, 495, rfl⟩
abbrev main_while0b_call5_call0_c : Ref sig .tc := ⟨.hbm, 496, rfl⟩
abbrev main_while0b_call5_call0_v9 : Ref sig .tc := ⟨.hbm, 497, rfl⟩
abbrev main_while0b_call5_call0_v10 : Ref sig .tc := ⟨.hbm, 498, rfl⟩
abbrev main_while0b_call5_call0_c_0 : Ref sig .tc := ⟨.hbm, 499, rfl⟩
abbrev main_while0b_call5_call0_v11 : Ref sig .tc := ⟨.hbm, 500, rfl⟩
abbrev main_while0b_call5_call0_v12 : Ref sig .tc := ⟨.hbm, 501, rfl⟩
abbrev main_while0b_call5_call0_v13 : Ref sig .tc := ⟨.hbm, 502, rfl⟩
abbrev main_while0b_call5_call0_c_1 : Ref sig .tc := ⟨.hbm, 503, rfl⟩
abbrev main_while0b_call5_call0_v14 : Ref sig .tc := ⟨.hbm, 504, rfl⟩
abbrev main_while0b_call5_call0_v15 : Ref sig .tc := ⟨.hbm, 505, rfl⟩
abbrev main_while0b_call5_call0_v16 : Ref sig .tc := ⟨.hbm, 506, rfl⟩
abbrev main_while0b_call5_call0_v17 : Ref sig .tc := ⟨.hbm, 507, rfl⟩
abbrev main_while0b_call5_call0_call0_v0 : Ref sig .tc := ⟨.hbm, 508, rfl⟩
abbrev main_while0b_call5_call0_call0_c : Ref sig .tc := ⟨.hbm, 509, rfl⟩
abbrev main_while0b_call5_call0_call0_v1 : Ref sig .tc := ⟨.hbm, 510, rfl⟩
abbrev main_while0b_call5_call0_call0_v2 : Ref sig .tc := ⟨.hbm, 511, rfl⟩
abbrev main_while0b_call5_call0_call0_v3 : Ref sig .tc := ⟨.hbm, 512, rfl⟩
abbrev main_while0b_call5_call0_call0_v4 : Ref sig .tc := ⟨.hbm, 513, rfl⟩
abbrev main_while0b_call5_call0_call0_v5 : Ref sig .tc := ⟨.hbm, 514, rfl⟩
abbrev main_while0b_call5_call0_call0_v6 : Ref sig .tc := ⟨.hbm, 515, rfl⟩
abbrev main_while0b_call5_call0_call0_c_0 : Ref sig .tc := ⟨.hbm, 516, rfl⟩
abbrev main_while0b_call5_call0_call0_v7 : Ref sig .tc := ⟨.hbm, 517, rfl⟩
abbrev main_while0b_call5_call0_call0_v8 : Ref sig .tc := ⟨.hbm, 518, rfl⟩
abbrev main_while0b_call5_call0_call0_c_1 : Ref sig .tc := ⟨.hbm, 519, rfl⟩
abbrev main_while0b_call5_call0_call0_v9 : Ref sig .tc := ⟨.hbm, 520, rfl⟩
abbrev main_while0b_call5_call0_call0_v10 : Ref sig .tc := ⟨.hbm, 521, rfl⟩
abbrev main_while0b_call5_call0_call0_v11 : Ref sig .tc := ⟨.hbm, 522, rfl⟩
abbrev main_while0b_call5_call0_call0_v12 : Ref sig .tc := ⟨.hbm, 523, rfl⟩
abbrev main_while0b_call5_call0_call0_v13 : Ref sig .tc := ⟨.hbm, 524, rfl⟩
abbrev main_while0b_call5_call0_call0_c_2 : Ref sig .tc := ⟨.hbm, 525, rfl⟩
abbrev main_while0b_call5_call0_call0_v14 : Ref sig .tc := ⟨.hbm, 526, rfl⟩
abbrev main_while0b_call5_call0_call0_v15 : Ref sig .tc := ⟨.hbm, 527, rfl⟩
abbrev main_while0b_call5_call0_call0_c_3 : Ref sig .tc := ⟨.hbm, 528, rfl⟩
abbrev main_while0b_call5_call0_call0_v16 : Ref sig .tc := ⟨.hbm, 529, rfl⟩
abbrev main_while0b_call5_call0_call0_v17 : Ref sig .tc := ⟨.hbm, 530, rfl⟩
abbrev main_while0b_call5_call0_call0_v18 : Ref sig .tc := ⟨.hbm, 531, rfl⟩
abbrev main_while0b_call5_call0_call0_v19 : Ref sig .tc := ⟨.hbm, 532, rfl⟩
abbrev main_while0b_call5_call0_call0_v20 : Ref sig .tc := ⟨.hbm, 533, rfl⟩
abbrev main_while0b_call5_call0_call0_c_4 : Ref sig .tc := ⟨.hbm, 534, rfl⟩
abbrev main_while0b_call5_call0_call0_v21 : Ref sig .tc := ⟨.hbm, 535, rfl⟩
abbrev main_while0b_call5_call0_call0_v22 : Ref sig .tc := ⟨.hbm, 536, rfl⟩
abbrev main_while0b_call5_call0_call0_c_5 : Ref sig .tc := ⟨.hbm, 537, rfl⟩
abbrev main_while0b_call5_call0_call0_v23 : Ref sig .tc := ⟨.hbm, 538, rfl⟩
abbrev main_while0b_call5_call0_call0_v24 : Ref sig .tc := ⟨.hbm, 539, rfl⟩
abbrev main_while0b_call5_call0_call0_v25 : Ref sig .tc := ⟨.hbm, 540, rfl⟩
abbrev main_while0b_call5_call0_call0_v26 : Ref sig .tc := ⟨.hbm, 541, rfl⟩
abbrev main_while0b_call5_call0_call0_v27 : Ref sig .tc := ⟨.hbm, 542, rfl⟩
abbrev main_while0b_call5_call0_call0_c_6 : Ref sig .tc := ⟨.hbm, 543, rfl⟩
abbrev main_while0b_call5_call0_call0_v28 : Ref sig .tc := ⟨.hbm, 544, rfl⟩
abbrev main_while0b_call5_call0_call0_v29 : Ref sig .tc := ⟨.hbm, 545, rfl⟩
abbrev main_while0b_call5_call0_call0_c_7 : Ref sig .tc := ⟨.hbm, 546, rfl⟩
abbrev main_while0b_call5_call0_call0_v30 : Ref sig .tc := ⟨.hbm, 547, rfl⟩
abbrev main_while0b_call5_call0_call0_v31 : Ref sig .tc := ⟨.hbm, 548, rfl⟩
abbrev main_while0b_call5_call0_call0_v32 : Ref sig .tc := ⟨.hbm, 549, rfl⟩
abbrev main_while0b_call5_call0_call0_v33 : Ref sig .tc := ⟨.hbm, 550, rfl⟩
abbrev main_while0b_call5_call0_call0_v34 : Ref sig .tc := ⟨.hbm, 551, rfl⟩
abbrev main_while0b_call5_call0_call0_v35 : Ref sig .tc := ⟨.hbm, 552, rfl⟩
abbrev main_while0b_call5_call0_call0_v36 : Ref sig .tc := ⟨.hbm, 553, rfl⟩
abbrev main_while0b_call5_call0_call0_v37 : Ref sig .tc := ⟨.hbm, 554, rfl⟩
abbrev main_while0b_call5_call0_call0_c_8 : Ref sig .tc := ⟨.hbm, 555, rfl⟩
abbrev main_while0b_call5_call0_call0_v38 : Ref sig .tc := ⟨.hbm, 556, rfl⟩
abbrev main_while0b_call5_call0_call0_v39 : Ref sig .tc := ⟨.hbm, 557, rfl⟩
abbrev main_while0b_call5_call0_call0_v40 : Ref sig .tc := ⟨.hbm, 558, rfl⟩
abbrev main_while0b_call5_call0_call0_c_9 : Ref sig .tc := ⟨.hbm, 559, rfl⟩
abbrev main_while0b_call5_call0_call0_v41 : Ref sig .tc := ⟨.hbm, 560, rfl⟩
abbrev main_while0b_call5_call0_call0_v42 : Ref sig .tc := ⟨.hbm, 561, rfl⟩
abbrev main_while0b_call5_call0_call0_c_10 : Ref sig .tc := ⟨.hbm, 562, rfl⟩
abbrev main_while0b_call5_call0_call0_v43 : Ref sig .tc := ⟨.hbm, 563, rfl⟩
abbrev main_while0b_call5_call0_call0_v44 : Ref sig .tc := ⟨.hbm, 564, rfl⟩
abbrev main_while0b_call5_call0_call0_v45 : Ref sig .tc := ⟨.hbm, 565, rfl⟩
abbrev main_while0b_call5_call0_call0_v46 : Ref sig .tc := ⟨.hbm, 566, rfl⟩
abbrev main_while0b_call5_call0_call0_v47 : Ref sig .tc := ⟨.hbm, 567, rfl⟩
abbrev main_while0b_call5_call0_call0_c_11 : Ref sig .tc := ⟨.hbm, 568, rfl⟩
abbrev main_while0b_call5_call0_call0_v48 : Ref sig .tc := ⟨.hbm, 569, rfl⟩
abbrev main_while0b_call5_call0_call0_v49 : Ref sig .tc := ⟨.hbm, 570, rfl⟩
abbrev main_while0b_call5_call0_call0_c_12 : Ref sig .tc := ⟨.hbm, 571, rfl⟩
abbrev main_while0b_call5_call0_call0_v50 : Ref sig .tc := ⟨.hbm, 572, rfl⟩
abbrev main_while0b_call5_call0_call0_v51 : Ref sig .tc := ⟨.hbm, 573, rfl⟩
abbrev main_while0b_call5_call0_call0_v52 : Ref sig .tc := ⟨.hbm, 574, rfl⟩
abbrev main_while0b_call5_call0_call0_v53 : Ref sig .tc := ⟨.hbm, 575, rfl⟩
abbrev main_while0b_call5_call0_call0_v54 : Ref sig .tc := ⟨.hbm, 576, rfl⟩
abbrev main_while0b_call5_call0_call0_c_13 : Ref sig .tc := ⟨.hbm, 577, rfl⟩
abbrev main_while0b_call5_call0_call0_v55 : Ref sig .tc := ⟨.hbm, 578, rfl⟩
abbrev main_while0b_call5_call0_call0_v56 : Ref sig .tc := ⟨.hbm, 579, rfl⟩
abbrev main_while0b_call5_call0_call0_c_14 : Ref sig .tc := ⟨.hbm, 580, rfl⟩
abbrev main_while0b_call5_call0_call0_v57 : Ref sig .tc := ⟨.hbm, 581, rfl⟩
abbrev main_while0b_call5_call0_call0_v58 : Ref sig .tc := ⟨.hbm, 582, rfl⟩
abbrev main_while0b_call5_call0_call0_v59 : Ref sig .tc := ⟨.hbm, 583, rfl⟩
abbrev main_while0b_call5_call0_call0_v60 : Ref sig .tc := ⟨.hbm, 584, rfl⟩
abbrev main_while0b_call5_call0_call0_v61 : Ref sig .tc := ⟨.hbm, 585, rfl⟩
abbrev main_while0b_call5_call0_call0_c_15 : Ref sig .tc := ⟨.hbm, 586, rfl⟩
abbrev main_while0b_call5_call0_call0_v62 : Ref sig .tc := ⟨.hbm, 587, rfl⟩
abbrev main_while0b_call5_call0_call0_v63 : Ref sig .tc := ⟨.hbm, 588, rfl⟩
abbrev main_while0b_call5_call0_call0_c_16 : Ref sig .tc := ⟨.hbm, 589, rfl⟩
abbrev main_while0b_call5_call0_call0_v64 : Ref sig .tc := ⟨.hbm, 590, rfl⟩
abbrev main_while0b_call5_call0_call0_v65 : Ref sig .tc := ⟨.hbm, 591, rfl⟩
abbrev main_while0b_call5_call0_call0_v66 : Ref sig .tc := ⟨.hbm, 592, rfl⟩
abbrev main_while0b_call5_call0_call0_v67 : Ref sig .tc := ⟨.hbm, 593, rfl⟩
abbrev main_while0b_call5_call0_call0_v68 : Ref sig .tc := ⟨.hbm, 594, rfl⟩
abbrev main_while0b_call5_call0_call0_v69 : Ref sig .tc := ⟨.hbm, 595, rfl⟩
abbrev main_while0b_call5_call0_call0_v70 : Ref sig .tc := ⟨.hbm, 596, rfl⟩
abbrev main_while0b_call5_call0_call0_v71 : Ref sig .tc := ⟨.hbm, 597, rfl⟩
abbrev main_while0b_call5_call0_call0_c_17 : Ref sig .tc := ⟨.hbm, 598, rfl⟩
abbrev main_while0b_call5_call0_call0_v72 : Ref sig .tc := ⟨.hbm, 599, rfl⟩
abbrev main_while0b_call5_call0_call0_v73 : Ref sig .tc := ⟨.hbm, 600, rfl⟩
abbrev main_while0b_call5_call0_call0_v74 : Ref sig .tc := ⟨.hbm, 601, rfl⟩
abbrev main_while0b_call5_call0_call0_c_18 : Ref sig .tc := ⟨.hbm, 602, rfl⟩
abbrev main_while0b_call5_call0_call0_v75 : Ref sig .tc := ⟨.hbm, 603, rfl⟩
abbrev main_while0b_call5_call0_call0_v76 : Ref sig .tc := ⟨.hbm, 604, rfl⟩
abbrev main_while0b_call5_call0_call0_c_19 : Ref sig .tc := ⟨.hbm, 605, rfl⟩
abbrev main_while0b_call5_call0_call0_v77 : Ref sig .tc := ⟨.hbm, 606, rfl⟩
abbrev main_while0b_call5_call0_call0_v78 : Ref sig .tc := ⟨.hbm, 607, rfl⟩
abbrev main_while0b_call5_call0_call0_v79 : Ref sig .tc := ⟨.hbm, 608, rfl⟩
abbrev main_while0b_call5_call0_call0_v80 : Ref sig .tc := ⟨.hbm, 609, rfl⟩
abbrev main_while0b_call5_call0_call0_v81 : Ref sig .tc := ⟨.hbm, 610, rfl⟩
abbrev main_while0b_call5_call0_call0_c_20 : Ref sig .tc := ⟨.hbm, 611, rfl⟩
abbrev main_while0b_call5_call0_call0_v82 : Ref sig .tc := ⟨.hbm, 612, rfl⟩
abbrev main_while0b_call5_call0_call0_v83 : Ref sig .tc := ⟨.hbm, 613, rfl⟩
abbrev main_while0b_call5_call0_call0_c_21 : Ref sig .tc := ⟨.hbm, 614, rfl⟩
abbrev main_while0b_call5_call0_call0_v84 : Ref sig .tc := ⟨.hbm, 615, rfl⟩
abbrev main_while0b_call5_call0_call0_v85 : Ref sig .tc := ⟨.hbm, 616, rfl⟩
abbrev main_while0b_call5_call0_call0_v86 : Ref sig .tc := ⟨.hbm, 617, rfl⟩
abbrev main_while0b_call5_call0_call0_v87 : Ref sig .tc := ⟨.hbm, 618, rfl⟩
abbrev main_while0b_call5_call0_call0_v88 : Ref sig .tc := ⟨.hbm, 619, rfl⟩
abbrev main_while0b_call5_call0_call0_c_22 : Ref sig .tc := ⟨.hbm, 620, rfl⟩
abbrev main_while0b_call5_call0_call0_v89 : Ref sig .tc := ⟨.hbm, 621, rfl⟩
abbrev main_while0b_call5_call0_call0_v90 : Ref sig .tc := ⟨.hbm, 622, rfl⟩
abbrev main_while0b_call5_call0_call0_c_23 : Ref sig .tc := ⟨.hbm, 623, rfl⟩
abbrev main_while0b_call5_call0_call0_v91 : Ref sig .tc := ⟨.hbm, 624, rfl⟩
abbrev main_while0b_call5_call0_call0_v92 : Ref sig .tc := ⟨.hbm, 625, rfl⟩
abbrev main_while0b_call5_call0_call0_v93 : Ref sig .tc := ⟨.hbm, 626, rfl⟩
abbrev main_while0b_call5_call0_call0_v94 : Ref sig .tc := ⟨.hbm, 627, rfl⟩
abbrev main_while0b_call5_call0_call0_v95 : Ref sig .tc := ⟨.hbm, 628, rfl⟩
abbrev main_while0b_call5_call0_call0_c_24 : Ref sig .tc := ⟨.hbm, 629, rfl⟩
abbrev main_while0b_call5_call0_call0_v96 : Ref sig .tc := ⟨.hbm, 630, rfl⟩
abbrev main_while0b_call5_call0_call0_v97 : Ref sig .tc := ⟨.hbm, 631, rfl⟩
abbrev main_while0b_call5_call0_call0_c_25 : Ref sig .tc := ⟨.hbm, 632, rfl⟩
abbrev main_while0b_call5_call0_call0_v98 : Ref sig .tc := ⟨.hbm, 633, rfl⟩
abbrev main_while0b_call5_call0_call0_v99 : Ref sig .tc := ⟨.hbm, 634, rfl⟩
abbrev main_while0b_call5_call0_call0_v100 : Ref sig .tc := ⟨.hbm, 635, rfl⟩
abbrev main_while0b_call5_call0_call0_v101 : Ref sig .tc := ⟨.hbm, 636, rfl⟩
abbrev main_while0b_call5_call0_call0_v102 : Ref sig .tc := ⟨.hbm, 637, rfl⟩
abbrev main_while0b_call5_call0_call0_v103 : Ref sig .tc := ⟨.hbm, 638, rfl⟩
abbrev main_while0b_call5_call0_call0_v104 : Ref sig .tc := ⟨.hbm, 639, rfl⟩
abbrev main_while0b_call5_call0_call0_v105 : Ref sig .tc := ⟨.hbm, 640, rfl⟩
abbrev main_while0b_call5_call0_call0_c_26 : Ref sig .tc := ⟨.hbm, 641, rfl⟩
abbrev main_while0b_call5_call0_call0_v106 : Ref sig .tc := ⟨.hbm, 642, rfl⟩
abbrev main_while0b_call5_call0_call0_v107 : Ref sig .tc := ⟨.hbm, 643, rfl⟩
abbrev main_while0b_call5_call0_call0_v108 : Ref sig .tc := ⟨.hbm, 644, rfl⟩
abbrev main_while0b_call5_call0_call0_c_27 : Ref sig .tc := ⟨.hbm, 645, rfl⟩
abbrev main_while0b_call5_call0_call0_v109 : Ref sig .tc := ⟨.hbm, 646, rfl⟩
abbrev main_while0b_call5_call0_call0_v110 : Ref sig .tc := ⟨.hbm, 647, rfl⟩
abbrev main_while0b_call5_call0_call0_c_28 : Ref sig .tc := ⟨.hbm, 648, rfl⟩
abbrev main_while0b_call5_call0_call0_v111 : Ref sig .tc := ⟨.hbm, 649, rfl⟩
abbrev main_while0b_call5_call0_call0_v112 : Ref sig .tc := ⟨.hbm, 650, rfl⟩
abbrev main_while0b_call5_call0_call0_v113 : Ref sig .tc := ⟨.hbm, 651, rfl⟩
abbrev main_while0b_call5_call0_call0_v114 : Ref sig .tc := ⟨.hbm, 652, rfl⟩
abbrev main_while0b_call5_call0_call0_v115 : Ref sig .tc := ⟨.hbm, 653, rfl⟩
abbrev main_while0b_call5_call0_call0_c_29 : Ref sig .tc := ⟨.hbm, 654, rfl⟩
abbrev main_while0b_call5_call0_call0_v116 : Ref sig .tc := ⟨.hbm, 655, rfl⟩
abbrev main_while0b_call5_call0_call0_v117 : Ref sig .tc := ⟨.hbm, 656, rfl⟩
abbrev main_while0b_call5_call0_call0_c_30 : Ref sig .tc := ⟨.hbm, 657, rfl⟩
abbrev main_while0b_call5_call0_call0_v118 : Ref sig .tc := ⟨.hbm, 658, rfl⟩
abbrev main_while0b_call5_call0_call0_v119 : Ref sig .tc := ⟨.hbm, 659, rfl⟩
abbrev main_while0b_call5_call0_call0_v120 : Ref sig .tc := ⟨.hbm, 660, rfl⟩
abbrev main_while0b_call5_call0_call0_v121 : Ref sig .tc := ⟨.hbm, 661, rfl⟩
abbrev main_while0b_call5_call0_call0_v122 : Ref sig .tc := ⟨.hbm, 662, rfl⟩
abbrev main_while0b_call5_call0_call0_c_31 : Ref sig .tc := ⟨.hbm, 663, rfl⟩
abbrev main_while0b_call5_call0_call0_v123 : Ref sig .tc := ⟨.hbm, 664, rfl⟩
abbrev main_while0b_call5_call0_call0_v124 : Ref sig .tc := ⟨.hbm, 665, rfl⟩
abbrev main_while0b_call5_call0_call0_c_32 : Ref sig .tc := ⟨.hbm, 666, rfl⟩
abbrev main_while0b_call5_call0_call0_v125 : Ref sig .tc := ⟨.hbm, 667, rfl⟩
abbrev main_while0b_call5_call0_call0_v126 : Ref sig .tc := ⟨.hbm, 668, rfl⟩
abbrev main_while0b_call5_call0_call0_v127 : Ref sig .tc := ⟨.hbm, 669, rfl⟩
abbrev main_while0b_call5_call0_call0_v128 : Ref sig .tc := ⟨.hbm, 670, rfl⟩
abbrev main_while0b_call5_call0_call0_v129 : Ref sig .tc := ⟨.hbm, 671, rfl⟩
abbrev main_while0b_call5_call0_call0_c_33 : Ref sig .tc := ⟨.hbm, 672, rfl⟩
abbrev main_while0b_call5_call0_call0_v130 : Ref sig .tc := ⟨.hbm, 673, rfl⟩
abbrev main_while0b_call5_call0_call0_v131 : Ref sig .tc := ⟨.hbm, 674, rfl⟩
abbrev main_while0b_call5_call0_call0_c_34 : Ref sig .tc := ⟨.hbm, 675, rfl⟩
abbrev main_while0b_call5_call0_call0_v132 : Ref sig .tc := ⟨.hbm, 676, rfl⟩
abbrev main_while0b_call5_call0_call0_v133 : Ref sig .tc := ⟨.hbm, 677, rfl⟩
abbrev main_while0b_call5_call0_call0_v134 : Ref sig .tc := ⟨.hbm, 678, rfl⟩
abbrev main_while0b_call5_call0_call0_v135 : Ref sig .tc := ⟨.hbm, 679, rfl⟩
abbrev main_while0b_call5_call0_call0_v136 : Ref sig .tc := ⟨.hbm, 680, rfl⟩
abbrev main_while0b_call5_call0_call0_v137 : Ref sig .tc := ⟨.hbm, 681, rfl⟩
abbrev main_while0b_call5_call0_call0_v138 : Ref sig .tc := ⟨.hbm, 682, rfl⟩
abbrev main_while0b_call5_call0_call0_v139 : Ref sig .tc := ⟨.hbm, 683, rfl⟩
abbrev main_while0b_call5_call0_call0_c_35 : Ref sig .tc := ⟨.hbm, 684, rfl⟩
abbrev main_while0b_call5_call0_call0_v140 : Ref sig .tc := ⟨.hbm, 685, rfl⟩
abbrev main_while0b_call5_call0_call0_v141 : Ref sig .tc := ⟨.hbm, 686, rfl⟩
abbrev main_while0b_call5_call0_call0_v142 : Ref sig .tc := ⟨.hbm, 687, rfl⟩
abbrev main_while0b_call5_call0_call0_c_36 : Ref sig .tc := ⟨.hbm, 688, rfl⟩
abbrev main_while0b_call5_call0_call0_v143 : Ref sig .tc := ⟨.hbm, 689, rfl⟩
abbrev main_while0b_call5_call0_call0_v144 : Ref sig .tc := ⟨.hbm, 690, rfl⟩
abbrev main_while0b_call5_call0_call0_c_37 : Ref sig .tc := ⟨.hbm, 691, rfl⟩
abbrev main_while0b_call5_call0_call0_v145 : Ref sig .tc := ⟨.hbm, 692, rfl⟩
abbrev main_while0b_call5_call0_call0_v146 : Ref sig .tc := ⟨.hbm, 693, rfl⟩
abbrev main_while0b_call5_call0_call0_v147 : Ref sig .tc := ⟨.hbm, 694, rfl⟩
abbrev main_while0b_call5_call0_call0_v148 : Ref sig .tc := ⟨.hbm, 695, rfl⟩
abbrev main_while0b_call5_call0_call0_v149 : Ref sig .tc := ⟨.hbm, 696, rfl⟩
abbrev main_while0b_call5_call0_call0_c_38 : Ref sig .tc := ⟨.hbm, 697, rfl⟩
abbrev main_while0b_call5_call0_call0_v150 : Ref sig .tc := ⟨.hbm, 698, rfl⟩
abbrev main_while0b_call5_call0_call0_v151 : Ref sig .tc := ⟨.hbm, 699, rfl⟩
abbrev main_while0b_call5_call0_call0_c_39 : Ref sig .tc := ⟨.hbm, 700, rfl⟩
abbrev main_while0b_call5_call0_call0_v152 : Ref sig .tc := ⟨.hbm, 701, rfl⟩
abbrev main_while0b_call5_call0_call0_v153 : Ref sig .tc := ⟨.hbm, 702, rfl⟩
abbrev main_while0b_call5_call0_call0_v154 : Ref sig .tc := ⟨.hbm, 703, rfl⟩
abbrev main_while0b_call5_call0_call0_v155 : Ref sig .tc := ⟨.hbm, 704, rfl⟩
abbrev main_while0b_call5_call0_call0_v156 : Ref sig .tc := ⟨.hbm, 705, rfl⟩
abbrev main_while0b_call5_call0_call0_c_40 : Ref sig .tc := ⟨.hbm, 706, rfl⟩
abbrev main_while0b_call5_call0_call0_v157 : Ref sig .tc := ⟨.hbm, 707, rfl⟩
abbrev main_while0b_call5_call0_call0_v158 : Ref sig .tc := ⟨.hbm, 708, rfl⟩
abbrev main_while0b_call5_call0_call0_c_41 : Ref sig .tc := ⟨.hbm, 709, rfl⟩
abbrev main_while0b_call5_call0_call0_v159 : Ref sig .tc := ⟨.hbm, 710, rfl⟩
abbrev main_while0b_call5_call0_call0_v160 : Ref sig .tc := ⟨.hbm, 711, rfl⟩
abbrev main_while0b_call5_call0_call0_v161 : Ref sig .tc := ⟨.hbm, 712, rfl⟩
abbrev main_while0b_call5_call0_call0_v162 : Ref sig .tc := ⟨.hbm, 713, rfl⟩
abbrev main_while0b_call5_call0_call0_v163 : Ref sig .tc := ⟨.hbm, 714, rfl⟩
abbrev main_while0b_call5_call0_call0_c_42 : Ref sig .tc := ⟨.hbm, 715, rfl⟩
abbrev main_while0b_call5_call0_call0_v164 : Ref sig .tc := ⟨.hbm, 716, rfl⟩
abbrev main_while0b_call5_call0_call0_v165 : Ref sig .tc := ⟨.hbm, 717, rfl⟩
abbrev main_while0b_call5_call0_call0_c_43 : Ref sig .tc := ⟨.hbm, 718, rfl⟩
abbrev main_while0b_call5_call0_call0_v166 : Ref sig .tc := ⟨.hbm, 719, rfl⟩
abbrev main_while0b_call5_call0_call0_v167 : Ref sig .tc := ⟨.hbm, 720, rfl⟩
abbrev main_while0b_call5_call0_call0_v168 : Ref sig .tc := ⟨.hbm, 721, rfl⟩
abbrev main_while0b_call5_call0_call0_v169 : Ref sig .tc := ⟨.hbm, 722, rfl⟩
abbrev main_while0b_call5_call0_call0_v170 : Ref sig .tc := ⟨.hbm, 723, rfl⟩
abbrev main_while0b_call5_call0_v18_0 : Ref sig .tc := ⟨.hbm, 724, rfl⟩
abbrev main_while0b_call5_call0_call0_v172 : Ref sig .tc := ⟨.hbm, 725, rfl⟩
abbrev main_while0b_call5_call0_call0_v173 : Ref sig .tc := ⟨.hbm, 726, rfl⟩
abbrev main_while0b_call5_call0_call0_c_44 : Ref sig .tc := ⟨.hbm, 727, rfl⟩
abbrev main_while0b_call5_call0_call0_v174 : Ref sig .tc := ⟨.hbm, 728, rfl⟩
abbrev main_while0b_call5_call0_v18_1 : Ref sig .tc := ⟨.hbm, 729, rfl⟩
abbrev main_while0b_call5_call0_v19 : Ref sig .tc := ⟨.hbm, 730, rfl⟩
abbrev main_while0b_call5_call0_c_2 : Ref sig .tc := ⟨.hbm, 731, rfl⟩
abbrev main_while0b_call5_call0_v20 : Ref sig .tc := ⟨.hbm, 732, rfl⟩
abbrev main_while0b_call5_call0_v21 : Ref sig .tc := ⟨.hbm, 733, rfl⟩
abbrev main_while0b_call5_call0_c_3 : Ref sig .tc := ⟨.hbm, 734, rfl⟩
abbrev main_while0b_call5_call0_v22 : Ref sig .tc := ⟨.hbm, 735, rfl⟩
abbrev main_while0b_call5_call0_v23 : Ref sig .tc := ⟨.hbm, 736, rfl⟩
abbrev main_while0b_call5_call0_v24 : Ref sig .tc := ⟨.hbm, 737, rfl⟩
abbrev main_while0b_call5_call0_cst : Ref sig .tc := ⟨.hbm, 738, rfl⟩
abbrev main_while0b_call5_call0_v25 : Ref sig .tc := ⟨.hbm, 739, rfl⟩
abbrev main_while0b_call5_call0_v26 : Ref sig .tc := ⟨.hbm, 740, rfl⟩
abbrev main_while0b_call5_call0_v27 : Ref sig .tc := ⟨.hbm, 741, rfl⟩
abbrev main_while0b_call5_call0_v28 : Ref sig .tc := ⟨.hbm, 742, rfl⟩
abbrev main_while0b_call5_call0_v29 : Ref sig .tc := ⟨.hbm, 743, rfl⟩
abbrev main_while0b_call5_call0_v30 : Ref sig .tc := ⟨.hbm, 744, rfl⟩
abbrev main_while0b_call5_call0_v31 : Ref sig .tc := ⟨.hbm, 745, rfl⟩
abbrev main_while0b_call5_call0_v32 : Ref sig .tc := ⟨.hbm, 746, rfl⟩
abbrev main_while0b_call5_v0 : Ref sig .tc := ⟨.hbm, 747, rfl⟩
abbrev main_while0b_call5_v1 : Ref sig .tc := ⟨.hbm, 748, rfl⟩
abbrev main_while0b_call5_v2 : Ref sig .tc := ⟨.hbm, 749, rfl⟩
abbrev main_while0b_call5_v3 : Ref sig .tc := ⟨.hbm, 750, rfl⟩
abbrev main_while0b_v134 : Ref sig .tc := ⟨.hbm, 751, rfl⟩
abbrev main_while0b_v135 : Ref sig .tc := ⟨.hbm, 752, rfl⟩
abbrev main_while0b_call6_v0 : Ref sig .tc := ⟨.hbm, 753, rfl⟩
abbrev main_while0b_call6_cst : Ref sig .tc := ⟨.hbm, 754, rfl⟩
abbrev main_while0b_call6_c : Ref sig .tc := ⟨.hbm, 755, rfl⟩
abbrev main_while0b_call6_v1_0 : Ref sig .tc := ⟨.hbm, 756, rfl⟩
abbrev main_while0b_v136 : Ref sig .tc := ⟨.hbm, 757, rfl⟩
abbrev main_while0b_v137 : Ref sig .tc := ⟨.hbm, 758, rfl⟩
abbrev main_while0b_call7_c : Ref sig .tc := ⟨.hbm, 759, rfl⟩
abbrev main_while0b_call7_v0 : Ref sig .tc := ⟨.hbm, 760, rfl⟩
abbrev main_while0b_call7_v1 : Ref sig .tc := ⟨.hbm, 761, rfl⟩
abbrev main_while0b_call7_c_0 : Ref sig .tc := ⟨.hbm, 762, rfl⟩
abbrev main_while0b_call7_v2 : Ref sig .tc := ⟨.hbm, 763, rfl⟩
abbrev main_while0b_call7_v3 : Ref sig .tc := ⟨.hbm, 764, rfl⟩
abbrev main_while0b_call7_v4 : Ref sig .tc := ⟨.hbm, 765, rfl⟩
abbrev main_while0b_call7_v5 : Ref sig .tc := ⟨.hbm, 766, rfl⟩
abbrev main_while0b_call7_c_1 : Ref sig .tc := ⟨.hbm, 767, rfl⟩
abbrev main_while0b_call7_c_2 : Ref sig .tc := ⟨.hbm, 768, rfl⟩
abbrev main_while0b_call7_v6 : Ref sig .tc := ⟨.hbm, 769, rfl⟩
abbrev main_while0b_call7_v7 : Ref sig .tc := ⟨.hbm, 770, rfl⟩
abbrev main_while0b_call7_v8 : Ref sig .tc := ⟨.hbm, 771, rfl⟩
abbrev main_while0b_call7_v9 : Ref sig .tc := ⟨.hbm, 772, rfl⟩
abbrev main_while0b_call7_v10 : Ref sig .tc := ⟨.hbm, 773, rfl⟩
abbrev main_while0b_call7_v11 : Ref sig .tc := ⟨.hbm, 774, rfl⟩
abbrev main_while0b_call7_c_3 : Ref sig .tc := ⟨.hbm, 775, rfl⟩
abbrev main_while0b_call7_v12 : Ref sig .tc := ⟨.hbm, 776, rfl⟩
abbrev main_while0b_call7_v13 : Ref sig .tc := ⟨.hbm, 777, rfl⟩
abbrev main_while0b_call7_cst : Ref sig .tc := ⟨.hbm, 778, rfl⟩
abbrev main_while0b_call7_v14 : Ref sig .tc := ⟨.hbm, 779, rfl⟩
abbrev main_while0b_v138 : Ref sig .tc := ⟨.hbm, 780, rfl⟩
abbrev main_while0b_v139 : Ref sig .tc := ⟨.hbm, 781, rfl⟩
abbrev main_while0b_v140 : Ref sig .tc := ⟨.hbm, 782, rfl⟩
abbrev main_while0b_call8_c : Ref sig .tc := ⟨.hbm, 783, rfl⟩
abbrev main_while0b_call8_v0 : Ref sig .tc := ⟨.hbm, 784, rfl⟩
abbrev main_while0b_call8_v1 : Ref sig .tc := ⟨.hbm, 785, rfl⟩
abbrev main_while0b_call8_c_0 : Ref sig .tc := ⟨.hbm, 786, rfl⟩
abbrev main_while0b_call8_v2 : Ref sig .tc := ⟨.hbm, 787, rfl⟩
abbrev main_while0b_call8_v3 : Ref sig .tc := ⟨.hbm, 788, rfl⟩
abbrev main_while0b_call8_v4 : Ref sig .tc := ⟨.hbm, 789, rfl⟩
abbrev main_while0b_call8_v5 : Ref sig .tc := ⟨.hbm, 790, rfl⟩
abbrev main_while0b_call8_c_1 : Ref sig .tc := ⟨.hbm, 791, rfl⟩
abbrev main_while0b_call8_c_2 : Ref sig .tc := ⟨.hbm, 792, rfl⟩
abbrev main_while0b_call8_v6 : Ref sig .tc := ⟨.hbm, 793, rfl⟩
abbrev main_while0b_call8_v7 : Ref sig .tc := ⟨.hbm, 794, rfl⟩
abbrev main_while0b_call8_v8 : Ref sig .tc := ⟨.hbm, 795, rfl⟩
abbrev main_while0b_call8_v9 : Ref sig .tc := ⟨.hbm, 796, rfl⟩
abbrev main_while0b_call8_v10 : Ref sig .tc := ⟨.hbm, 797, rfl⟩
abbrev main_while0b_call8_v11 : Ref sig .tc := ⟨.hbm, 798, rfl⟩
abbrev main_while0b_call8_c_3 : Ref sig .tc := ⟨.hbm, 799, rfl⟩
abbrev main_while0b_call8_v12 : Ref sig .tc := ⟨.hbm, 800, rfl⟩
abbrev main_while0b_call8_v13 : Ref sig .tc := ⟨.hbm, 801, rfl⟩
abbrev main_while0b_call8_c_4 : Ref sig .tc := ⟨.hbm, 802, rfl⟩
abbrev main_while0b_call8_v14 : Ref sig .tc := ⟨.hbm, 803, rfl⟩
abbrev main_while0b_v141 : Ref sig .tc := ⟨.hbm, 804, rfl⟩
abbrev main_while0b_v142 : Ref sig .tc := ⟨.hbm, 805, rfl⟩
abbrev main_while0b_c_45 : Ref sig .tc := ⟨.hbm, 806, rfl⟩
abbrev main_while0b_v143 : Ref sig .tc := ⟨.hbm, 807, rfl⟩
abbrev main_while0b_c_46 : Ref sig .tc := ⟨.hbm, 808, rfl⟩
abbrev main_while0b_v144 : Ref sig .tc := ⟨.hbm, 809, rfl⟩
abbrev main_while0b_v145 : Ref sig .tc := ⟨.hbm, 810, rfl⟩
abbrev main_while0b_v146 : Ref sig .tc := ⟨.hbm, 811, rfl⟩
abbrev main_while0b_v147 : Ref sig .tc := ⟨.hbm, 812, rfl⟩
abbrev main_while0b_v148 : Ref sig .tc := ⟨.hbm, 813, rfl⟩
abbrev main_while0b_c_47 : Ref sig .tc := ⟨.hbm, 814, rfl⟩
abbrev main_while0b_v149 : Ref sig .tc := ⟨.hbm, 815, rfl⟩
abbrev main_while0b_c_48 : Ref sig .tc := ⟨.hbm, 816, rfl⟩
abbrev main_while0b_v150 : Ref sig .tc := ⟨.hbm, 817, rfl⟩
abbrev main_while0b_v151 : Ref sig .tc := ⟨.hbm, 818, rfl⟩
abbrev main_while0b_v152 : Ref sig .tc := ⟨.hbm, 819, rfl⟩
abbrev main_while0b_v153 : Ref sig .tc := ⟨.hbm, 820, rfl⟩
abbrev main_while0b_v154 : Ref sig .tc := ⟨.hbm, 821, rfl⟩
abbrev main_while0b_c_49 : Ref sig .tc := ⟨.hbm, 822, rfl⟩
abbrev main_while0b_v155 : Ref sig .tc := ⟨.hbm, 823, rfl⟩
abbrev main_while0b_v156 : Ref sig .tc := ⟨.hbm, 824, rfl⟩
abbrev main_while0b_c_50 : Ref sig .tc := ⟨.hbm, 825, rfl⟩
abbrev main_while0b_v157 : Ref sig .tc := ⟨.hbm, 826, rfl⟩
abbrev main_while0b_v158 : Ref sig .tc := ⟨.hbm, 827, rfl⟩
abbrev main_while0b_c_51 : Ref sig .tc := ⟨.hbm, 828, rfl⟩
abbrev main_while0b_v159 : Ref sig .tc := ⟨.hbm, 829, rfl⟩
abbrev main_while0b_v160 : Ref sig .tc := ⟨.hbm, 830, rfl⟩
abbrev main_while0b_c_52 : Ref sig .tc := ⟨.hbm, 831, rfl⟩
abbrev main_while0b_v161 : Ref sig .tc := ⟨.hbm, 832, rfl⟩
abbrev main_while0b_call9_v0 : Ref sig .tc := ⟨.hbm, 833, rfl⟩
abbrev main_while0b_call9_v1 : Ref sig .tc := ⟨.hbm, 834, rfl⟩
abbrev main_while0b_v162 : Ref sig .tc := ⟨.hbm, 835, rfl⟩
abbrev main_while0b_c_53 : Ref sig .tc := ⟨.hbm, 836, rfl⟩
abbrev main_while0b_call10_v0 : Ref sig .tc := ⟨.hbm, 837, rfl⟩
abbrev main_while0b_call10_v1 : Ref sig .tc := ⟨.hbm, 838, rfl⟩
abbrev main_while0b_v163 : Ref sig .tc := ⟨.hbm, 839, rfl⟩
abbrev main_while0b_v164 : Ref sig .tc := ⟨.hbm, 840, rfl⟩
abbrev main_while0b_c_54 : Ref sig .tc := ⟨.hbm, 841, rfl⟩
abbrev main_while0b_v165 : Ref sig .tc := ⟨.hbm, 842, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev main_while0_count : Scf.Loop 32 := ⟨0#32, 15#32, 1#32⟩

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128 : Shape := ⟨1, ![128]⟩
abbrev S10000x128 : Shape := ⟨2, ![10000, 128]⟩
abbrev S100000x128 : Shape := ⟨2, ![100000, 128]⟩
abbrev S256x128 : Shape := ⟨2, ![256, 128]⟩
abbrev S128x384 : Shape := ⟨2, ![128, 384]⟩
abbrev S384 : Shape := ⟨1, ![384]⟩
abbrev S128x100000 : Shape := ⟨2, ![128, 100000]⟩
abbrev S100000 : Shape := ⟨1, ![100000]⟩
abbrev S_ : Shape := ⟨0, ![]⟩
abbrev S128x1 : Shape := ⟨2, ![128, 1]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S2 : Shape := ⟨1, ![2]⟩
abbrev S15x128 : Shape := ⟨2, ![15, 128]⟩
abbrev S1x384 : Shape := ⟨2, ![1, 384]⟩
abbrev S1x100000 : Shape := ⟨2, ![1, 100000]⟩
abbrev S128x40 : Shape := ⟨2, ![128, 40]⟩
abbrev S1x1 : Shape := ⟨2, ![1, 1]⟩
abbrev S128x1x1 : Shape := ⟨3, ![128, 1, 1]⟩
abbrev S1x1x1 : Shape := ⟨3, ![1, 1, 1]⟩

abbrev nBuf : Space → Nat
  | .hbm => 747
  | .vmem => 0
  | .smem => 0
  | _ => 0

abbrev hbmTy0_0 (i : Nat) : BufTy := match i % 128 with
  | 0 => ⟨S128, .i32⟩
  | 1 => ⟨S128, .i32⟩
  | 2 => ⟨S10000x128, .f32⟩
  | 3 => ⟨S10000x128, .f32⟩
  | 4 => ⟨S100000x128, .f32⟩
  | 5 => ⟨S256x128, .f32⟩
  | 6 => ⟨S128, .f32⟩
  | 7 => ⟨S128x384, .f32⟩
  | 8 => ⟨S128x384, .f32⟩
  | 9 => ⟨S384, .f32⟩
  | 10 => ⟨S384, .f32⟩
  | 11 => ⟨S128x100000, .f32⟩
  | 12 => ⟨S100000, .f32⟩
  | 13 => ⟨S_, .i32⟩
  | 14 => ⟨S128, .i32⟩
  | 15 => ⟨S128, .i1⟩
  | 16 => ⟨S_, .i32⟩
  | 17 => ⟨S128, .i32⟩
  | 18 => ⟨S128, .i32⟩
  | 19 => ⟨S128, .i32⟩
  | 20 => ⟨S128x1, .i32⟩
  | 21 => ⟨S128x128, .f32⟩
  | 22 => ⟨S_, .i32⟩
  | 23 => ⟨S128, .i32⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S128x128, .f32⟩
  | 31 => ⟨S128x256, .f32⟩
  | 32 => ⟨S128x128, .f32⟩
  | 33 => ⟨S1x128, .f32⟩
  | 34 => ⟨S128x128, .f32⟩
  | 35 => ⟨S128x128, .f32⟩
  | 36 => ⟨S128x128, .f32⟩
  | 37 => ⟨S_, .i32⟩
  | 38 => ⟨S128, .i32⟩
  | 39 => ⟨S_, .i32⟩
  | 40 => ⟨S128, .i32⟩
  | 41 => ⟨S_, .i32⟩
  | 42 => ⟨S_, .i32⟩
  | 43 => ⟨S_, .i32⟩
  | 44 => ⟨S_, .i32⟩
  | 45 => ⟨S1, .i32⟩
  | 46 => ⟨S_, .i32⟩
  | 47 => ⟨S_, .i32⟩
  | 48 => ⟨S_, .i32⟩
  | 49 => ⟨S1, .i32⟩
  | 50 => ⟨S2, .i32⟩
  | 51 => ⟨S_, .i32⟩
  | 52 => ⟨S15x128, .i32⟩
  | 53 => ⟨S_, .f32⟩
  | 54 => ⟨S15x128, .f32⟩
  | 55 => ⟨S_, .i32⟩
  | 56 => ⟨S_, .i32⟩
  | 57 => ⟨S100000x128, .f32⟩
  | 58 => ⟨S128x384, .f32⟩
  | 59 => ⟨S384, .f32⟩
  | 60 => ⟨S128x384, .f32⟩
  | 61 => ⟨S384, .f32⟩
  | 62 => ⟨S128x100000, .f32⟩
  | 63 => ⟨S100000, .f32⟩
  | 64 => ⟨S2, .i32⟩
  | 65 => ⟨S_, .i32⟩
  | 66 => ⟨S_, .i32⟩
  | 67 => ⟨S128x128, .f32⟩
  | 68 => ⟨S128, .i32⟩
  | 69 => ⟨S128, .i32⟩
  | 70 => ⟨S15x128, .i32⟩
  | 71 => ⟨S15x128, .f32⟩
  | 72 => ⟨S_, .i32⟩
  | 73 => ⟨S_, .i1⟩
  | 74 => ⟨S_, .i32⟩
  | 75 => ⟨S_, .i32⟩
  | 76 => ⟨S_, .i32⟩
  | 77 => ⟨S128, .i32⟩
  | 78 => ⟨S128, .i1⟩
  | 79 => ⟨S_, .i32⟩
  | 80 => ⟨S128, .i32⟩
  | 81 => ⟨S128, .i32⟩
  | 82 => ⟨S128, .i32⟩
  | 83 => ⟨S128x1, .i32⟩
  | 84 => ⟨S128x128, .f32⟩
  | 85 => ⟨S128x384, .f32⟩
  | 86 => ⟨S1x384, .f32⟩
  | 87 => ⟨S128x384, .f32⟩
  | 88 => ⟨S128x384, .f32⟩
  | 89 => ⟨S128x384, .f32⟩
  | 90 => ⟨S1x384, .f32⟩
  | 91 => ⟨S128x384, .f32⟩
  | 92 => ⟨S128x384, .f32⟩
  | 93 => ⟨S128x128, .f32⟩
  | 94 => ⟨S128x128, .f32⟩
  | 95 => ⟨S128x128, .f32⟩
  | 96 => ⟨S128x128, .f32⟩
  | 97 => ⟨S128x128, .f32⟩
  | 98 => ⟨S128x128, .f32⟩
  | 99 => ⟨S128x128, .f32⟩
  | 100 => ⟨S128x128, .f32⟩
  | 101 => ⟨S128x128, .f32⟩
  | 102 => ⟨S_, .f32⟩
  | 103 => ⟨S128x128, .f32⟩
  | 104 => ⟨S128x128, .f32⟩
  | 105 => ⟨S_, .f32⟩
  | 106 => ⟨S128x128, .f32⟩
  | 107 => ⟨S128x128, .f32⟩
  | 108 => ⟨S128x128, .f32⟩
  | 109 => ⟨S128x128, .f32⟩
  | 110 => ⟨S128x128, .f32⟩
  | 111 => ⟨S_, .f32⟩
  | 112 => ⟨S128x128, .f32⟩
  | 113 => ⟨S128x128, .f32⟩
  | 114 => ⟨S_, .f32⟩
  | 115 => ⟨S128x128, .f32⟩
  | 116 => ⟨S128x128, .f32⟩
  | 117 => ⟨S128x128, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S128x128, .f32⟩
  | 124 => ⟨S128x128, .f32⟩
  | 125 => ⟨S128x128, .f32⟩
  | 126 => ⟨S128x100000, .f32⟩
  | 127 => ⟨S1x100000, .f32⟩
  | _ => ⟨S128, .i32⟩

abbrev hbmTy0_1 (i : Nat) : BufTy := match i % 128 with
  | 0 => ⟨S128x100000, .f32⟩
  | 1 => ⟨S128x100000, .f32⟩
  | 2 => ⟨S_, .f32⟩
  | 3 => ⟨S128, .f32⟩
  | 4 => ⟨S_, .f32⟩
  | 5 => ⟨S128, .f32⟩
  | 6 => ⟨S128, .f32⟩
  | 7 => ⟨S128x1, .f32⟩
  | 8 => ⟨S128x100000, .f32⟩
  | 9 => ⟨S128x100000, .f32⟩
  | 10 => ⟨S128x100000, .f32⟩
  | 11 => ⟨S_, .f32⟩
  | 12 => ⟨S128, .f32⟩
  | 13 => ⟨S128x1, .f32⟩
  | 14 => ⟨S128x1, .f32⟩
  | 15 => ⟨S128x100000, .f32⟩
  | 16 => ⟨S128x100000, .f32⟩
  | 17 => ⟨S128x100000, .f32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S1, .i32⟩
  | 25 => ⟨S2, .i32⟩
  | 26 => ⟨S1, .i32⟩
  | 27 => ⟨S_, .i32⟩
  | 28 => ⟨S1, .i32⟩
  | 29 => ⟨S_, .i32⟩
  | 30 => ⟨S1, .i32⟩
  | 31 => ⟨S1, .i32⟩
  | 32 => ⟨S_, .i32⟩
  | 33 => ⟨S_, .i32⟩
  | 34 => ⟨S_, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S_, .i32⟩
  | 127 => ⟨S1, .i32⟩
  | _ => ⟨S128, .i32⟩

abbrev hbmTy0_2 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S1, .i32⟩
  | 6 => ⟨S1, .i32⟩
  | 7 => ⟨S_, .i32⟩
  | 8 => ⟨S1, .i32⟩
  | 9 => ⟨S1, .i32⟩
  | 10 => ⟨S_, .i32⟩
  | 11 => ⟨S1, .i32⟩
  | 12 => ⟨S1, .i32⟩
  | 13 => ⟨S1, .i32⟩
  | 14 => ⟨S1, .i32⟩
  | 15 => ⟨S1, .i32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .i32⟩
  | 23 => ⟨S1, .i32⟩
  | 24 => ⟨S1, .i32⟩
  | 25 => ⟨S_, .i32⟩
  | 26 => ⟨S1, .i32⟩
  | 27 => ⟨S1, .i32⟩
  | 28 => ⟨S_, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S_, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S1, .i32⟩
  | 49 => ⟨S1, .i32⟩
  | 50 => ⟨S_, .i32⟩
  | 51 => ⟨S1, .i32⟩
  | 52 => ⟨S1, .i32⟩
  | 53 => ⟨S_, .i32⟩
  | 54 => ⟨S1, .i32⟩
  | 55 => ⟨S1, .i32⟩
  | 56 => ⟨S1, .i32⟩
  | 57 => ⟨S1, .i32⟩
  | 58 => ⟨S1, .i32⟩
  | 59 => ⟨S_, .i32⟩
  | 60 => ⟨S1, .i32⟩
  | 61 => ⟨S1, .i32⟩
  | 62 => ⟨S_, .i32⟩
  | 63 => ⟨S1, .i32⟩
  | 64 => ⟨S1, .i32⟩
  | 65 => ⟨S1, .i32⟩
  | 66 => ⟨S1, .i32⟩
  | 67 => ⟨S1, .i32⟩
  | 68 => ⟨S_, .i32⟩
  | 69 => ⟨S1, .i32⟩
  | 70 => ⟨S1, .i32⟩
  | 71 => ⟨S_, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S_, .i32⟩
  | 85 => ⟨S1, .i32⟩
  | 86 => ⟨S1, .i32⟩
  | 87 => ⟨S_, .i32⟩
  | 88 => ⟨S1, .i32⟩
  | 89 => ⟨S1, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S_, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S1, .i32⟩
  | 111 => ⟨S_, .i32⟩
  | 112 => ⟨S1, .i32⟩
  | 113 => ⟨S1, .i32⟩
  | 114 => ⟨S_, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S1, .i32⟩
  | 122 => ⟨S1, .i32⟩
  | 123 => ⟨S_, .i32⟩
  | 124 => ⟨S1, .i32⟩
  | 125 => ⟨S1, .i32⟩
  | 126 => ⟨S2, .i32⟩
  | 127 => ⟨S128x40, .f32⟩
  | _ => ⟨S128, .i32⟩

abbrev hbmTy0_3 (i : Nat) : BufTy := match i % 128 with
  | 0 => ⟨S128x40, .i32⟩
  | 1 => ⟨S_, .f32⟩
  | 2 => ⟨S128x40, .f32⟩
  | 3 => ⟨S128x40, .f32⟩
  | 4 => ⟨S128x40, .f32⟩
  | 5 => ⟨S_, .f32⟩
  | 6 => ⟨S_, .f32⟩
  | 7 => ⟨S_, .f32⟩
  | 8 => ⟨S1x1, .f32⟩
  | 9 => ⟨S1x1, .f32⟩
  | 10 => ⟨S1, .i32⟩
  | 11 => ⟨S_, .i32⟩
  | 12 => ⟨S1, .i32⟩
  | 13 => ⟨S_, .i32⟩
  | 14 => ⟨S128x40, .i64⟩
  | 15 => ⟨S128x40, .i64⟩
  | 16 => ⟨S_, .i64⟩
  | 17 => ⟨S128x40, .i64⟩
  | 18 => ⟨S128x40, .i64⟩
  | 19 => ⟨S_, .i64⟩
  | 20 => ⟨S128x40, .i64⟩
  | 21 => ⟨S128x40, .i64⟩
  | 22 => ⟨S128x40, .i64⟩
  | 23 => ⟨S_, .i64⟩
  | 24 => ⟨S128x40, .i64⟩
  | 25 => ⟨S128x40, .i64⟩
  | 26 => ⟨S128x40, .i32⟩
  | 27 => ⟨S128x40, .i32⟩
  | 28 => ⟨S_, .i32⟩
  | 29 => ⟨S_, .i32⟩
  | 30 => ⟨S_, .i32⟩
  | 31 => ⟨S128x40, .i32⟩
  | 32 => ⟨S128x40, .i32⟩
  | 33 => ⟨S128x40, .i32⟩
  | 34 => ⟨S128x40, .i32⟩
  | 35 => ⟨S128x40, .i32⟩
  | 36 => ⟨S_, .i32⟩
  | 37 => ⟨S128x40, .i32⟩
  | 38 => ⟨S128x40, .i32⟩
  | 39 => ⟨S_, .i32⟩
  | 40 => ⟨S128x40, .i32⟩
  | 41 => ⟨S128x40, .i32⟩
  | 42 => ⟨S128x40, .i32⟩
  | 43 => ⟨S128x40, .i32⟩
  | 44 => ⟨S128x40, .i32⟩
  | 45 => ⟨S_, .i32⟩
  | 46 => ⟨S128x40, .i32⟩
  | 47 => ⟨S128x40, .i32⟩
  | 48 => ⟨S_, .i32⟩
  | 49 => ⟨S128x40, .i32⟩
  | 50 => ⟨S128x40, .i32⟩
  | 51 => ⟨S128x40, .i32⟩
  | 52 => ⟨S128x40, .i32⟩
  | 53 => ⟨S128x40, .i32⟩
  | 54 => ⟨S_, .i32⟩
  | 55 => ⟨S128x40, .i32⟩
  | 56 => ⟨S128x40, .i32⟩
  | 57 => ⟨S_, .i32⟩
  | 58 => ⟨S128x40, .i32⟩
  | 59 => ⟨S128x40, .i32⟩
  | 60 => ⟨S128x40, .i32⟩
  | 61 => ⟨S128x40, .i32⟩
  | 62 => ⟨S128x40, .i32⟩
  | 63 => ⟨S_, .i32⟩
  | 64 => ⟨S128x40, .i32⟩
  | 65 => ⟨S128x40, .i32⟩
  | 66 => ⟨S_, .i32⟩
  | 67 => ⟨S128x40, .i32⟩
  | 68 => ⟨S128x40, .i32⟩
  | 69 => ⟨S128x40, .i32⟩
  | 70 => ⟨S128x40, .i32⟩
  | 71 => ⟨S128x40, .i32⟩
  | 72 => ⟨S128x40, .i32⟩
  | 73 => ⟨S128x40, .i32⟩
  | 74 => ⟨S128x40, .i32⟩
  | 75 => ⟨S_, .i32⟩
  | 76 => ⟨S128x40, .i32⟩
  | 77 => ⟨S128x40, .i32⟩
  | 78 => ⟨S128x40, .i32⟩
  | 79 => ⟨S_, .i32⟩
  | 80 => ⟨S128x40, .i32⟩
  | 81 => ⟨S128x40, .i32⟩
  | 82 => ⟨S_, .i32⟩
  | 83 => ⟨S128x40, .i32⟩
  | 84 => ⟨S128x40, .i32⟩
  | 85 => ⟨S128x40, .i32⟩
  | 86 => ⟨S128x40, .i32⟩
  | 87 => ⟨S128x40, .i32⟩
  | 88 => ⟨S_, .i32⟩
  | 89 => ⟨S128x40, .i32⟩
  | 90 => ⟨S128x40, .i32⟩
  | 91 => ⟨S_, .i32⟩
  | 92 => ⟨S128x40, .i32⟩
  | 93 => ⟨S128x40, .i32⟩
  | 94 => ⟨S128x40, .i32⟩
  | 95 => ⟨S128x40, .i32⟩
  | 96 => ⟨S128x40, .i32⟩
  | 97 => ⟨S_, .i32⟩
  | 98 => ⟨S128x40, .i32⟩
  | 99 => ⟨S128x40, .i32⟩
  | 100 => ⟨S_, .i32⟩
  | 101 => ⟨S128x40, .i32⟩
  | 102 => ⟨S128x40, .i32⟩
  | 103 => ⟨S128x40, .i32⟩
  | 104 => ⟨S128x40, .i32⟩
  | 105 => ⟨S128x40, .i32⟩
  | 106 => ⟨S_, .i32⟩
  | 107 => ⟨S128x40, .i32⟩
  | 108 => ⟨S128x40, .i32⟩
  | 109 => ⟨S_, .i32⟩
  | 110 => ⟨S128x40, .i32⟩
  | 111 => ⟨S128x40, .i32⟩
  | 112 => ⟨S128x40, .i32⟩
  | 113 => ⟨S128x40, .i32⟩
  | 114 => ⟨S128x40, .i32⟩
  | 115 => ⟨S128x40, .i32⟩
  | 116 => ⟨S128x40, .i32⟩
  | 117 => ⟨S128x40, .i32⟩
  | 118 => ⟨S_, .i32⟩
  | 119 => ⟨S128x40, .i32⟩
  | 120 => ⟨S128x40, .i32⟩
  | 121 => ⟨S128x40, .i32⟩
  | 122 => ⟨S_, .i32⟩
  | 123 => ⟨S128x40, .i32⟩
  | 124 => ⟨S128x40, .i32⟩
  | 125 => ⟨S_, .i32⟩
  | 126 => ⟨S128x40, .i32⟩
  | 127 => ⟨S128x40, .i32⟩
  | _ => ⟨S128, .i32⟩

abbrev hbmTy0_4 (i : Nat) : BufTy := match i % 128 with
  | 0 => ⟨S128x40, .i32⟩
  | 1 => ⟨S128x40, .i32⟩
  | 2 => ⟨S128x40, .i32⟩
  | 3 => ⟨S_, .i32⟩
  | 4 => ⟨S128x40, .i32⟩
  | 5 => ⟨S128x40, .i32⟩
  | 6 => ⟨S_, .i32⟩
  | 7 => ⟨S128x40, .i32⟩
  | 8 => ⟨S128x40, .i32⟩
  | 9 => ⟨S128x40, .i32⟩
  | 10 => ⟨S128x40, .i32⟩
  | 11 => ⟨S128x40, .i32⟩
  | 12 => ⟨S_, .i32⟩
  | 13 => ⟨S128x40, .i32⟩
  | 14 => ⟨S128x40, .i32⟩
  | 15 => ⟨S_, .i32⟩
  | 16 => ⟨S128x40, .i32⟩
  | 17 => ⟨S128x40, .i32⟩
  | 18 => ⟨S128x40, .i32⟩
  | 19 => ⟨S128x40, .i32⟩
  | 20 => ⟨S128x40, .i32⟩
  | 21 => ⟨S_, .i32⟩
  | 22 => ⟨S128x40, .i32⟩
  | 23 => ⟨S128x40, .i32⟩
  | 24 => ⟨S_, .i32⟩
  | 25 => ⟨S128x40, .i32⟩
  | 26 => ⟨S128x40, .i32⟩
  | 27 => ⟨S128x40, .i32⟩
  | 28 => ⟨S128x40, .i32⟩
  | 29 => ⟨S128x40, .i32⟩
  | 30 => ⟨S128x40, .i32⟩
  | 31 => ⟨S128x40, .i32⟩
  | 32 => ⟨S128x40, .i32⟩
  | 33 => ⟨S_, .i32⟩
  | 34 => ⟨S128x40, .i32⟩
  | 35 => ⟨S128x40, .i32⟩
  | 36 => ⟨S128x40, .i32⟩
  | 37 => ⟨S_, .i32⟩
  | 38 => ⟨S128x40, .i32⟩
  | 39 => ⟨S128x40, .i32⟩
  | 40 => ⟨S_, .i32⟩
  | 41 => ⟨S128x40, .i32⟩
  | 42 => ⟨S128x40, .i32⟩
  | 43 => ⟨S128x40, .i32⟩
  | 44 => ⟨S128x40, .i32⟩
  | 45 => ⟨S128x40, .i32⟩
  | 46 => ⟨S_, .i32⟩
  | 47 => ⟨S128x40, .i32⟩
  | 48 => ⟨S128x40, .i32⟩
  | 49 => ⟨S_, .i32⟩
  | 50 => ⟨S128x40, .i32⟩
  | 51 => ⟨S128x40, .i32⟩
  | 52 => ⟨S128x40, .i32⟩
  | 53 => ⟨S128x40, .i32⟩
  | 54 => ⟨S128x40, .i32⟩
  | 55 => ⟨S_, .i32⟩
  | 56 => ⟨S128x40, .i32⟩
  | 57 => ⟨S128x40, .i32⟩
  | 58 => ⟨S_, .i32⟩
  | 59 => ⟨S128x40, .i32⟩
  | 60 => ⟨S128x40, .i32⟩
  | 61 => ⟨S128x40, .i32⟩
  | 62 => ⟨S128x40, .i32⟩
  | 63 => ⟨S128x40, .i32⟩
  | 64 => ⟨S_, .i32⟩
  | 65 => ⟨S128x40, .i32⟩
  | 66 => ⟨S128x40, .i32⟩
  | 67 => ⟨S_, .i32⟩
  | 68 => ⟨S128x40, .i32⟩
  | 69 => ⟨S128x40, .i32⟩
  | 70 => ⟨S128x40, .i32⟩
  | 71 => ⟨S128x40, .i32⟩
  | 72 => ⟨S128x40, .i32⟩
  | 73 => ⟨S128x40, .i32⟩
  | 74 => ⟨S128x40, .i32⟩
  | 75 => ⟨S128x40, .i32⟩
  | 76 => ⟨S_, .i32⟩
  | 77 => ⟨S128x40, .i32⟩
  | 78 => ⟨S128x40, .i32⟩
  | 79 => ⟨S128x40, .i32⟩
  | 80 => ⟨S_, .i32⟩
  | 81 => ⟨S128x40, .i32⟩
  | 82 => ⟨S128x40, .i32⟩
  | 83 => ⟨S_, .i32⟩
  | 84 => ⟨S128x40, .i32⟩
  | 85 => ⟨S128x40, .i32⟩
  | 86 => ⟨S128x40, .i32⟩
  | 87 => ⟨S128x40, .i32⟩
  | 88 => ⟨S128x40, .i32⟩
  | 89 => ⟨S_, .i32⟩
  | 90 => ⟨S128x40, .i32⟩
  | 91 => ⟨S128x40, .i32⟩
  | 92 => ⟨S_, .i32⟩
  | 93 => ⟨S128x40, .i32⟩
  | 94 => ⟨S128x40, .i32⟩
  | 95 => ⟨S128x40, .i32⟩
  | 96 => ⟨S128x40, .i32⟩
  | 97 => ⟨S128x40, .i32⟩
  | 98 => ⟨S_, .i32⟩
  | 99 => ⟨S128x40, .i32⟩
  | 100 => ⟨S128x40, .i32⟩
  | 101 => ⟨S_, .i32⟩
  | 102 => ⟨S128x40, .i32⟩
  | 103 => ⟨S128x40, .i32⟩
  | 104 => ⟨S128x40, .i32⟩
  | 105 => ⟨S128x40, .i32⟩
  | 106 => ⟨S128x40, .i32⟩
  | 107 => ⟨S_, .i32⟩
  | 108 => ⟨S128x40, .i32⟩
  | 109 => ⟨S128x40, .i32⟩
  | 110 => ⟨S_, .i32⟩
  | 111 => ⟨S128x40, .i32⟩
  | 112 => ⟨S128x40, .i32⟩
  | 113 => ⟨S128x40, .i32⟩
  | 114 => ⟨S128x40, .i32⟩
  | 115 => ⟨S128x40, .i32⟩
  | 116 => ⟨S128x40, .i32⟩
  | 117 => ⟨S128x40, .i32⟩
  | 118 => ⟨S128x40, .i32⟩
  | 119 => ⟨S_, .i32⟩
  | 120 => ⟨S128x40, .i32⟩
  | 121 => ⟨S128x40, .i32⟩
  | 122 => ⟨S128x40, .i32⟩
  | 123 => ⟨S_, .i32⟩
  | 124 => ⟨S128x40, .i32⟩
  | 125 => ⟨S128x40, .i32⟩
  | 126 => ⟨S_, .i32⟩
  | 127 => ⟨S128x40, .i32⟩
  | _ => ⟨S128, .i32⟩

abbrev hbmTy0_5 (i : Nat) : BufTy := match i % 128 with
  | 0 => ⟨S128x40, .i32⟩
  | 1 => ⟨S128x40, .f32⟩
  | 2 => ⟨S_, .f32⟩
  | 3 => ⟨S128x40, .f32⟩
  | 4 => ⟨S128x40, .f32⟩
  | 5 => ⟨S1x1, .f32⟩
  | 6 => ⟨S128x40, .f32⟩
  | 7 => ⟨S128x40, .f32⟩
  | 8 => ⟨S128x40, .f32⟩
  | 9 => ⟨S128x40, .f32⟩
  | 10 => ⟨S128x40, .f32⟩
  | 11 => ⟨S128x40, .f32⟩
  | 12 => ⟨S128x40, .f32⟩
  | 13 => ⟨S128x40, .f32⟩
  | 14 => ⟨S128x40, .f32⟩
  | 15 => ⟨S128x40, .f32⟩
  | 16 => ⟨S128x40, .f32⟩
  | 17 => ⟨S128x40, .i32⟩
  | 18 => ⟨S_, .f32⟩
  | 19 => ⟨S_, .i32⟩
  | 20 => ⟨S128, .f32⟩
  | 21 => ⟨S128, .i32⟩
  | 22 => ⟨S128x1, .i32⟩
  | 23 => ⟨S_, .i32⟩
  | 24 => ⟨S128x1, .i32⟩
  | 25 => ⟨S128x1, .i1⟩
  | 26 => ⟨S_, .i32⟩
  | 27 => ⟨S128x1, .i32⟩
  | 28 => ⟨S128x1, .i32⟩
  | 29 => ⟨S128x1, .i32⟩
  | 30 => ⟨S128x1x1, .i32⟩
  | 31 => ⟨S1, .i32⟩
  | 32 => ⟨S_, .i32⟩
  | 33 => ⟨S128x1x1, .i32⟩
  | 34 => ⟨S128x1x1, .i1⟩
  | 35 => ⟨S1x1x1, .i32⟩
  | 36 => ⟨S128x1x1, .i32⟩
  | 37 => ⟨S128x1x1, .i1⟩
  | 38 => ⟨S128x1x1, .i1⟩
  | 39 => ⟨S_, .i1⟩
  | 40 => ⟨S128x1, .i1⟩
  | 41 => ⟨S128x1, .f32⟩
  | 42 => ⟨S_, .f32⟩
  | 43 => ⟨S128x1, .f32⟩
  | 44 => ⟨S128x1, .f32⟩
  | 45 => ⟨S128, .f32⟩
  | 46 => ⟨S128x1, .i32⟩
  | 47 => ⟨S_, .i32⟩
  | 48 => ⟨S128x1, .i32⟩
  | 49 => ⟨S128x1, .i1⟩
  | 50 => ⟨S_, .i32⟩
  | 51 => ⟨S128x1, .i32⟩
  | 52 => ⟨S128x1, .i32⟩
  | 53 => ⟨S128x1, .i32⟩
  | 54 => ⟨S128x1x1, .i32⟩
  | 55 => ⟨S1, .i32⟩
  | 56 => ⟨S_, .i32⟩
  | 57 => ⟨S128x1x1, .i32⟩
  | 58 => ⟨S128x1x1, .i1⟩
  | 59 => ⟨S1x1x1, .i32⟩
  | 60 => ⟨S128x1x1, .i32⟩
  | 61 => ⟨S128x1x1, .i1⟩
  | 62 => ⟨S128x1x1, .i1⟩
  | 63 => ⟨S_, .i1⟩
  | 64 => ⟨S128x1, .i1⟩
  | 65 => ⟨S128x1, .i32⟩
  | 66 => ⟨S_, .i32⟩
  | 67 => ⟨S128x1, .i32⟩
  | 68 => ⟨S128x1, .i32⟩
  | 69 => ⟨S128, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S1, .i32⟩
  | 77 => ⟨S15x128, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1, .i32⟩
  | 85 => ⟨S15x128, .f32⟩
  | 86 => ⟨S_, .i32⟩
  | 87 => ⟨S128, .i32⟩
  | 88 => ⟨S128, .i1⟩
  | 89 => ⟨S_, .i32⟩
  | 90 => ⟨S128, .i32⟩
  | 91 => ⟨S128, .i1⟩
  | 92 => ⟨S_, .i32⟩
  | 93 => ⟨S_, .i1⟩
  | 94 => ⟨S128, .i1⟩
  | 95 => ⟨S_, .i32⟩
  | 96 => ⟨S_, .i32⟩
  | 97 => ⟨S_, .i32⟩
  | 98 => ⟨S128, .i32⟩
  | 99 => ⟨S128, .i32⟩
  | 100 => ⟨S_, .i32⟩
  | 101 => ⟨S_, .i32⟩
  | 102 => ⟨S128, .i32⟩
  | 103 => ⟨S128, .i32⟩
  | 104 => ⟨S128, .i32⟩
  | 105 => ⟨S_, .i32⟩
  | 106 => ⟨S_, .i32⟩
  | _ => ⟨S128, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S128, .i32⟩

abbrev bufTy : (tb : Table) → Fin (tcTables nBuf tb) → BufTy
  | .hbm, ⟨i, _⟩ => hbmTy i
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_c_5 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_cst : Ref sig .tc := ⟨.hbm, 53, rfl⟩
abbrev main_v30 : Ref sig .tc := ⟨.hbm, 54, rfl⟩
abbrev main_c_9 : Ref sig .tc := ⟨.hbm, 55, rfl⟩
abbrev main_c_10 : Ref sig .tc := ⟨.hbm, 56, rfl⟩
abbrev main_v31_0 : Ref sig .tc := ⟨.hbm, 57, rfl⟩
abbrev main_v31_1 : Ref sig .tc := ⟨.hbm, 58, rfl⟩
abbrev main_v31_2 : Ref sig .tc := ⟨.hbm, 59, rfl⟩
abbrev main_v31_3 : Ref sig .tc := ⟨.hbm, 60, rfl⟩
abbrev main_v31_4 : Ref sig .tc := ⟨.hbm, 61, rfl⟩
abbrev main_v31_5 : Ref sig .tc := ⟨.hbm, 62, rfl⟩
abbrev main_v31_6 : Ref sig .tc := ⟨.hbm, 63, rfl⟩
abbrev main_v31_7 : Ref sig .tc := ⟨.hbm, 64, rfl⟩
abbrev main_v31_8 : Ref sig .tc := ⟨.hbm, 65, rfl⟩
abbrev main_v31_9 : Ref sig .tc := ⟨.hbm, 66, rfl⟩
abbrev main_v31_10 : Ref sig .tc := ⟨.hbm, 67, rfl⟩
abbrev main_v31_11 : Ref sig .tc := ⟨.hbm, 68, rfl⟩
abbrev main_v31_12 : Ref sig .tc := ⟨.hbm, 69, rfl⟩
abbrev main_v31_13 : Ref sig .tc := ⟨.hbm, 70, rfl⟩
abbrev main_v31_14 : Ref sig .tc := ⟨.hbm, 71, rfl⟩
abbrev main_while0c_c_25 : Ref sig .tc := ⟨.hbm, 72, rfl⟩
abbrev main_while0c_v32 : Ref sig .tc := ⟨.hbm, 73, rfl⟩
abbrev main_while0b_c_25 : Ref sig .tc := ⟨.hbm, 74, rfl⟩
abbrev main_while0b_v32 : Ref sig .tc := ⟨.hbm, 75, rfl⟩
abbrev main_while0b_c_26 : Ref sig .tc := ⟨.hbm, 76, rfl⟩
abbrev main_while0b_v33 : Ref sig .tc := ⟨.hbm, 77, rfl⟩
abbrev main_while0b_v34 : Ref sig .tc := ⟨.hbm, 78, rfl⟩
abbrev main_while0b_c_27 : Ref sig .tc := ⟨.hbm, 79, rfl⟩
abbrev main_while0b_v35 : Ref sig .tc := ⟨.hbm, 80, rfl⟩
abbrev main_while0b_v36 : Ref sig .tc := ⟨.hbm, 81, rfl⟩
abbrev main_while0b_v37 : Ref sig .tc := ⟨.hbm, 82, rfl⟩
abbrev main_while0b_v38 : Ref sig .tc := ⟨.hbm, 83, rfl⟩
abbrev main_while0b_v39 : Ref sig .tc := ⟨.hbm, 84, rfl⟩
abbrev main_while0b_v40 : Ref sig .tc := ⟨.hbm, 85, rfl⟩
abbrev main_while0b_v41 : Ref sig .tc := ⟨.hbm, 86, rfl⟩
abbrev main_while0b_v42 : Ref sig .tc := ⟨.hbm, 87, rfl⟩
abbrev main_while0b_v43 : Ref sig .tc := ⟨.hbm, 88, rfl⟩
abbrev main_while0b_v44 : Ref sig .tc := ⟨.hbm, 89, rfl⟩
abbrev main_while0b_v45 : Ref sig .tc := ⟨.hbm, 90, rfl⟩
abbrev main_while0b_v46 : Ref sig .tc := ⟨.hbm, 91, rfl⟩
abbrev main_while0b_v47 : Ref sig .tc := ⟨.hbm, 92, rfl⟩
abbrev main_while0b_v48 : Ref sig .tc := ⟨.hbm, 93, rfl⟩
abbrev main_while0b_v49 : Ref sig .tc := ⟨.hbm, 94, rfl⟩
abbrev main_while0b_v50 : Ref sig .tc := ⟨.hbm, 95, rfl⟩
abbrev main_while0b_v51 : Ref sig .tc := ⟨.hbm, 96, rfl⟩
abbrev main_while0b_v52 : Ref sig .tc := ⟨.hbm, 97, rfl⟩
abbrev main_while0b_v53 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_cst_28 : Ref sig .tc := ⟨.hbm, 102, rfl⟩
abbrev main_while0b_v57 : Ref sig .tc := ⟨.hbm, 103, rfl⟩
abbrev main_while0b_v58 : Ref sig .tc := ⟨.hbm, 104, rfl⟩
abbrev main_while0b_cst_29 : Ref sig .tc := ⟨.hbm, 105, rfl⟩
abbrev main_while0b_v59 : Ref sig .tc := ⟨.hbm, 106, rfl⟩
abbrev main_while0b_v60 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_cst_30 : Ref sig .tc := ⟨.hbm, 111, rfl⟩
abbrev main_while0b_v64 : Ref sig .tc := ⟨.hbm, 112, rfl⟩
abbrev main_while0b_v65 : Ref sig .tc := ⟨.hbm, 113, rfl⟩
abbrev main_while0b_cst_31 : Ref sig .tc := ⟨.hbm, 114, rfl⟩
abbrev main_while0b_v66 : Ref sig .tc := ⟨.hbm, 115, rfl⟩
abbrev main_while0b_v67 : Ref sig .tc := ⟨.hbm, 116, rfl⟩
abbrev main_while0b_v68 : Ref sig .tc := ⟨.hbm, 117, rfl⟩
abbrev main_while0b_v69 : Ref sig .tc := ⟨.hbm, 118, rfl⟩
abbrev main_while0b_v70 : Ref sig .tc := ⟨.hbm, 119, rfl⟩
abbrev main_while0b_cst_32 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_call0_cst : Ref sig .tc := ⟨.hbm, 130, rfl⟩
abbrev main_while0b_call0_v0 : Ref sig .tc := ⟨.hbm, 131, rfl⟩
abbrev main_while0b_call0_cst_0 : Ref sig .tc := ⟨.hbm, 132, rfl⟩
abbrev main_while0b_call0_v1 : Ref sig .tc := ⟨.hbm, 133, rfl⟩
abbrev main_while0b_call0_v2 : Ref sig .tc := ⟨.hbm, 134, rfl⟩
abbrev main_while0b_call0_v3 : Ref sig .tc := ⟨.hbm, 135, rfl⟩
abbrev main_while0b_call0_v4 : Ref sig .tc := ⟨.hbm, 136, rfl⟩
abbrev main_while0b_call0_v5 : Ref sig .tc := ⟨.hbm, 137, rfl⟩
abbrev main_while0b_call0_v6 : Ref sig .tc := ⟨.hbm, 138, rfl⟩
abbrev main_while0b_call0_cst_1 : Ref sig .tc := ⟨.hbm, 139, rfl⟩
abbrev main_while0b_call0_v7 : Ref sig .tc := ⟨.hbm, 140, rfl⟩
abbrev main_while0b_call0_v8 : Ref sig .tc := ⟨.hbm, 141, rfl⟩
abbrev main_while0b_call0_v9 : Ref sig .tc := ⟨.hbm, 142, rfl⟩
abbrev main_while0b_call0_v10 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_call1_c : Ref sig .tc := ⟨.hbm, 147, rfl⟩
abbrev main_while0b_call1_v0 : Ref sig .tc := ⟨.hbm, 148, rfl⟩
abbrev main_while0b_call1_v1 : Ref sig .tc := ⟨.hbm, 149, rfl⟩
abbrev main_while0b_call1_c_0 : Ref sig .tc := ⟨.hbm, 150, rfl⟩
abbrev main_while0b_call1_v2 : Ref sig .tc := ⟨.hbm, 151, rfl⟩
abbrev main_while0b_call1_v3 : Ref sig .tc := ⟨.hbm, 152, rfl⟩
abbrev main_while0b_call1_v4 : Ref sig .tc := ⟨.hbm, 153, rfl⟩
abbrev main_while0b_call1_v5 : Ref sig .tc := ⟨.hbm, 154, rfl⟩
abbrev main_while0b_call1_v6 : Ref sig .tc := ⟨.hbm, 155, rfl⟩
abbrev main_while0b_call1_v7 : Ref sig .tc := ⟨.hbm, 156, rfl⟩
abbrev main_while0b_call1_v8 : Ref sig .tc := ⟨.hbm, 157, rfl⟩
abbrev main_while0b_call1_v9 : Ref sig .tc := ⟨.hbm, 158, rfl⟩
abbrev main_while0b_call1_v10 : Ref sig .tc := ⟨.hbm, 159, rfl⟩
abbrev main_while0b_call1_call0_v0 : Ref sig .tc := ⟨.hbm, 160, rfl⟩
abbrev main_while0b_call1_call0_c : Ref sig .tc := ⟨.hbm, 161, rfl⟩
abbrev main_while0b_call1_call0_v1 : Ref sig .tc := ⟨.hbm, 162, rfl⟩
abbrev main_while0b_call1_call0_v2 : Ref sig .tc := ⟨.hbm, 163, rfl⟩
abbrev main_while0b_call1_call0_v3 : Ref sig .tc := ⟨.hbm, 164, rfl⟩
abbrev main_while0b_call1_call0_v4 : Ref sig .tc := ⟨.hbm, 165, rfl⟩
abbrev main_while0b_call1_call0_v5 : Ref sig .tc := ⟨.hbm, 166, rfl⟩
abbrev main_while0b_call1_call0_v6 : Ref sig .tc := ⟨.hbm, 167, rfl⟩
abbrev main_while0b_call1_call0_c_0 : Ref sig .tc := ⟨.hbm, 168, rfl⟩
abbrev main_while0b_call1_call0_v7 : Ref sig .tc := ⟨.hbm, 169, rfl⟩
abbrev main_while0b_call1_call0_v8 : Ref sig .tc := ⟨.hbm, 170, rfl⟩
abbrev main_while0b_call1_call0_c_1 : Ref sig .tc := ⟨.hbm, 171, rfl⟩
abbrev main_while0b_call1_call0_v9 : Ref sig .tc := ⟨.hbm, 172, rfl⟩
abbrev main_while0b_call1_call0_v10 : Ref sig .tc := ⟨.hbm, 173, rfl⟩
abbrev main_while0b_call1_call0_v11 : Ref sig .tc := ⟨.hbm, 174, rfl⟩
abbrev main_while0b_call1_call0_v12 : Ref sig .tc := ⟨.hbm, 175, rfl⟩
abbrev main_while0b_call1_call0_v13 : Ref sig .tc := ⟨.hbm, 176, rfl⟩
abbrev main_while0b_call1_call0_c_2 : Ref sig .tc := ⟨.hbm, 177, rfl⟩
abbrev main_while0b_call1_call0_v14 : Ref sig .tc := ⟨.hbm, 178, rfl⟩
abbrev main_while0b_call1_call0_v15 : Ref sig .tc := ⟨.hbm, 179, rfl⟩
abbrev main_while0b_call1_call0_c_3 : Ref sig .tc := ⟨.hbm, 180, rfl⟩
abbrev main_while0b_call1_call0_v16 : Ref sig .tc := ⟨.hbm, 181, rfl⟩
abbrev main_while0b_call1_call0_v17 : Ref sig .tc := ⟨.hbm, 182, rfl⟩
abbrev main_while0b_call1_call0_v18 : Ref sig .tc := ⟨.hbm, 183, rfl⟩
abbrev main_while0b_call1_call0_v19 : Ref sig .tc := ⟨.hbm, 184, rfl⟩
abbrev main_while0b_call1_call0_v20 : Ref sig .tc := ⟨.hbm, 185, rfl⟩
abbrev main_while0b_call1_call0_c_4 : Ref sig .tc := ⟨.hbm, 186, rfl⟩
abbrev main_while0b_call1_call0_v21 : Ref sig .tc := ⟨.hbm, 187, rfl⟩
abbrev main_while0b_call1_call0_v22 : Ref sig .tc := ⟨.hbm, 188, rfl⟩
abbrev main_while0b_call1_call0_c_5 : Ref sig .tc := ⟨.hbm, 189, rfl⟩
abbrev main_while0b_call1_call0_v23 : Ref sig .tc := ⟨.hbm, 190, rfl⟩
abbrev main_while0b_call1_call0_v24 : Ref sig .tc := ⟨.hbm, 191, rfl⟩
abbrev main_while0b_call1_call0_v25 : Ref sig .tc := ⟨.hbm, 192, rfl⟩
abbrev main_while0b_call1_call0_v26 : Ref sig .tc := ⟨.hbm, 193, rfl⟩
abbrev main_while0b_call1_call0_v27 : Ref sig .tc := ⟨.hbm, 194, rfl⟩
abbrev main_while0b_call1_call0_c_6 : Ref sig .tc := ⟨.hbm, 195, rfl⟩
abbrev main_while0b_call1_call0_v28 : Ref sig .tc := ⟨.hbm, 196, rfl⟩
abbrev main_while0b_call1_call0_v29 : Ref sig .tc := ⟨.hbm, 197, rfl⟩
abbrev main_while0b_call1_call0_c_7 : Ref sig .tc := ⟨.hbm, 198, rfl⟩
abbrev main_while0b_call1_call0_v30 : Ref sig .tc := ⟨.hbm, 199, rfl⟩
abbrev main_while0b_call1_call0_v31 : Ref sig .tc := ⟨.hbm, 200, rfl⟩
abbrev main_while0b_call1_call0_v32 : Ref sig .tc := ⟨.hbm, 201, rfl⟩
abbrev main_while0b_call1_call0_v33 : Ref sig .tc := ⟨.hbm, 202, rfl⟩
abbrev main_while0b_call1_call0_v34 : Ref sig .tc := ⟨.hbm, 203, rfl⟩
abbrev main_while0b_call1_call0_v35 : Ref sig .tc := ⟨.hbm, 204, rfl⟩
abbrev main_while0b_call1_call0_v36 : Ref sig .tc := ⟨.hbm, 205, rfl⟩
abbrev main_while0b_call1_call0_v37 : Ref sig .tc := ⟨.hbm, 206, rfl⟩
abbrev main_while0b_call1_call0_c_8 : Ref sig .tc := ⟨.hbm, 207, rfl⟩
abbrev main_while0b_call1_call0_v38 : Ref sig .tc := ⟨.hbm, 208, rfl⟩
abbrev main_while0b_call1_call0_v39 : Ref sig .tc := ⟨.hbm, 209, rfl⟩
abbrev main_while0b_call1_call0_v40 : Ref sig .tc := ⟨.hbm, 210, rfl⟩
abbrev main_while0b_call1_call0_c_9 : Ref sig .tc := ⟨.hbm, 211, rfl⟩
abbrev main_while0b_call1_call0_v41 : Ref sig .tc := ⟨.hbm, 212, rfl⟩
abbrev main_while0b_call1_call0_v42 : Ref sig .tc := ⟨.hbm, 213, rfl⟩
abbrev main_while0b_call1_call0_c_10 : Ref sig .tc := ⟨.hbm, 214, rfl⟩
abbrev main_while0b_call1_call0_v43 : Ref sig .tc := ⟨.hbm, 215, rfl⟩
abbrev main_while0b_call1_call0_v44 : Ref sig .tc := ⟨.hbm, 216, rfl⟩
abbrev main_while0b_call1_call0_v45 : Ref sig .tc := ⟨.hbm, 217, rfl⟩
abbrev main_while0b_call1_call0_v46 : Ref sig .tc := ⟨.hbm, 218, rfl⟩
abbrev main_while0b_call1_call0_v47 : Ref sig .tc := ⟨.hbm, 219, rfl⟩
abbrev main_while0b_call1_call0_c_11 : Ref sig .tc := ⟨.hbm, 220, rfl⟩
abbrev main_while0b_call1_call0_v48 : Ref sig .tc := ⟨.hbm, 221, rfl⟩
abbrev main_while0b_call1_call0_v49 : Ref sig .tc := ⟨.hbm, 222, rfl⟩
abbrev main_while0b_call1_call0_c_12 : Ref sig .tc := ⟨.hbm, 223, rfl⟩
abbrev main_while0b_call1_call0_v50 : Ref sig .tc := ⟨.hbm, 224, rfl⟩
abbrev main_while0b_call1_call0_v51 : Ref sig .tc := ⟨.hbm, 225, rfl⟩
abbrev main_while0b_call1_call0_v52 : Ref sig .tc := ⟨.hbm, 226, rfl⟩
abbrev main_while0b_call1_call0_v53 : Ref sig .tc := ⟨.hbm, 227, rfl⟩
abbrev main_while0b_call1_call0_v54 : Ref sig .tc := ⟨.hbm, 228, rfl⟩
abbrev main_while0b_call1_call0_c_13 : Ref sig .tc := ⟨.hbm, 229, rfl⟩
abbrev main_while0b_call1_call0_v55 : Ref sig .tc := ⟨.hbm, 230, rfl⟩
abbrev main_while0b_call1_call0_v56 : Ref sig .tc := ⟨.hbm, 231, rfl⟩
abbrev main_while0b_call1_call0_c_14 : Ref sig .tc := ⟨.hbm, 232, rfl⟩
abbrev main_while0b_call1_call0_v57 : Ref sig .tc := ⟨.hbm, 233, rfl⟩
abbrev main_while0b_call1_call0_v58 : Ref sig .tc := ⟨.hbm, 234, rfl⟩
abbrev main_while0b_call1_call0_v59 : Ref sig .tc := ⟨.hbm, 235, rfl⟩
abbrev main_while0b_call1_call0_v60 : Ref sig .tc := ⟨.hbm, 236, rfl⟩
abbrev main_while0b_call1_call0_v61 : Ref sig .tc := ⟨.hbm, 237, rfl⟩
abbrev main_while0b_call1_call0_c_15 : Ref sig .tc := ⟨.hbm, 238, rfl⟩
abbrev main_while0b_call1_call0_v62 : Ref sig .tc := ⟨.hbm, 239, rfl⟩
abbrev main_while0b_call1_call0_v63 : Ref sig .tc := ⟨.hbm, 240, rfl⟩
abbrev main_while0b_call1_call0_c_16 : Ref sig .tc := ⟨.hbm, 241, rfl⟩
abbrev main_while0b_call1_call0_v64 : Ref sig .tc := ⟨.hbm, 242, rfl⟩
abbrev main_while0b_call1_call0_v65 : Ref sig .tc := ⟨.hbm, 243, rfl⟩
abbrev main_while0b_call1_call0_v66 : Ref sig .tc := ⟨.hbm, 244, rfl⟩
abbrev main_while0b_call1_call0_v67 : Ref sig .tc := ⟨.hbm, 245, rfl⟩
abbrev main_while0b_call1_call0_v68 : Ref sig .tc := ⟨.hbm, 246, rfl⟩
abbrev main_while0b_call1_call0_v69 : Ref sig .tc := ⟨.hbm, 247, rfl⟩
abbrev main_while0b_call1_call0_v70 : Ref sig .tc := ⟨.hbm, 248, rfl⟩
abbrev main_while0b_call1_call0_v71 : Ref sig .tc := ⟨.hbm, 249, rfl⟩
abbrev main_while0b_call1_call0_c_17 : Ref sig .tc := ⟨.hbm, 250, rfl⟩
abbrev main_while0b_call1_call0_v72 : Ref sig .tc := ⟨.hbm, 251, rfl⟩
abbrev main_while0b_call1_call0_v73 : Ref sig .tc := ⟨.hbm, 252, rfl⟩
abbrev main_while0b_call1_call0_v74 : Ref sig .tc := ⟨.hbm, 253, rfl⟩
abbrev main_while0b_call1_call0_c_18 : Ref sig .tc := ⟨.hbm, 254, rfl⟩
abbrev main_while0b_call1_call0_v75 : Ref sig .tc := ⟨.hbm, 255, rfl⟩
abbrev main_while0b_call1_call0_v76 : Ref sig .tc := ⟨.hbm, 256, rfl⟩
abbrev main_while0b_call1_call0_c_19 : Ref sig .tc := ⟨.hbm, 257, rfl⟩
abbrev main_while0b_call1_call0_v77 : Ref sig .tc := ⟨.hbm, 258, rfl⟩
abbrev main_while0b_call1_call0_v78 : Ref sig .tc := ⟨.hbm, 259, rfl⟩
abbrev main_while0b_call1_call0_v79 : Ref sig .tc := ⟨.hbm, 260, rfl⟩
abbrev main_while0b_call1_call0_v80 : Ref sig .tc := ⟨.hbm, 261, rfl⟩
abbrev main_while0b_call1_call0_v81 : Ref sig .tc := ⟨.hbm, 262, rfl⟩
abbrev main_while0b_call1_call0_c_20 : Ref sig .tc := ⟨.hbm, 263, rfl⟩
abbrev main_while0b_call1_call0_v82 : Ref sig .tc := ⟨.hbm, 264, rfl⟩
abbrev main_while0b_call1_call0_v83 : Ref sig .tc := ⟨.hbm, 265, rfl⟩
abbrev main_while0b_call1_call0_c_21 : Ref sig .tc := ⟨.hbm, 266, rfl⟩
abbrev main_while0b_call1_call0_v84 : Ref sig .tc := ⟨.hbm, 267, rfl⟩
abbrev main_while0b_call1_call0_v85 : Ref sig .tc := ⟨.hbm, 268, rfl⟩
abbrev main_while0b_call1_call0_v86 : Ref sig .tc := ⟨.hbm, 269, rfl⟩
abbrev main_while0b_call1_call0_v87 : Ref sig .tc := ⟨.hbm, 270, rfl⟩
abbrev main_while0b_call1_call0_v88 : Ref sig .tc := ⟨.hbm, 271, rfl⟩
abbrev main_while0b_call1_call0_c_22 : Ref sig .tc := ⟨.hbm, 272, rfl⟩
abbrev main_while0b_call1_call0_v89 : Ref sig .tc := ⟨.hbm, 273, rfl⟩
abbrev main_while0b_call1_call0_v90 : Ref sig .tc := ⟨.hbm, 274, rfl⟩
abbrev main_while0b_call1_call0_c_23 : Ref sig .tc := ⟨.hbm, 275, rfl⟩
abbrev main_while0b_call1_call0_v91 : Ref sig .tc := ⟨.hbm, 276, rfl⟩
abbrev main_while0b_call1_call0_v92 : Ref sig .tc := ⟨.hbm, 277, rfl⟩
abbrev main_while0b_call1_call0_v93 : Ref sig .tc := ⟨.hbm, 278, rfl⟩
abbrev main_while0b_call1_call0_v94 : Ref sig .tc := ⟨.hbm, 279, rfl⟩
abbrev main_while0b_call1_call0_v95 : Ref sig .tc := ⟨.hbm, 280, rfl⟩
abbrev main_while0b_call1_call0_c_24 : Ref sig .tc := ⟨.hbm, 281, rfl⟩
abbrev main_while0b_call1_call0_v96 : Ref sig .tc := ⟨.hbm, 282, rfl⟩
abbrev main_while0b_call1_call0_v97 : Ref sig .tc := ⟨.hbm, 283, rfl⟩
abbrev main_while0b_call1_call0_c_25 : Ref sig .tc := ⟨.hbm, 284, rfl⟩
abbrev main_while0b_call1_call0_v98 : Ref sig .tc := ⟨.hbm, 285, rfl⟩
abbrev main_while0b_call1_call0_v99 : Ref sig .tc := ⟨.hbm, 286, rfl⟩
abbrev main_while0b_call1_call0_v100 : Ref sig .tc := ⟨.hbm, 287, rfl⟩
abbrev main_while0b_call1_call0_v101 : Ref sig .tc := ⟨.hbm, 288, rfl⟩
abbrev main_while0b_call1_call0_v102 : Ref sig .tc := ⟨.hbm, 289, rfl⟩
abbrev main_while0b_call1_call0_v103 : Ref sig .tc := ⟨.hbm, 290, rfl⟩
abbrev main_while0b_call1_call0_v104 : Ref sig .tc := ⟨.hbm, 291, rfl⟩
abbrev main_while0b_call1_call0_v105 : Ref sig .tc := ⟨.hbm, 292, rfl⟩
abbrev main_while0b_call1_call0_c_26 : Ref sig .tc := ⟨.hbm, 293, rfl⟩
abbrev main_while0b_call1_call0_v106 : Ref sig .tc := ⟨.hbm, 294, rfl⟩
abbrev main_while0b_call1_call0_v107 : Ref sig .tc := ⟨.hbm, 295, rfl⟩
abbrev main_while0b_call1_call0_v108 : Ref sig .tc := ⟨.hbm, 296, rfl⟩
abbrev main_while0b_call1_call0_c_27 : Ref sig .tc := ⟨.hbm, 297, rfl⟩
abbrev main_while0b_call1_call0_v109 : Ref sig .tc := ⟨.hbm, 298, rfl⟩
abbrev main_while0b_call1_call0_v110 : Ref sig .tc := ⟨.hbm, 299, rfl⟩
abbrev main_while0b_call1_call0_c_28 : Ref sig .tc := ⟨.hbm, 300, rfl⟩
abbrev main_while0b_call1_call0_v111 : Ref sig .tc := ⟨.hbm, 301, rfl⟩
abbrev main_while0b_call1_call0_v112 : Ref sig .tc := ⟨.hbm, 302, rfl⟩
abbrev main_while0b_call1_call0_v113 : Ref sig .tc := ⟨.hbm, 303, rfl⟩
abbrev main_while0b_call1_call0_v114 : Ref sig .tc := ⟨.hbm, 304, rfl⟩
abbrev main_while0b_call1_call0_v115 : Ref sig .tc := ⟨.hbm, 305, rfl⟩
abbrev main_while0b_call1_call0_c_29 : Ref sig .tc := ⟨.hbm, 306, rfl⟩
abbrev main_while0b_call1_call0_v116 : Ref sig .tc := ⟨.hbm, 307, rfl⟩
abbrev main_while0b_call1_call0_v117 : Ref sig .tc := ⟨.hbm, 308, rfl⟩
abbrev main_while0b_call1_call0_c_30 : Ref sig .tc := ⟨.hbm, 309, rfl⟩
abbrev main_while0b_call1_call0_v118 : Ref sig .tc := ⟨.hbm, 310, rfl⟩
abbrev main_while0b_call1_call0_v119 : Ref sig .tc := ⟨.hbm, 311, rfl⟩
abbrev main_while0b_call1_call0_v120 : Ref sig .tc := ⟨.hbm, 312, rfl⟩
abbrev main_while0b_call1_call0_v121 : Ref sig .tc := ⟨.hbm, 313, rfl⟩
abbrev main_while0b_call1_call0_v122 : Ref sig .tc := ⟨.hbm, 314, rfl⟩
abbrev main_while0b_call1_call0_c_31 : Ref sig .tc := ⟨.hbm, 315, rfl⟩
abbrev main_while0b_call1_call0_v123 : Ref sig .tc := ⟨.hbm, 316, rfl⟩
abbrev main_while0b_call1_call0_v124 : Ref sig .tc := ⟨.hbm, 317, rfl⟩
abbrev main_while0b_call1_call0_c_32 : Ref sig .tc := ⟨.hbm, 318, rfl⟩
abbrev main_while0b_call1_call0_v125 : Ref sig .tc := ⟨.hbm, 319, rfl⟩
abbrev main_while0b_call1_call0_v126 : Ref sig .tc := ⟨.hbm, 320, rfl⟩
abbrev main_while0b_call1_call0_v127 : Ref sig .tc := ⟨.hbm, 321, rfl⟩
abbrev main_while0b_call1_call0_v128 : Ref sig .tc := ⟨.hbm, 322, rfl⟩
abbrev main_while0b_call1_call0_v129 : Ref sig .tc := ⟨.hbm, 323, rfl⟩
abbrev main_while0b_call1_call0_c_33 : Ref sig .tc := ⟨.hbm, 324, rfl⟩
abbrev main_while0b_call1_call0_v130 : Ref sig .tc := ⟨.hbm, 325, rfl⟩
abbrev main_while0b_call1_call0_v131 : Ref sig .tc := ⟨.hbm, 326, rfl⟩
abbrev main_while0b_call1_call0_c_34 : Ref sig .tc := ⟨.hbm, 327, rfl⟩
abbrev main_while0b_call1_call0_v132 : Ref sig .tc := ⟨.hbm, 328, rfl⟩
abbrev main_while0b_call1_call0_v133 : Ref sig .tc := ⟨.hbm, 329, rfl⟩
abbrev main_while0b_call1_call0_v134 : Ref sig .tc := ⟨.hbm, 330, rfl⟩
abbrev main_while0b_call1_call0_v135 : Ref sig .tc := ⟨.hbm, 331, rfl⟩
abbrev main_while0b_call1_call0_v136 : Ref sig .tc := ⟨.hbm, 332, rfl⟩
abbrev main_while0b_call1_call0_v137 : Ref sig .tc := ⟨.hbm, 333, rfl⟩
abbrev main_while0b_call1_call0_v138 : Ref sig .tc := ⟨.hbm, 334, rfl⟩
abbrev main_while0b_call1_call0_v139 : Ref sig .tc := ⟨.hbm, 335, rfl⟩
abbrev main_while0b_call1_call0_c_35 : Ref sig .tc := ⟨.hbm, 336, rfl⟩
abbrev main_while0b_call1_call0_v140 : Ref sig .tc := ⟨.hbm, 337, rfl⟩
abbrev main_while0b_call1_call0_v141 : Ref sig .tc := ⟨.hbm, 338, rfl⟩
abbrev main_while0b_call1_call0_v142 : Ref sig .tc := ⟨.hbm, 339, rfl⟩
abbrev main_while0b_call1_call0_c_36 : Ref sig .tc := ⟨.hbm, 340, rfl⟩
abbrev main_while0b_call1_call0_v143 : Ref sig .tc := ⟨.hbm, 341, rfl⟩
abbrev main_while0b_call1_call0_v144 : Ref sig .tc := ⟨.hbm, 342, rfl⟩
abbrev main_while0b_call1_call0_c_37 : Ref sig .tc := ⟨.hbm, 343, rfl⟩
abbrev main_while0b_call1_call0_v145 : Ref sig .tc := ⟨.hbm, 344, rfl⟩
abbrev main_while0b_call1_call0_v146 : Ref sig .tc := ⟨.hbm, 345, rfl⟩
abbrev main_while0b_call1_call0_v147 : Ref sig .tc := ⟨.hbm, 346, rfl⟩
abbrev main_while0b_call1_call0_v148 : Ref sig .tc := ⟨.hbm, 347, rfl⟩
abbrev main_while0b_call1_call0_v149 : Ref sig .tc := ⟨.hbm, 348, rfl⟩
abbrev main_while0b_call1_call0_c_38 : Ref sig .tc := ⟨.hbm, 349, rfl⟩
abbrev main_while0b_call1_call0_v150 : Ref sig .tc := ⟨.hbm, 350, rfl⟩
abbrev main_while0b_call1_call0_v151 : Ref sig .tc := ⟨.hbm, 351, rfl⟩
abbrev main_while0b_call1_call0_c_39 : Ref sig .tc := ⟨.hbm, 352, rfl⟩
abbrev main_while0b_call1_call0_v152 : Ref sig .tc := ⟨.hbm, 353, rfl⟩
abbrev main_while0b_call1_call0_v153 : Ref sig .tc := ⟨.hbm, 354, rfl⟩
abbrev main_while0b_call1_call0_v154 : Ref sig .tc := ⟨.hbm, 355, rfl⟩
abbrev main_while0b_call1_call0_v155 : Ref sig .tc := ⟨.hbm, 356, rfl⟩
abbrev main_while0b_call1_call0_v156 : Ref sig .tc := ⟨.hbm, 357, rfl⟩
abbrev main_while0b_call1_call0_c_40 : Ref sig .tc := ⟨.hbm, 358, rfl⟩
abbrev main_while0b_call1_call0_v157 : Ref sig .tc := ⟨.hbm, 359, rfl⟩
abbrev main_while0b_call1_call0_v158 : Ref sig .tc := ⟨.hbm, 360, rfl⟩
abbrev main_while0b_call1_call0_c_41 : Ref sig .tc := ⟨.hbm, 361, rfl⟩
abbrev main_while0b_call1_call0_v159 : Ref sig .tc := ⟨.hbm, 362, rfl⟩
abbrev main_while0b_call1_call0_v160 : Ref sig .tc := ⟨.hbm, 363, rfl⟩
abbrev main_while0b_call1_call0_v161 : Ref sig .tc := ⟨.hbm, 364, rfl⟩
abbrev main_while0b_call1_call0_v162 : Ref sig .tc := ⟨.hbm, 365, rfl⟩
abbrev main_while0b_call1_call0_v163 : Ref sig .tc := ⟨.hbm, 366, rfl⟩
abbrev main_while0b_call1_call0_c_42 : Ref sig .tc := ⟨.hbm, 367, rfl⟩
abbrev main_while0b_call1_call0_v164 : Ref sig .tc := ⟨.hbm, 368, rfl⟩
abbrev main_while0b_call1_call0_v165 : Ref sig .tc := ⟨.hbm, 369, rfl⟩
abbrev main_while0b_call1_call0_c_43 : Ref sig .tc := ⟨.hbm, 370, rfl⟩
abbrev main_while0b_call1_call0_v166 : Ref sig .tc := ⟨.hbm, 371, rfl⟩
abbrev main_while0b_call1_call0_v167 : Ref sig .tc := ⟨.hbm, 372, rfl⟩
abbrev main_while0b_call1_call0_v168 : Ref sig .tc := ⟨.hbm, 373, rfl⟩
abbrev main_while0b_call1_call0_v169 : Ref sig .tc := ⟨.hbm, 374, rfl⟩
abbrev main_while0b_call1_call0_v170 : Ref sig .tc := ⟨.hbm, 375, rfl⟩
abbrev main_while0b_call1_v11_0 : Ref sig .tc := ⟨.hbm, 376, rfl⟩
abbrev main_while0b_call1_call0_v172 : Ref sig .tc := ⟨.hbm, 377, rfl⟩
abbrev main_while0b_call1_call0_v173 : Ref sig .tc := ⟨.hbm, 378, rfl⟩
abbrev main_while0b_call1_call0_c_44 : Ref sig .tc := ⟨.hbm, 379, rfl⟩
abbrev main_while0b_call1_call0_v174 : Ref sig .tc := ⟨.hbm, 380, rfl⟩
abbrev main_while0b_call1_v11_1 : Ref sig .tc := ⟨.hbm, 381, rfl⟩
abbrev main_while0b_v83 : Ref sig .tc := ⟨.hbm, 382, rfl⟩
abbrev main_while0b_values : Ref sig .tc := ⟨.hbm, 383, rfl⟩
abbrev main_while0b_indices : Ref sig .tc := ⟨.hbm, 384, rfl⟩
abbrev main_while0b_cst_33 : Ref sig .tc := ⟨.hbm, 385, rfl⟩
abbrev main_while0b_v84 : Ref sig .tc := ⟨.hbm, 386, rfl⟩
abbrev main_while0b_v85 : Ref sig .tc := ⟨.hbm, 387, rfl⟩
abbrev main_while0b_v86 : Ref sig .tc := ⟨.hbm, 388, rfl⟩
abbrev main_while0b_call2_cst : Ref sig .tc := ⟨.hbm, 389, rfl⟩
abbrev main_while0b_call2_cst_0 : Ref sig .tc := ⟨.hbm, 390, rfl⟩
abbrev main_while0b_call2_call0_v0 : Ref sig .tc := ⟨.hbm, 391, rfl⟩
abbrev main_while0b_call2_call0_v1 : Ref sig .tc := ⟨.hbm, 392, rfl⟩
abbrev main_while0b_call2_call0_v2 : Ref sig .tc := ⟨.hbm, 393, rfl⟩
abbrev main_while0b_call2_call0_v3 : Ref sig .tc := ⟨.hbm, 394, rfl⟩
abbrev main_while0b_call2_call0_v4 : Ref sig .tc := ⟨.hbm, 395, rfl⟩
abbrev main_while0b_call2_call0_v5 : Ref sig .tc := ⟨.hbm, 396, rfl⟩
abbrev main_while0b_call2_call0_v6 : Ref sig .tc := ⟨.hbm, 397, rfl⟩
abbrev main_while0b_call2_call0_v7 : Ref sig .tc := ⟨.hbm, 398, rfl⟩
abbrev main_while0b_call2_call0_v8 : Ref sig .tc := ⟨.hbm, 399, rfl⟩
abbrev main_while0b_call2_call0_c : Ref sig .tc := ⟨.hbm, 400, rfl⟩
abbrev main_while0b_call2_call0_v9 : Ref sig .tc := ⟨.hbm, 401, rfl⟩
abbrev main_while0b_call2_call0_v10 : Ref sig .tc := ⟨.hbm, 402, rfl⟩
abbrev main_while0b_call2_call0_c_0 : Ref sig .tc := ⟨.hbm, 403, rfl⟩
abbrev main_while0b_call2_call0_v11 : Ref sig .tc := ⟨.hbm, 404, rfl⟩
abbrev main_while0b_call2_call0_v12 : Ref sig .tc := ⟨.hbm, 405, rfl⟩
abbrev main_while0b_call2_call0_v13 : Ref sig .tc := ⟨.hbm, 406, rfl⟩
abbrev main_while0b_call2_call0_c_1 : Ref sig .tc := ⟨.hbm, 407, rfl⟩
abbrev main_while0b_call2_call0_v14 : Ref sig .tc := ⟨.hbm, 408, rfl⟩
abbrev main_while0b_call2_call0_v15 : Ref sig .tc := ⟨.hbm, 409, rfl⟩
abbrev main_while0b_call2_call0_v16 : Ref sig .tc := ⟨.hbm, 410, rfl⟩
abbrev main_while0b_call2_call0_v17 : Ref sig .tc := ⟨.hbm, 411, rfl⟩
abbrev main_while0b_call2_call0_call0_v0 : Ref sig .tc := ⟨.hbm, 412, rfl⟩
abbrev main_while0b_call2_call0_call0_c : Ref sig .tc := ⟨.hbm, 413, rfl⟩
abbrev main_while0b_call2_call0_call0_v1 : Ref sig .tc := ⟨.hbm, 414, rfl⟩
abbrev main_while0b_call2_call0_call0_v2 : Ref sig .tc := ⟨.hbm, 415, rfl⟩
abbrev main_while0b_call2_call0_call0_v3 : Ref sig .tc := ⟨.hbm, 416, rfl⟩
abbrev main_while0b_call2_call0_call0_v4 : Ref sig .tc := ⟨.hbm, 417, rfl⟩
abbrev main_while0b_call2_call0_call0_v5 : Ref sig .tc := ⟨.hbm, 418, rfl⟩
abbrev main_while0b_call2_call0_call0_v6 : Ref sig .tc := ⟨.hbm, 419, rfl⟩
abbrev main_while0b_call2_call0_call0_c_0 : Ref sig .tc := ⟨.hbm, 420, rfl⟩
abbrev main_while0b_call2_call0_call0_v7 : Ref sig .tc := ⟨.hbm, 421, rfl⟩
abbrev main_while0b_call2_call0_call0_v8 : Ref sig .tc := ⟨.hbm, 422, rfl⟩
abbrev main_while0b_call2_call0_call0_c_1 : Ref sig .tc := ⟨.hbm, 423, rfl⟩
abbrev main_while0b_call2_call0_call0_v9 : Ref sig .tc := ⟨.hbm, 424, rfl⟩
abbrev main_while0b_call2_call0_call0_v10 : Ref sig .tc := ⟨.hbm, 425, rfl⟩
abbrev main_while0b_call2_call0_call0_v11 : Ref sig .tc := ⟨.hbm, 426, rfl⟩
abbrev main_while0b_call2_call0_call0_v12 : Ref sig .tc := ⟨.hbm, 427, rfl⟩
abbrev main_while0b_call2_call0_call0_v13 : Ref sig .tc := ⟨.hbm, 428, rfl⟩
abbrev main_while0b_call2_call0_call0_c_2 : Ref sig .tc := ⟨.hbm, 429, rfl⟩
abbrev main_while0b_call2_call0_call0_v14 : Ref sig .tc := ⟨.hbm, 430, rfl⟩
abbrev main_while0b_call2_call0_call0_v15 : Ref sig .tc := ⟨.hbm, 431, rfl⟩
abbrev main_while0b_call2_call0_call0_c_3 : Ref sig .tc := ⟨.hbm, 432, rfl⟩
abbrev main_while0b_call2_call0_call0_v16 : Ref sig .tc := ⟨.hbm, 433, rfl⟩
abbrev main_while0b_call2_call0_call0_v17 : Ref sig .tc := ⟨.hbm, 434, rfl⟩
abbrev main_while0b_call2_call0_call0_v18 : Ref sig .tc := ⟨.hbm, 435, rfl⟩
abbrev main_while0b_call2_call0_call0_v19 : Ref sig .tc := ⟨.hbm, 436, rfl⟩
abbrev main_while0b_call2_call0_call0_v20 : Ref sig .tc := ⟨.hbm, 437, rfl⟩
abbrev main_while0b_call2_call0_call0_c_4 : Ref sig .tc := ⟨.hbm, 438, rfl⟩
abbrev main_while0b_call2_call0_call0_v21 : Ref sig .tc := ⟨.hbm, 439, rfl⟩
abbrev main_while0b_call2_call0_call0_v22 : Ref sig .tc := ⟨.hbm, 440, rfl⟩
abbrev main_while0b_call2_call0_call0_c_5 : Ref sig .tc := ⟨.hbm, 441, rfl⟩
abbrev main_while0b_call2_call0_call0_v23 : Ref sig .tc := ⟨.hbm, 442, rfl⟩
abbrev main_while0b_call2_call0_call0_v24 : Ref sig .tc := ⟨.hbm, 443, rfl⟩
abbrev main_while0b_call2_call0_call0_v25 : Ref sig .tc := ⟨.hbm, 444, rfl⟩
abbrev main_while0b_call2_call0_call0_v26 : Ref sig .tc := ⟨.hbm, 445, rfl⟩
abbrev main_while0b_call2_call0_call0_v27 : Ref sig .tc := ⟨.hbm, 446, rfl⟩
abbrev main_while0b_call2_call0_call0_c_6 : Ref sig .tc := ⟨.hbm, 447, rfl⟩
abbrev main_while0b_call2_call0_call0_v28 : Ref sig .tc := ⟨.hbm, 448, rfl⟩
abbrev main_while0b_call2_call0_call0_v29 : Ref sig .tc := ⟨.hbm, 449, rfl⟩
abbrev main_while0b_call2_call0_call0_c_7 : Ref sig .tc := ⟨.hbm, 450, rfl⟩
abbrev main_while0b_call2_call0_call0_v30 : Ref sig .tc := ⟨.hbm, 451, rfl⟩
abbrev main_while0b_call2_call0_call0_v31 : Ref sig .tc := ⟨.hbm, 452, rfl⟩
abbrev main_while0b_call2_call0_call0_v32 : Ref sig .tc := ⟨.hbm, 453, rfl⟩
abbrev main_while0b_call2_call0_call0_v33 : Ref sig .tc := ⟨.hbm, 454, rfl⟩
abbrev main_while0b_call2_call0_call0_v34 : Ref sig .tc := ⟨.hbm, 455, rfl⟩
abbrev main_while0b_call2_call0_call0_v35 : Ref sig .tc := ⟨.hbm, 456, rfl⟩
abbrev main_while0b_call2_call0_call0_v36 : Ref sig .tc := ⟨.hbm, 457, rfl⟩
abbrev main_while0b_call2_call0_call0_v37 : Ref sig .tc := ⟨.hbm, 458, rfl⟩
abbrev main_while0b_call2_call0_call0_c_8 : Ref sig .tc := ⟨.hbm, 459, rfl⟩
abbrev main_while0b_call2_call0_call0_v38 : Ref sig .tc := ⟨.hbm, 460, rfl⟩
abbrev main_while0b_call2_call0_call0_v39 : Ref sig .tc := ⟨.hbm, 461, rfl⟩
abbrev main_while0b_call2_call0_call0_v40 : Ref sig .tc := ⟨.hbm, 462, rfl⟩
abbrev main_while0b_call2_call0_call0_c_9 : Ref sig .tc := ⟨.hbm, 463, rfl⟩
abbrev main_while0b_call2_call0_call0_v41 : Ref sig .tc := ⟨.hbm, 464, rfl⟩
abbrev main_while0b_call2_call0_call0_v42 : Ref sig .tc := ⟨.hbm, 465, rfl⟩
abbrev main_while0b_call2_call0_call0_c_10 : Ref sig .tc := ⟨.hbm, 466, rfl⟩
abbrev main_while0b_call2_call0_call0_v43 : Ref sig .tc := ⟨.hbm, 467, rfl⟩
abbrev main_while0b_call2_call0_call0_v44 : Ref sig .tc := ⟨.hbm, 468, rfl⟩
abbrev main_while0b_call2_call0_call0_v45 : Ref sig .tc := ⟨.hbm, 469, rfl⟩
abbrev main_while0b_call2_call0_call0_v46 : Ref sig .tc := ⟨.hbm, 470, rfl⟩
abbrev main_while0b_call2_call0_call0_v47 : Ref sig .tc := ⟨.hbm, 471, rfl⟩
abbrev main_while0b_call2_call0_call0_c_11 : Ref sig .tc := ⟨.hbm, 472, rfl⟩
abbrev main_while0b_call2_call0_call0_v48 : Ref sig .tc := ⟨.hbm, 473, rfl⟩
abbrev main_while0b_call2_call0_call0_v49 : Ref sig .tc := ⟨.hbm, 474, rfl⟩
abbrev main_while0b_call2_call0_call0_c_12 : Ref sig .tc := ⟨.hbm, 475, rfl⟩
abbrev main_while0b_call2_call0_call0_v50 : Ref sig .tc := ⟨.hbm, 476, rfl⟩
abbrev main_while0b_call2_call0_call0_v51 : Ref sig .tc := ⟨.hbm, 477, rfl⟩
abbrev main_while0b_call2_call0_call0_v52 : Ref sig .tc := ⟨.hbm, 478, rfl⟩
abbrev main_while0b_call2_call0_call0_v53 : Ref sig .tc := ⟨.hbm, 479, rfl⟩
abbrev main_while0b_call2_call0_call0_v54 : Ref sig .tc := ⟨.hbm, 480, rfl⟩
abbrev main_while0b_call2_call0_call0_c_13 : Ref sig .tc := ⟨.hbm, 481, rfl⟩
abbrev main_while0b_call2_call0_call0_v55 : Ref sig .tc := ⟨.hbm, 482, rfl⟩
abbrev main_while0b_call2_call0_call0_v56 : Ref sig .tc := ⟨.hbm, 483, rfl⟩
abbrev main_while0b_call2_call0_call0_c_14 : Ref sig .tc := ⟨.hbm, 484, rfl⟩
abbrev main_while0b_call2_call0_call0_v57 : Ref sig .tc := ⟨.hbm, 485, rfl⟩
abbrev main_while0b_call2_call0_call0_v58 : Ref sig .tc := ⟨.hbm, 486, rfl⟩
abbrev main_while0b_call2_call0_call0_v59 : Ref sig .tc := ⟨.hbm, 487, rfl⟩
abbrev main_while0b_call2_call0_call0_v60 : Ref sig .tc := ⟨.hbm, 488, rfl⟩
abbrev main_while0b_call2_call0_call0_v61 : Ref sig .tc := ⟨.hbm, 489, rfl⟩
abbrev main_while0b_call2_call0_call0_c_15 : Ref sig .tc := ⟨.hbm, 490, rfl⟩
abbrev main_while0b_call2_call0_call0_v62 : Ref sig .tc := ⟨.hbm, 491, rfl⟩
abbrev main_while0b_call2_call0_call0_v63 : Ref sig .tc := ⟨.hbm, 492, rfl⟩
abbrev main_while0b_call2_call0_call0_c_16 : Ref sig .tc := ⟨.hbm, 493, rfl⟩
abbrev main_while0b_call2_call0_call0_v64 : Ref sig .tc := ⟨.hbm, 494, rfl⟩
abbrev main_while0b_call2_call0_call0_v65 : Ref sig .tc := ⟨.hbm, 495, rfl⟩
abbrev main_while0b_call2_call0_call0_v66 : Ref sig .tc := ⟨.hbm, 496, rfl⟩
abbrev main_while0b_call2_call0_call0_v67 : Ref sig .tc := ⟨.hbm, 497, rfl⟩
abbrev main_while0b_call2_call0_call0_v68 : Ref sig .tc := ⟨.hbm, 498, rfl⟩
abbrev main_while0b_call2_call0_call0_v69 : Ref sig .tc := ⟨.hbm, 499, rfl⟩
abbrev main_while0b_call2_call0_call0_v70 : Ref sig .tc := ⟨.hbm, 500, rfl⟩
abbrev main_while0b_call2_call0_call0_v71 : Ref sig .tc := ⟨.hbm, 501, rfl⟩
abbrev main_while0b_call2_call0_call0_c_17 : Ref sig .tc := ⟨.hbm, 502, rfl⟩
abbrev main_while0b_call2_call0_call0_v72 : Ref sig .tc := ⟨.hbm, 503, rfl⟩
abbrev main_while0b_call2_call0_call0_v73 : Ref sig .tc := ⟨.hbm, 504, rfl⟩
abbrev main_while0b_call2_call0_call0_v74 : Ref sig .tc := ⟨.hbm, 505, rfl⟩
abbrev main_while0b_call2_call0_call0_c_18 : Ref sig .tc := ⟨.hbm, 506, rfl⟩
abbrev main_while0b_call2_call0_call0_v75 : Ref sig .tc := ⟨.hbm, 507, rfl⟩
abbrev main_while0b_call2_call0_call0_v76 : Ref sig .tc := ⟨.hbm, 508, rfl⟩
abbrev main_while0b_call2_call0_call0_c_19 : Ref sig .tc := ⟨.hbm, 509, rfl⟩
abbrev main_while0b_call2_call0_call0_v77 : Ref sig .tc := ⟨.hbm, 510, rfl⟩
abbrev main_while0b_call2_call0_call0_v78 : Ref sig .tc := ⟨.hbm, 511, rfl⟩
abbrev main_while0b_call2_call0_call0_v79 : Ref sig .tc := ⟨.hbm, 512, rfl⟩
abbrev main_while0b_call2_call0_call0_v80 : Ref sig .tc := ⟨.hbm, 513, rfl⟩
abbrev main_while0b_call2_call0_call0_v81 : Ref sig .tc := ⟨.hbm, 514, rfl⟩
abbrev main_while0b_call2_call0_call0_c_20 : Ref sig .tc := ⟨.hbm, 515, rfl⟩
abbrev main_while0b_call2_call0_call0_v82 : Ref sig .tc := ⟨.hbm, 516, rfl⟩
abbrev main_while0b_call2_call0_call0_v83 : Ref sig .tc := ⟨.hbm, 517, rfl⟩
abbrev main_while0b_call2_call0_call0_c_21 : Ref sig .tc := ⟨.hbm, 518, rfl⟩
abbrev main_while0b_call2_call0_call0_v84 : Ref sig .tc := ⟨.hbm, 519, rfl⟩
abbrev main_while0b_call2_call0_call0_v85 : Ref sig .tc := ⟨.hbm, 520, rfl⟩
abbrev main_while0b_call2_call0_call0_v86 : Ref sig .tc := ⟨.hbm, 521, rfl⟩
abbrev main_while0b_call2_call0_call0_v87 : Ref sig .tc := ⟨.hbm, 522, rfl⟩
abbrev main_while0b_call2_call0_call0_v88 : Ref sig .tc := ⟨.hbm, 523, rfl⟩
abbrev main_while0b_call2_call0_call0_c_22 : Ref sig .tc := ⟨.hbm, 524, rfl⟩
abbrev main_while0b_call2_call0_call0_v89 : Ref sig .tc := ⟨.hbm, 525, rfl⟩
abbrev main_while0b_call2_call0_call0_v90 : Ref sig .tc := ⟨.hbm, 526, rfl⟩
abbrev main_while0b_call2_call0_call0_c_23 : Ref sig .tc := ⟨.hbm, 527, rfl⟩
abbrev main_while0b_call2_call0_call0_v91 : Ref sig .tc := ⟨.hbm, 528, rfl⟩
abbrev main_while0b_call2_call0_call0_v92 : Ref sig .tc := ⟨.hbm, 529, rfl⟩
abbrev main_while0b_call2_call0_call0_v93 : Ref sig .tc := ⟨.hbm, 530, rfl⟩
abbrev main_while0b_call2_call0_call0_v94 : Ref sig .tc := ⟨.hbm, 531, rfl⟩
abbrev main_while0b_call2_call0_call0_v95 : Ref sig .tc := ⟨.hbm, 532, rfl⟩
abbrev main_while0b_call2_call0_call0_c_24 : Ref sig .tc := ⟨.hbm, 533, rfl⟩
abbrev main_while0b_call2_call0_call0_v96 : Ref sig .tc := ⟨.hbm, 534, rfl⟩
abbrev main_while0b_call2_call0_call0_v97 : Ref sig .tc := ⟨.hbm, 535, rfl⟩
abbrev main_while0b_call2_call0_call0_c_25 : Ref sig .tc := ⟨.hbm, 536, rfl⟩
abbrev main_while0b_call2_call0_call0_v98 : Ref sig .tc := ⟨.hbm, 537, rfl⟩
abbrev main_while0b_call2_call0_call0_v99 : Ref sig .tc := ⟨.hbm, 538, rfl⟩
abbrev main_while0b_call2_call0_call0_v100 : Ref sig .tc := ⟨.hbm, 539, rfl⟩
abbrev main_while0b_call2_call0_call0_v101 : Ref sig .tc := ⟨.hbm, 540, rfl⟩
abbrev main_while0b_call2_call0_call0_v102 : Ref sig .tc := ⟨.hbm, 541, rfl⟩
abbrev main_while0b_call2_call0_call0_v103 : Ref sig .tc := ⟨.hbm, 542, rfl⟩
abbrev main_while0b_call2_call0_call0_v104 : Ref sig .tc := ⟨.hbm, 543, rfl⟩
abbrev main_while0b_call2_call0_call0_v105 : Ref sig .tc := ⟨.hbm, 544, rfl⟩
abbrev main_while0b_call2_call0_call0_c_26 : Ref sig .tc := ⟨.hbm, 545, rfl⟩
abbrev main_while0b_call2_call0_call0_v106 : Ref sig .tc := ⟨.hbm, 546, rfl⟩
abbrev main_while0b_call2_call0_call0_v107 : Ref sig .tc := ⟨.hbm, 547, rfl⟩
abbrev main_while0b_call2_call0_call0_v108 : Ref sig .tc := ⟨.hbm, 548, rfl⟩
abbrev main_while0b_call2_call0_call0_c_27 : Ref sig .tc := ⟨.hbm, 549, rfl⟩
abbrev main_while0b_call2_call0_call0_v109 : Ref sig .tc := ⟨.hbm, 550, rfl⟩
abbrev main_while0b_call2_call0_call0_v110 : Ref sig .tc := ⟨.hbm, 551, rfl⟩
abbrev main_while0b_call2_call0_call0_c_28 : Ref sig .tc := ⟨.hbm, 552, rfl⟩
abbrev main_while0b_call2_call0_call0_v111 : Ref sig .tc := ⟨.hbm, 553, rfl⟩
abbrev main_while0b_call2_call0_call0_v112 : Ref sig .tc := ⟨.hbm, 554, rfl⟩
abbrev main_while0b_call2_call0_call0_v113 : Ref sig .tc := ⟨.hbm, 555, rfl⟩
abbrev main_while0b_call2_call0_call0_v114 : Ref sig .tc := ⟨.hbm, 556, rfl⟩
abbrev main_while0b_call2_call0_call0_v115 : Ref sig .tc := ⟨.hbm, 557, rfl⟩
abbrev main_while0b_call2_call0_call0_c_29 : Ref sig .tc := ⟨.hbm, 558, rfl⟩
abbrev main_while0b_call2_call0_call0_v116 : Ref sig .tc := ⟨.hbm, 559, rfl⟩
abbrev main_while0b_call2_call0_call0_v117 : Ref sig .tc := ⟨.hbm, 560, rfl⟩
abbrev main_while0b_call2_call0_call0_c_30 : Ref sig .tc := ⟨.hbm, 561, rfl⟩
abbrev main_while0b_call2_call0_call0_v118 : Ref sig .tc := ⟨.hbm, 562, rfl⟩
abbrev main_while0b_call2_call0_call0_v119 : Ref sig .tc := ⟨.hbm, 563, rfl⟩
abbrev main_while0b_call2_call0_call0_v120 : Ref sig .tc := ⟨.hbm, 564, rfl⟩
abbrev main_while0b_call2_call0_call0_v121 : Ref sig .tc := ⟨.hbm, 565, rfl⟩
abbrev main_while0b_call2_call0_call0_v122 : Ref sig .tc := ⟨.hbm, 566, rfl⟩
abbrev main_while0b_call2_call0_call0_c_31 : Ref sig .tc := ⟨.hbm, 567, rfl⟩
abbrev main_while0b_call2_call0_call0_v123 : Ref sig .tc := ⟨.hbm, 568, rfl⟩
abbrev main_while0b_call2_call0_call0_v124 : Ref sig .tc := ⟨.hbm, 569, rfl⟩
abbrev main_while0b_call2_call0_call0_c_32 : Ref sig .tc := ⟨.hbm, 570, rfl⟩
abbrev main_while0b_call2_call0_call0_v125 : Ref sig .tc := ⟨.hbm, 571, rfl⟩
abbrev main_while0b_call2_call0_call0_v126 : Ref sig .tc := ⟨.hbm, 572, rfl⟩
abbrev main_while0b_call2_call0_call0_v127 : Ref sig .tc := ⟨.hbm, 573, rfl⟩
abbrev main_while0b_call2_call0_call0_v128 : Ref sig .tc := ⟨.hbm, 574, rfl⟩
abbrev main_while0b_call2_call0_call0_v129 : Ref sig .tc := ⟨.hbm, 575, rfl⟩
abbrev main_while0b_call2_call0_call0_c_33 : Ref sig .tc := ⟨.hbm, 576, rfl⟩
abbrev main_while0b_call2_call0_call0_v130 : Ref sig .tc := ⟨.hbm, 577, rfl⟩
abbrev main_while0b_call2_call0_call0_v131 : Ref sig .tc := ⟨.hbm, 578, rfl⟩
abbrev main_while0b_call2_call0_call0_c_34 : Ref sig .tc := ⟨.hbm, 579, rfl⟩
abbrev main_while0b_call2_call0_call0_v132 : Ref sig .tc := ⟨.hbm, 580, rfl⟩
abbrev main_while0b_call2_call0_call0_v133 : Ref sig .tc := ⟨.hbm, 581, rfl⟩
abbrev main_while0b_call2_call0_call0_v134 : Ref sig .tc := ⟨.hbm, 582, rfl⟩
abbrev main_while0b_call2_call0_call0_v135 : Ref sig .tc := ⟨.hbm, 583, rfl⟩
abbrev main_while0b_call2_call0_call0_v136 : Ref sig .tc := ⟨.hbm, 584, rfl⟩
abbrev main_while0b_call2_call0_call0_v137 : Ref sig .tc := ⟨.hbm, 585, rfl⟩
abbrev main_while0b_call2_call0_call0_v138 : Ref sig .tc := ⟨.hbm, 586, rfl⟩
abbrev main_while0b_call2_call0_call0_v139 : Ref sig .tc := ⟨.hbm, 587, rfl⟩
abbrev main_while0b_call2_call0_call0_c_35 : Ref sig .tc := ⟨.hbm, 588, rfl⟩
abbrev main_while0b_call2_call0_call0_v140 : Ref sig .tc := ⟨.hbm, 589, rfl⟩
abbrev main_while0b_call2_call0_call0_v141 : Ref sig .tc := ⟨.hbm, 590, rfl⟩
abbrev main_while0b_call2_call0_call0_v142 : Ref sig .tc := ⟨.hbm, 591, rfl⟩
abbrev main_while0b_call2_call0_call0_c_36 : Ref sig .tc := ⟨.hbm, 592, rfl⟩
abbrev main_while0b_call2_call0_call0_v143 : Ref sig .tc := ⟨.hbm, 593, rfl⟩
abbrev main_while0b_call2_call0_call0_v144 : Ref sig .tc := ⟨.hbm, 594, rfl⟩
abbrev main_while0b_call2_call0_call0_c_37 : Ref sig .tc := ⟨.hbm, 595, rfl⟩
abbrev main_while0b_call2_call0_call0_v145 : Ref sig .tc := ⟨.hbm, 596, rfl⟩
abbrev main_while0b_call2_call0_call0_v146 : Ref sig .tc := ⟨.hbm, 597, rfl⟩
abbrev main_while0b_call2_call0_call0_v147 : Ref sig .tc := ⟨.hbm, 598, rfl⟩
abbrev main_while0b_call2_call0_call0_v148 : Ref sig .tc := ⟨.hbm, 599, rfl⟩
abbrev main_while0b_call2_call0_call0_v149 : Ref sig .tc := ⟨.hbm, 600, rfl⟩
abbrev main_while0b_call2_call0_call0_c_38 : Ref sig .tc := ⟨.hbm, 601, rfl⟩
abbrev main_while0b_call2_call0_call0_v150 : Ref sig .tc := ⟨.hbm, 602, rfl⟩
abbrev main_while0b_call2_call0_call0_v151 : Ref sig .tc := ⟨.hbm, 603, rfl⟩
abbrev main_while0b_call2_call0_call0_c_39 : Ref sig .tc := ⟨.hbm, 604, rfl⟩
abbrev main_while0b_call2_call0_call0_v152 : Ref sig .tc := ⟨.hbm, 605, rfl⟩
abbrev main_while0b_call2_call0_call0_v153 : Ref sig .tc := ⟨.hbm, 606, rfl⟩
abbrev main_while0b_call2_call0_call0_v154 : Ref sig .tc := ⟨.hbm, 607, rfl⟩
abbrev main_while0b_call2_call0_call0_v155 : Ref sig .tc := ⟨.hbm, 608, rfl⟩
abbrev main_while0b_call2_call0_call0_v156 : Ref sig .tc := ⟨.hbm, 609, rfl⟩
abbrev main_while0b_call2_call0_call0_c_40 : Ref sig .tc := ⟨.hbm, 610, rfl⟩
abbrev main_while0b_call2_call0_call0_v157 : Ref sig .tc := ⟨.hbm, 611, rfl⟩
abbrev main_while0b_call2_call0_call0_v158 : Ref sig .tc := ⟨.hbm, 612, rfl⟩
abbrev main_while0b_call2_call0_call0_c_41 : Ref sig .tc := ⟨.hbm, 613, rfl⟩
abbrev main_while0b_call2_call0_call0_v159 : Ref sig .tc := ⟨.hbm, 614, rfl⟩
abbrev main_while0b_call2_call0_call0_v160 : Ref sig .tc := ⟨.hbm, 615, rfl⟩
abbrev main_while0b_call2_call0_call0_v161 : Ref sig .tc := ⟨.hbm, 616, rfl⟩
abbrev main_while0b_call2_call0_call0_v162 : Ref sig .tc := ⟨.hbm, 617, rfl⟩
abbrev main_while0b_call2_call0_call0_v163 : Ref sig .tc := ⟨.hbm, 618, rfl⟩
abbrev main_while0b_call2_call0_call0_c_42 : Ref sig .tc := ⟨.hbm, 619, rfl⟩
abbrev main_while0b_call2_call0_call0_v164 : Ref sig .tc := ⟨.hbm, 620, rfl⟩
abbrev main_while0b_call2_call0_call0_v165 : Ref sig .tc := ⟨.hbm, 621, rfl⟩
abbrev main_while0b_call2_call0_call0_c_43 : Ref sig .tc := ⟨.hbm, 622, rfl⟩
abbrev main_while0b_call2_call0_call0_v166 : Ref sig .tc := ⟨.hbm, 623, rfl⟩
abbrev main_while0b_call2_call0_call0_v167 : Ref sig .tc := ⟨.hbm, 624, rfl⟩
abbrev main_while0b_call2_call0_call0_v168 : Ref sig .tc := ⟨.hbm, 625, rfl⟩
abbrev main_while0b_call2_call0_call0_v169 : Ref sig .tc := ⟨.hbm, 626, rfl⟩
abbrev main_while0b_call2_call0_call0_v170 : Ref sig .tc := ⟨.hbm, 627, rfl⟩
abbrev main_while0b_call2_call0_v18_0 : Ref sig .tc := ⟨.hbm, 628, rfl⟩
abbrev main_while0b_call2_call0_call0_v172 : Ref sig .tc := ⟨.hbm, 629, rfl⟩
abbrev main_while0b_call2_call0_call0_v173 : Ref sig .tc := ⟨.hbm, 630, rfl⟩
abbrev main_while0b_call2_call0_call0_c_44 : Ref sig .tc := ⟨.hbm, 631, rfl⟩
abbrev main_while0b_call2_call0_call0_v174 : Ref sig .tc := ⟨.hbm, 632, rfl⟩
abbrev main_while0b_call2_call0_v18_1 : Ref sig .tc := ⟨.hbm, 633, rfl⟩
abbrev main_while0b_call2_call0_v19 : Ref sig .tc := ⟨.hbm, 634, rfl⟩
abbrev main_while0b_call2_call0_c_2 : Ref sig .tc := ⟨.hbm, 635, rfl⟩
abbrev main_while0b_call2_call0_v20 : Ref sig .tc := ⟨.hbm, 636, rfl⟩
abbrev main_while0b_call2_call0_v21 : Ref sig .tc := ⟨.hbm, 637, rfl⟩
abbrev main_while0b_call2_call0_c_3 : Ref sig .tc := ⟨.hbm, 638, rfl⟩
abbrev main_while0b_call2_call0_v22 : Ref sig .tc := ⟨.hbm, 639, rfl⟩
abbrev main_while0b_call2_call0_v23 : Ref sig .tc := ⟨.hbm, 640, rfl⟩
abbrev main_while0b_call2_call0_v24 : Ref sig .tc := ⟨.hbm, 641, rfl⟩
abbrev main_while0b_call2_call0_cst : Ref sig .tc := ⟨.hbm, 642, rfl⟩
abbrev main_while0b_call2_call0_v25 : Ref sig .tc := ⟨.hbm, 643, rfl⟩
abbrev main_while0b_call2_call0_v26 : Ref sig .tc := ⟨.hbm, 644, rfl⟩
abbrev main_while0b_call2_call0_v27 : Ref sig .tc := ⟨.hbm, 645, rfl⟩
abbrev main_while0b_call2_call0_v28 : Ref sig .tc := ⟨.hbm, 646, rfl⟩
abbrev main_while0b_call2_call0_v29 : Ref sig .tc := ⟨.hbm, 647, rfl⟩
abbrev main_while0b_call2_call0_v30 : Ref sig .tc := ⟨.hbm, 648, rfl⟩
abbrev main_while0b_call2_call0_v31 : Ref sig .tc := ⟨.hbm, 649, rfl⟩
abbrev main_while0b_call2_call0_v32 : Ref sig .tc := ⟨.hbm, 650, rfl⟩
abbrev main_while0b_call2_v0 : Ref sig .tc := ⟨.hbm, 651, rfl⟩
abbrev main_while0b_call2_v1 : Ref sig .tc := ⟨.hbm, 652, rfl⟩
abbrev main_while0b_call2_v2 : Ref sig .tc := ⟨.hbm, 653, rfl⟩
abbrev main_while0b_call2_v3 : Ref sig .tc := ⟨.hbm, 654, rfl⟩
abbrev main_while0b_v87 : Ref sig .tc := ⟨.hbm, 655, rfl⟩
abbrev main_while0b_v88 : Ref sig .tc := ⟨.hbm, 656, rfl⟩
abbrev main_while0b_call3_v0 : Ref sig .tc := ⟨.hbm, 657, rfl⟩
abbrev main_while0b_call3_cst : Ref sig .tc := ⟨.hbm, 658, rfl⟩
abbrev main_while0b_call3_c : Ref sig .tc := ⟨.hbm, 659, rfl⟩
abbrev main_while0b_call3_v1_0 : Ref sig .tc := ⟨.hbm, 660, rfl⟩
abbrev main_while0b_v89 : Ref sig .tc := ⟨.hbm, 661, rfl⟩
abbrev main_while0b_v90 : Ref sig .tc := ⟨.hbm, 662, rfl⟩
abbrev main_while0b_call4_c : Ref sig .tc := ⟨.hbm, 663, rfl⟩
abbrev main_while0b_call4_v0 : Ref sig .tc := ⟨.hbm, 664, rfl⟩
abbrev main_while0b_call4_v1 : Ref sig .tc := ⟨.hbm, 665, rfl⟩
abbrev main_while0b_call4_c_0 : Ref sig .tc := ⟨.hbm, 666, rfl⟩
abbrev main_while0b_call4_v2 : Ref sig .tc := ⟨.hbm, 667, rfl⟩
abbrev main_while0b_call4_v3 : Ref sig .tc := ⟨.hbm, 668, rfl⟩
abbrev main_while0b_call4_v4 : Ref sig .tc := ⟨.hbm, 669, rfl⟩
abbrev main_while0b_call4_v5 : Ref sig .tc := ⟨.hbm, 670, rfl⟩
abbrev main_while0b_call4_c_1 : Ref sig .tc := ⟨.hbm, 671, rfl⟩
abbrev main_while0b_call4_c_2 : Ref sig .tc := ⟨.hbm, 672, rfl⟩
abbrev main_while0b_call4_v6 : Ref sig .tc := ⟨.hbm, 673, rfl⟩
abbrev main_while0b_call4_v7 : Ref sig .tc := ⟨.hbm, 674, rfl⟩
abbrev main_while0b_call4_v8 : Ref sig .tc := ⟨.hbm, 675, rfl⟩
abbrev main_while0b_call4_v9 : Ref sig .tc := ⟨.hbm, 676, rfl⟩
abbrev main_while0b_call4_v10 : Ref sig .tc := ⟨.hbm, 677, rfl⟩
abbrev main_while0b_call4_v11 : Ref sig .tc := ⟨.hbm, 678, rfl⟩
abbrev main_while0b_call4_c_3 : Ref sig .tc := ⟨.hbm, 679, rfl⟩
abbrev main_while0b_call4_v12 : Ref sig .tc := ⟨.hbm, 680, rfl⟩
abbrev main_while0b_call4_v13 : Ref sig .tc := ⟨.hbm, 681, rfl⟩
abbrev main_while0b_call4_cst : Ref sig .tc := ⟨.hbm, 682, rfl⟩
abbrev main_while0b_call4_v14 : Ref sig .tc := ⟨.hbm, 683, rfl⟩
abbrev main_while0b_v91 : Ref sig .tc := ⟨.hbm, 684, rfl⟩
abbrev main_while0b_v92 : Ref sig .tc := ⟨.hbm, 685, rfl⟩
abbrev main_while0b_v93 : Ref sig .tc := ⟨.hbm, 686, rfl⟩
abbrev main_while0b_call5_c : Ref sig .tc := ⟨.hbm, 687, rfl⟩
abbrev main_while0b_call5_v0 : Ref sig .tc := ⟨.hbm, 688, rfl⟩
abbrev main_while0b_call5_v1 : Ref sig .tc := ⟨.hbm, 689, rfl⟩
abbrev main_while0b_call5_c_0 : Ref sig .tc := ⟨.hbm, 690, rfl⟩
abbrev main_while0b_call5_v2 : Ref sig .tc := ⟨.hbm, 691, rfl⟩
abbrev main_while0b_call5_v3 : Ref sig .tc := ⟨.hbm, 692, rfl⟩
abbrev main_while0b_call5_v4 : Ref sig .tc := ⟨.hbm, 693, rfl⟩
abbrev main_while0b_call5_v5 : Ref sig .tc := ⟨.hbm, 694, rfl⟩
abbrev main_while0b_call5_c_1 : Ref sig .tc := ⟨.hbm, 695, rfl⟩
abbrev main_while0b_call5_c_2 : Ref sig .tc := ⟨.hbm, 696, rfl⟩
abbrev main_while0b_call5_v6 : Ref sig .tc := ⟨.hbm, 697, rfl⟩
abbrev main_while0b_call5_v7 : Ref sig .tc := ⟨.hbm, 698, rfl⟩
abbrev main_while0b_call5_v8 : Ref sig .tc := ⟨.hbm, 699, rfl⟩
abbrev main_while0b_call5_v9 : Ref sig .tc := ⟨.hbm, 700, rfl⟩
abbrev main_while0b_call5_v10 : Ref sig .tc := ⟨.hbm, 701, rfl⟩
abbrev main_while0b_call5_v11 : Ref sig .tc := ⟨.hbm, 702, rfl⟩
abbrev main_while0b_call5_c_3 : Ref sig .tc := ⟨.hbm, 703, rfl⟩
abbrev main_while0b_call5_v12 : Ref sig .tc := ⟨.hbm, 704, rfl⟩
abbrev main_while0b_call5_v13 : Ref sig .tc := ⟨.hbm, 705, rfl⟩
abbrev main_while0b_call5_c_4 : Ref sig .tc := ⟨.hbm, 706, rfl⟩
abbrev main_while0b_call5_v14 : Ref sig .tc := ⟨.hbm, 707, rfl⟩
abbrev main_while0b_v94 : Ref sig .tc := ⟨.hbm, 708, rfl⟩
abbrev main_while0b_v95 : Ref sig .tc := ⟨.hbm, 709, rfl⟩
abbrev main_while0b_c_34 : Ref sig .tc := ⟨.hbm, 710, rfl⟩
abbrev main_while0b_v96 : Ref sig .tc := ⟨.hbm, 711, rfl⟩
abbrev main_while0b_c_35 : Ref sig .tc := ⟨.hbm, 712, rfl⟩
abbrev main_while0b_v97 : Ref sig .tc := ⟨.hbm, 713, rfl⟩
abbrev main_while0b_v98 : Ref sig .tc := ⟨.hbm, 714, rfl⟩
abbrev main_while0b_v99 : Ref sig .tc := ⟨.hbm, 715, rfl⟩
abbrev main_while0b_v100 : Ref sig .tc := ⟨.hbm, 716, rfl⟩
abbrev main_while0b_v101 : Ref sig .tc := ⟨.hbm, 717, rfl⟩
abbrev main_while0b_c_36 : Ref sig .tc := ⟨.hbm, 718, rfl⟩
abbrev main_while0b_v102 : Ref sig .tc := ⟨.hbm, 719, rfl⟩
abbrev main_while0b_c_37 : Ref sig .tc := ⟨.hbm, 720, rfl⟩
abbrev main_while0b_v103 : Ref sig .tc := ⟨.hbm, 721, rfl⟩
abbrev main_while0b_v104 : Ref sig .tc := ⟨.hbm, 722, rfl⟩
abbrev main_while0b_v105 : Ref sig .tc := ⟨.hbm, 723, rfl⟩
abbrev main_while0b_v106 : Ref sig .tc := ⟨.hbm, 724, rfl⟩
abbrev main_while0b_v107 : Ref sig .tc := ⟨.hbm, 725, rfl⟩
abbrev main_while0b_c_38 : Ref sig .tc := ⟨.hbm, 726, rfl⟩
abbrev main_while0b_v108 : Ref sig .tc := ⟨.hbm, 727, rfl⟩
abbrev main_while0b_v109 : Ref sig .tc := ⟨.hbm, 728, rfl⟩
abbrev main_while0b_c_39 : Ref sig .tc := ⟨.hbm, 729, rfl⟩
abbrev main_while0b_v110 : Ref sig .tc := ⟨.hbm, 730, rfl⟩
abbrev main_while0b_v111 : Ref sig .tc := ⟨.hbm, 731, rfl⟩
abbrev main_while0b_c_40 : Ref sig .tc := ⟨.hbm, 732, rfl⟩
abbrev main_while0b_v112 : Ref sig .tc := ⟨.hbm, 733, rfl⟩
abbrev main_while0b_v113 : Ref sig .tc := ⟨.hbm, 734, rfl⟩
abbrev main_while0b_c_41 : Ref sig .tc := ⟨.hbm, 735, rfl⟩
abbrev main_while0b_v114 : Ref sig .tc := ⟨.hbm, 736, rfl⟩
abbrev main_while0b_call6_v0 : Ref sig .tc := ⟨.hbm, 737, rfl⟩
abbrev main_while0b_call6_v1 : Ref sig .tc := ⟨.hbm, 738, rfl⟩
abbrev main_while0b_v115 : Ref sig .tc := ⟨.hbm, 739, rfl⟩
abbrev main_while0b_c_42 : Ref sig .tc := ⟨.hbm, 740, rfl⟩
abbrev main_while0b_call7_v0 : Ref sig .tc := ⟨.hbm, 741, rfl⟩
abbrev main_while0b_call7_v1 : Ref sig .tc := ⟨.hbm, 742, rfl⟩
abbrev main_while0b_v116 : Ref sig .tc := ⟨.hbm, 743, rfl⟩
abbrev main_while0b_v117 : Ref sig .tc := ⟨.hbm, 744, rfl⟩
abbrev main_while0b_c_43 : Ref sig .tc := ⟨.hbm, 745, rfl⟩
abbrev main_while0b_v118 : Ref sig .tc := ⟨.hbm, 746, rfl⟩

abbrev nD : Nat := 1
abbrev τ : Topo := Topo.v7x

variable {F : FTy → Type} [FloatOps F]

abbrev main_while0_count : Scf.Loop 32 := ⟨0#32, 15#32, 1#32⟩
-- ==== Proof.KI.Body.lean ====
/-
  The group-maximum kernel's body, run on whole staging memrefs: the block of shifted exponentials, masked past the
  vocabulary's end (`maskedP`), reduced by maxima over its 256 groups of 32 rows (`blockOut`).
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.Value
public import Idealize.ShloMosaic.Lib.Tactic

@[expose] public section

noncomputable section

namespace Cert.KernelIdeal.Prf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The certificate's resource algebra: one copy of the pipeline library's per trip of the host loop, beside the
    counters that the library's transfers may take. -/
abbrev UU : Type := IProdConst (Fin 15) (UR sig nD τ) × Counters

local notation "𝕄" => MT nD τ sig Unit (Elt F) ℕ UU ℕ

/-! ## What the body computes -/

/-- The row that a load of an `[8, 128]` tile's first row reads. -/
abbrev row0 (x : Vec F S8x128 .f32) : Vec F S1x128 .f32 :=
  View.ld x (Rect.unit (s := S8x128) ![0, 0] S1x128.size inb_S8x128_S1x128_0_0)

/-- The block's shifted exponentials, zero at the rows past the vocabulary's end. -/
abbrev maskedP (i : grid0.Coords) (x : Vec F S8192x128 .f32) (mx ls : Vec F S8x128 .f32) : FVec F S8192x128 .f32 :=
  k0_pay2 i (View.ld x (Rect.unit (s := S8192x128) ![0, 0] S8192x128.size inb_S8192x128_S8192x128_0_0)) (row0 mx) (row0 ls)

theorem group_slices (g : Fin 256) : S8192x128.Slices ![32 * g.val, 0] S32x128 := by
  refine ⟨rfl, fun a => ?_⟩
  fin_cases a
  · show 32 * g.val + 32 ≤ 8192
    omega
  · show 0 + 128 ≤ 128
    omega

/-- Group `g`'s maxima: rows `32 g` to `32 g + 31` of a block. -/
def groupRow (v : FVec F S8192x128 .f32) (g : Fin 256) : FVec F S1x128 .f32 :=
  shapeCast S1x128 (multiReduction .maximumf [0] S128 (extractStridedSlice S32x128 ![32 * g.val, 0] v (group_slices g))
    0xFF800000#32 reduces_S32x128_S128 (.inl rfl) rfl) shapeCasts_S128_S1x128

/-- The pieces of a block's maxima, in order. -/
def groupRows (v : FVec F S8192x128 .f32) : List ((s : Shape) × (s.Idx → F .f32)) :=
  List.ofFn fun g : Fin 256 => ⟨S1x128, groupRow v g⟩

theorem groupRows_shapes (v : FVec F S8192x128 .f32) : (groupRows v).map (·.1) = List.replicate 256 S1x128 := by
  unfold groupRows
  rw [List.map_ofFn]
  exact List.ofFn_const 256 S1x128

theorem groupRows_concatenates (v : FVec F S8192x128 .f32) : Shape.Concatenates ((groupRows v).map (·.1)) S256x128 0 := by
  rw [groupRows_shapes]
  decide +kernel

/-- What the body stores: the 256 groups' maxima, a row each. -/
def blockOut (v : FVec F S8192x128 .f32) : FVec F S256x128 .f32 :=
  concatenate S256x128 0 (groupRows v) (groupRows_concatenates v)

/-! ## The body, run by the executor -/

theorem zero_off : (![0, 0] : Fin S256x128.rank → Nat) = fun _ => 0 := by
  funext a
  fin_cases a <;> rfl

theorem whole_mem (y : S256x128.Idx) :
    y ∈ (Rect.unit (s := S256x128) ![0, 0] S256x128.size inb_S256x128_S256x128_0_0).set := by
  rw [Rect.mem_set_unit]
  intro a
  rw [zero_off]
  exact ⟨Nat.zero_le _, by simpa using (y a).isLt⟩

set_option maxRecDepth 65536 in
set_option maxHeartbeats 4000000 in
/-- The body on whole staging memrefs: its three inputs come back as they were, and the output's buffer ends with the
    masked block's group maxima. -/
theorem body_spec (c : Dev nD) (i : grid0.Coords) (M0 : Memref sig .tc .vmem S8192x128 .f32) (h0 : M0.IsWhole)
    (M1 : Memref sig .tc .vmem S8x128 .f32) (h1 : M1.IsWhole) (M2 : Memref sig .tc .vmem S8x128 .f32) (h2 : M2.IsWhole)
    (M3 : Memref sig .tc .vmem S256x128 .f32) (h3 : M3.IsWhole)
    (x : Vec F S8192x128 .f32) (mx ls : Vec F S8x128 .f32) (o : Vec F S256x128 .f32) (E : Set ℕ) (Q : PUnit → sProp 𝕄) :
    iprop(owns (c : Thread nD τ) M0 fullShare x ∗ owns (c : Thread nD τ) M1 fullShare mx
        ∗ owns (c : Thread nD τ) M2 fullShare ls ∗ owns (c : Thread nD τ) M3 fullShare o
        ∗ (iprop(owns (c : Thread nD τ) M0 fullShare x ∗ owns (c : Thread nD τ) M1 fullShare mx
          ∗ owns (c : Thread nD τ) M2 fullShare ls ∗ owns (c : Thread nD τ) M3 fullShare (blockOut (maskedP i x mx ls))) -∗ Q ⟨⟩))
      ⊢ wp frame (wpE (defs₀ (F := F)) Variants.none c none) E (cc0__vm_body i M0 h0 M1 h1 M2 h2 M3 h3) Q := by
  simp only [cc0__vm_body_eq_skeleton]
  unfold cc0__vm_body_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _
  isplitr
  swap
  · iexact H3
  ipureintro
  refine (View.read_writes_eq_canon _ _ _ fun y => ⟨_, List.mem_singleton_self _, whole_mem y⟩).trans
    ((View.canon_unit_zero zero_off _ _).trans ?_)
  rfl

end Cert.KernelIdeal.Prf

end
-- ==== Proof.KI.Region.lean ====
/-
  The group-maximum kernel's region: its proof data at an entry valuation of the unscoped buffers, the body obligation
  over the thirteen points, and the region over the thread state. The last block of the transposed logits overhangs
  the array; the rows past the array's end are words that nothing names, and the body's mask keeps them out of what
  it stores (`masked_fill`).
-/
module

public import proofs.«01_k».proof.Proof.KI.Body
public import Idealize.ShloMosaic.Lib.Pipeline.FrameBody

@[expose] public section

noncomputable section

namespace Cert.KernelIdeal.Prf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ## The mask -/

/-- A row of a block that the fetch does not move lies past the vocabulary's end. -/
theorem row_of_not_moved (t : Fin cfg0.N) (j : S8192x128.Idx) (h : ¬ win0_0.moved (grid0.coords t) j = true) :
    100000 ≤ ((grid0.coords t) 0).val * 8192 + (j 0).val := by
  rw [win0_0.moved_iff] at h
  by_contra hlt
  apply h
  have key : ∀ s : Fin cfg0.N, win0_0.xsize (grid0.coords s) 1 = 128 ∧
      min 8192 (100000 - ((grid0.coords s) 0).val * 8192) ≤ win0_0.xsize (grid0.coords s) 0 := by
    decide +kernel
  obtain ⟨k1, k0⟩ := key t
  intro a
  have h0 : (j 0).val < 8192 := (j 0).isLt
  have h1 : (j 1).val < 128 := (j 1).isLt
  match a with
  | ⟨0, _⟩ =>
    change (j 0).val < win0_0.xsize (grid0.coords t) 0
    omega
  | ⟨1, _⟩ =>
    change (j 1).val < win0_0.xsize (grid0.coords t) 1
    omega

/-- The mask bit at a row: whether the row is one of the vocabulary's. -/
theorem mask_bit (q r : ℕ) (hq : q < 13) (hr : r < 8192) :
    IntOp.cmpi .slt (BitVec.ofNat 32 q * 8192#32 + BitVec.ofNat 32 r) 100000#32
      = if q * 8192 + r < 100000 then 1#1 else 0#1 := by
  have e : (BitVec.ofNat 32 q * 8192#32 + BitVec.ofNat 32 r : BitVec 32) = BitVec.ofNat 32 (q * 8192 + r) := by
    apply BitVec.eq_of_toNat_eq
    simp [BitVec.toNat_add, BitVec.toNat_mul]
  rw [e]
  have hs : (BitVec.ofNat 32 (q * 8192 + r)).slt 100000#32 = decide (q * 8192 + r < 100000) := by
    rw [BitVec.slt_eq_decide, BitVec.toInt_eq_toNat_cond, BitVec.toInt_eq_toNat_cond]
    simp only [BitVec.toNat_ofNat]
    rw [Nat.mod_eq_of_lt (by omega), if_pos (by omega), if_pos (by decide)]
    exact decide_eq_decide.2 (by omega)
  unfold IntOp.cmpi
  simp only [hs]
  by_cases hlt : q * 8192 + r < 100000
  · rw [decide_eq_true hlt, if_pos hlt]; rfl
  · rw [decide_eq_false hlt, if_neg hlt]; rfl

/-- Row 0 of an `[8, 128]` tile, at lane `b`. -/
def top8 (b : Fin 128) : S8x128.Idx := fun a => match a with
  | ⟨0, _⟩ => (0 : Fin 8)
  | ⟨1, _⟩ => b

/-- The lane of an index of a block. -/
def lane (j : S8192x128.Idx) : Fin 128 := ⟨(j 1).val, (j 1).isLt⟩

theorem row0_bcast (x : Vec F S8x128 .f32) (j : S8192x128.Idx) :
    broadcastTo S8192x128 (shapeCast S1x128 (row0 x) shapeCasts_S1x128_S1x128) broadcasts_S1x128_S8192x128 j
      = x (top8 (lane j)) := by
  rw [shapeCast_self]
  refine (broadcastTo_apply _ _ j (fun a => match a with
    | ⟨0, _⟩ => (0 : Fin 1)
    | ⟨1, _⟩ => lane j) (fun a => by fin_cases a <;> rfl)).trans ?_
  refine congrArg x (funext fun a => Fin.ext ?_)
  fin_cases a
  · rfl
  · show 0 + 1 * (lane j).val = (lane j).val
    omega

/-- What the body's masked block reads at an index: the shifted exponential at a row of the vocabulary, zero past it. -/
theorem maskedP_apply (i : grid0.Coords) (x : Vec F S8192x128 .f32) (mx ls : Vec F S8x128 .f32) (j : S8192x128.Idx) :
    maskedP i x mx ls j = if (i 0).val * 8192 + (j 0).val < 100000
      then FloatOps.exp (FloatOps.subf (FloatOps.subf (x j) (mx (top8 (lane j)))) (ls (top8 (lane j))))
      else Scalar.ofBits .f32 0x00000000#32 := by
  have hb := mask_bit (i 0).val (j 0).val (i 0).isLt (j 0).isLt
  have e : maskedP i x mx ls j = Scalar.select
      (IntOp.cmpi .slt (BitVec.ofNat 32 (i 0).val * 8192#32 + iota .tc S8192x128 32 [0] iota_S8192x128_d0_w32 j) 100000#32)
      (FloatOps.exp (FloatOps.subf (FloatOps.subf
        (shapeCast S8192x128 (View.ld x (Rect.unit (s := S8192x128) ![0, 0] S8192x128.size inb_S8192x128_S8192x128_0_0))
          shapeCasts_S8192x128_S8192x128 j)
        (broadcastTo S8192x128 (shapeCast S1x128 (row0 mx) shapeCasts_S1x128_S1x128) broadcasts_S1x128_S8192x128 j))
        (broadcastTo S8192x128 (shapeCast S1x128 (row0 ls) shapeCasts_S1x128_S1x128) broadcasts_S1x128_S8192x128 j)))
      (Scalar.ofBits .f32 0x00000000#32) := rfl
  have ex : shapeCast S8192x128 (View.ld x (Rect.unit (s := S8192x128) ![0, 0] S8192x128.size inb_S8192x128_S8192x128_0_0))
      shapeCasts_S8192x128_S8192x128 j = x j :=
    (congrFun (shapeCast_self _ _) j).trans (congrFun (View.ld_unit_zero (by funext a; fin_cases a <;> rfl) _ x) j)
  rw [e, row0_bcast, row0_bcast, ex, iota_single_apply, hb]
  unfold Scalar.select
  by_cases h : (i 0).val * 8192 + (j 0).val < 100000
  · rw [if_pos h, if_pos h, if_pos (by decide)]
  · rw [if_neg h, if_neg h, if_neg (by decide)]

/-- The masked block does not read the staged rows past the array's end. -/
theorem masked_fill (t : Fin cfg0.N) (d d' : S8192x128.Idx → Elt F .f32) (g : (win0_0.xblock (grid0.coords t)).Idx → Elt F .f32)
    (mx ls : Vec F S8x128 .f32) :
    maskedP (grid0.coords t) (win0_0.fill (grid0.coords t) d g) mx ls
      = maskedP (grid0.coords t) (win0_0.fill (grid0.coords t) d' g) mx ls := by
  funext j
  rw [maskedP_apply, maskedP_apply]
  by_cases h : win0_0.moved (grid0.coords t) j = true
  · have e : win0_0.fill (grid0.coords t) d g j = win0_0.fill (grid0.coords t) d' g j := by
      unfold Window.fill
      rw [dif_pos h, dif_pos h]
    rw [e]
  · have hr := row_of_not_moved t j h
    rw [if_neg (by omega), if_neg (by omega)]

/-! ## The proof data, at an entry valuation -/

variable (V : (c : Dev nD) → (b : Ref sig .tc) → Buf (Elt F) ((c : Thread nD τ).loc b))

/-- The transposed logits' block at point `t`: its rows inside the array, -/
def xblk (c : Dev nD) (t : Fin cfg0.N) : (win0_0.xblock (grid0.coords t)).Idx → Elt F .f32 :=
  (win0_0.blk t).view.read (Elt F) (V c main_while0b_v90)
/-- filled out past the array's end with the zero word; -/
def xfill (c : Dev nD) (t : Fin cfg0.N) : Vec F S8192x128 .f32 :=
  win0_0.fill (grid0.coords t) (fun _ => Scalar.ofBits .f32 0#32) (xblk V c t)
/-- the maxima's block, and the normalisers'. -/
def mblk (c : Dev nD) (t : Fin cfg0.N) : Vec F S8x128 .f32 := (win0_1.blk t).view.read (Elt F) (V c main_while0b_v92)
def lblk (c : Dev nD) (t : Fin cfg0.N) : Vec F S8x128 .f32 := (win0_2.blk t).view.read (Elt F) (V c main_while0b_v94)
/-- What the body leaves in the output's staging buffer at point `t`. -/
def oblk (c : Dev nD) (t : Fin cfg0.N) : Vec F S256x128 .f32 :=
  blockOut (maskedP (grid0.coords t) (xfill V c t) (mblk V c t) (lblk V c t))

/-- The invariant between the region's ends: the scoped buffers that the pipeline does not stage. -/
abbrev Φc (c : Dev nD) : sProp 𝕄 := Pipeline.scopedRest (Ix := Unit) (Name := ℕ) (U := UU) (Lvl := ℕ) (Val := Elt F) spec0 c

/-- The proof data of one entry of the region from valuation `V`. -/
def dat (c : Dev nD) : Dat τ (Elt F) Unit ℕ UU ℕ cfg0 c where
  A w := V c (Pipeline.arrRef spec0 w)
  after w t := match w with
    | ⟨0, _⟩ => xfill V c t
    | ⟨1, _⟩ => mblk V c t
    | ⟨2, _⟩ => lblk V c t
    | ⟨3, _⟩ => oblk V c t
  Φ _ := Φc c
  q _ := fullShare
  owed _ := 0

abbrev 𝒱₀ : Variants := Variants.none

theorem before_0 (c : Dev nD) (t : Fin cfg0.N) (d) :
    (dat V c).before (0 : Fin 4) t d = win0_0.fill (grid0.coords t) d (xblk V c t) := by
  unfold Dat.before; rw [if_pos (fetch0_0 t)]; rfl

theorem before_1 (c : Dev nD) (t : Fin cfg0.N) (d) : (dat V c).before (1 : Fin 4) t d = mblk V c t :=
  ((dat V c).before_in_eq_fetched 1 rfl (fun _ => rfl) (fun _ _ _ => rfl) (fun _ => rfl) t d).trans rfl

theorem before_2 (c : Dev nD) (t : Fin cfg0.N) (d) : (dat V c).before (2 : Fin 4) t d = lblk V c t :=
  ((dat V c).before_in_eq_fetched 2 rfl (fun _ => rfl) (fun _ _ _ => rfl) (fun _ => rfl) t d).trans rfl

/-- The library's body obligation. -/
theorem body_obligation (c : Dev nD) : BodyObligationLoose (dat V c) (defs₀ (F := F)) 𝒱₀ () Set.univ := fun t => by
  rw [bigSep_W0, bigSep_W0]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩⟩
  rw [before_0 V c t d0, before_1 V c t d1, before_2 V c t d2]
  iapply (body_spec (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (xblk V c t)) (mblk V c t) (lblk V c t) ((dat V c).before (3 : Fin 4) t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) (xfill V c t)))
    rw [show win0_0.cut (grid0.coords t) (xfill V c t) = xblk V c t from win0_0.cut_fill _ _ _]
    try iexact H0
  isplitl [H1]; · iexact H1
  isplitl [H2]; · iexact H2
  · change _ ⊢ owns (c : Thread nD τ) (win0_3.stage (cfg0.slots t 3)) fullShare (oblk V c t)
    unfold oblk xfill
    rw [masked_fill t d0 fun _ => Scalar.ofBits .f32 0#32]
    exact .rfl

/-! ## The region over the thread state -/

variable (adm : (p : Fin 1) → (pcfgs (F := F) p).Adm)

/-- The ticket's proof data family: the one pipeline's. -/
def pdats : (p : Fin 1) → (c : Dev nD) → Dat τ (Elt F) Unit ℕ UU ℕ (Pipeline.pin (pcfgs (F := F)) adm p) c
  | ⟨0, _⟩ => fun c => dat V c

/-- No core owes another anything: no level is assigned. -/
abbrev L : GSem nD τ sig → Finset Unit := fun _ => ∅
abbrev lv : GSem nD τ sig → Unit → ℕ := fun _ _ => 0

/-- The output's array after the region, as the library computes it: the write-backs of the body's blocks. -/
def vmOut (c : Dev nD) : Buf (Elt F) ((c : Thread nD τ).loc main_while0b_v95) := (dat V c).arrAt 3 cfg0.N

-- the valuation that the region leaves: any that has the output's array at `vmOut V` and agrees with `V` off it
variable (Vp : (c : Dev nD) → (b : Ref sig .tc) → Buf (Elt F) ((c : Thread nD τ).loc b))

set_option backward.isDefEq.respectTransparency.types false in
/-- The region at one entry, over the thread state "every unscoped buffer at `V c`, `R c`, and the core's `owes`":
    entered by splitting the four arrays out of the unscoped buffers, left with them put back at `Vp`. -/
def reg (R : Dev nD → sProp 𝕄) (hVp_out : ∀ c, Vp c main_while0b_v95 = vmOut V c)
    (hVp_ne : ∀ c (b : Ref sig .tc), b ≠ main_while0b_v95 → Vp c b = V c b) : Pipeline.RegionSeg (pcfgs (F := F)) adm (pdats V adm) () defs₀ 𝒱₀ L lv 0 where
  win := launch0.win.to₀
  block_pos := launch0.block_pos
  stage_whole := launch0.stage_whole
  K := PEmpty
  osem k := k.elim
  ho := Pipeline.OwnSemFacts.none _
  hbody c := body_obligation V c
  hwaits := Pipeline.hwaits_of_owed_zero _ _ _ _ L lv 0 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_while0b_v90 (by decide)).symm
        · exact ((pdats V adm 0 c).arrAt_in 1 rfl _).trans (hVp_ne c main_while0b_v92 (by decide)).symm
        · exact ((pdats V adm 0 c).arrAt_in 2 rfl _).trans (hVp_ne c main_while0b_v94 (by decide)).symm
        · exact (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Prf

end
-- ==== Proof.KI.Items.lean ====
/-
  The items of the decode loop's body: the stretches of host operations, the launch of the group-maximum kernel and
  the branch between the grouped top-k and the full one, each as an item of the loop kit.
-/
module

public import proofs.«01_k».proof.Proof.KI.Region
public import Idealize.ShloMosaic.Lib.StableHlo.RunLoopItems
public import Idealize.ShloMosaic.Lib.Pipeline.RegionsCase

@[expose] public section

noncomputable section

namespace Cert.KernelIdeal.Prf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after afterL held LoopItem Plain nextL ticketsL atTripI okL)
open Idealize.ShloMosaic.Pipeline (CSeg CaseSeg Ticket)

variable {F : FTy → Type} [FloatOps F]

local notation "𝕄" => MT nD τ sig Unit (Elt F) ℕ UU ℕ

/-- The unscoped buffers, which every item holds. -/
abbrev uc : Finset (DevRef τ sig) := Pipeline.ucRefs τ sig

/-- No table is prefetched: the empty contents are admissible. -/
abbrev adm : (p : Fin 1) → (pcfgs (F := F) p).Adm := fun p => (cfgs p).toPCfg_adm

/-- What rides along beside the buffers: the core owes no signal. -/
abbrev Rw (c : Dev nD) : sProp 𝕄 := iprop(BI.emp ∗ ∃ W, owes (c : Thread nD τ) (0 : CellTallies nD τ sig Unit) W)

/-- One ticket per trip of the loop, for the kernel's launch in that trip. -/
abbrev tk : Fin 15 → Ticket (Ix := Unit) (Name := ℕ) (U := UU) (Lvl := ℕ) (nD := nD) (τ := τ) (pcfgs (F := F)) adm := fun j =>
  { p := 0, pdats := pdats (fun _ _ => fun _ => Classical.arbitrary _) adm, EP := embAt j }

abbrev Item : Type 1 := LoopItem (pcfgs (F := F)) adm (defs₀ (F := F)) 𝒱₀ L lv loops tk uc Rw

/-! ## Stretches -/

/-- A list of stretches as items. -/
def opsItems : (l : List (List (HloOp τ sig (Elt F)))) → Plain l → List (Item (F := F))
  | [], _ => []
  | ops :: l, h =>
    LoopItem.ofOps (pcfgs (F := F)) adm (defs₀ (F := F)) 𝒱₀ L lv loops tk uc Rw ops
      (fun op hop => Pipeline.sub_ucRefs op ((h ops List.mem_cons_self).1 op hop)) (h ops List.mem_cons_self).2
      :: opsItems l fun o ho => h o (List.mem_cons_of_mem _ ho)

theorem nextL_ops : ∀ (l : List (List (HloOp τ sig (Elt F)))) (h : Plain l) (rest : List (Item (F := F))) (V : Dev nD → Valuation τ sig (Elt F)),
    nextL (opsItems l h ++ rest) V = nextL rest fun c => afterL l (V c)
  | [], _, _, _ => rfl
  | ops :: l, h, rest, V => nextL_ops l (fun o ho => h o (List.mem_cons_of_mem _ ho)) rest fun c => after ops (V c)

theorem okL_ops (k : ℕ) : ∀ (l : List (List (HloOp τ sig (Elt F)))) (h : Plain l) (rest : List (Item (F := F))) (V : Dev nD → Valuation τ sig (Elt F)),
    okL k rest (fun c => afterL l (V c)) → okL k (opsItems l h ++ rest) V
  | [], _, _, _, hk => hk
  | ops :: l, h, rest, V, hk => ⟨trivial, okL_ops k l (fun o ho => h o (List.mem_cons_of_mem _ ho)) rest _ hk⟩

theorem ops_T (k : ℕ) : ∀ (l : List (List (HloOp τ sig (Elt F)))) (h : Plain l), ∀ i ∈ opsItems l h, i.T k = ∅
  | [], _, _, hi => nomatch hi
  | ops :: l, h, i, hi => by
    rcases List.mem_cons.mp hi with rfl | hi
    · rfl
    · exact ops_T k l _ i hi

/-! ## The kernel's launch -/

/-- The buffers after the launch: its output array at what the pipeline wrote back. -/
def afterVm (V : Dev nD → Valuation τ sig (Elt F)) (c : Dev nD) : Valuation τ sig (Elt F) :=
  Function.update (V c) (Proc.devRef .tc main_while0b_v95) (vmOut (fun c b => V c (Proc.devRef .tc b)) c)

theorem afterVm_out (V : Dev nD → Valuation τ sig (Elt F)) (c : Dev nD) :
    afterVm V c (Proc.devRef .tc main_while0b_v95) = vmOut (fun c b => V c (Proc.devRef .tc b)) c := Function.update_self ..
theorem afterVm_ne (V : Dev nD → Valuation τ sig (Elt F)) (c : Dev nD) (b : Ref sig .tc) (h : b ≠ main_while0b_v95) :
    afterVm V c (Proc.devRef .tc b) = V c (Proc.devRef .tc b) := Function.update_of_ne (StableHlo.devRef_ne_of_ne h) ..

/-- The two spellings of "every unscoped buffer at `W`". -/
theorem thread_eq (W : Valuation τ sig (Elt F)) (c : Dev nD) :
    (iprop(held (c : Thread nD τ) uc W ∗ Rw c) : sProp 𝕄)
      = iprop(unscopedBufs c (fun b => W b) ∗ BI.emp ∗ ∃ W', owes (c : Thread nD τ) (0 : CellTallies nD τ sig Unit) W') := by
  rw [Pipeline.unscopedBufs_held]

/-- The ticket of trip `k`. -/
def tkAt (k : ℕ) : Fin 15 := if h : k < 15 then ⟨k, h⟩ else 0

/-- The launch as an item: at any contents, trip `k`'s at ticket `k`. -/
def vmItem : Item (F := F) :=
  LoopItem.region (pcfgs (F := F)) adm (defs₀ (F := F)) 𝒱₀ L lv loops tk uc Rw () cellOf_inj 0 tkAt (fun _ => rfl)
    (fun V => pdats (fun c b => V c (Proc.devRef .tc b)) adm)
    (fun V => reg (fun c b => V c (Proc.devRef .tc b)) adm (fun c b => afterVm V c (Proc.devRef .tc b)) (fun _ => BI.emp)
      (afterVm_out V) (afterVm_ne V))
    afterVm (fun _ => True) (fun V _ c => Entails.of_eq (thread_eq (V c) c)) (fun V c => Entails.of_eq (thread_eq (afterVm V c) c).symm)

/-! ## The branch -/

/-- The read: the predicate "at most 44 groups qualify", widened to the word that the branch takes. -/
abbrev rdOp : HloOp τ sig (Elt F) :=
  StableHlo.unary main_while0b_v128 main_while0b_v129 ((extui 32 · natLt_1_32) : (⟨S_, .i1⟩ : BufTy).Contents (Elt F) → (⟨S_, .i32⟩ : BufTy).Contents (Elt F))

/-- Arm 0: the top-k of the full row of probabilities. -/
abbrev fullOps : List (HloOp τ sig (Elt F)) :=
  [ StableHlo.unary main_while0b_v81 main_while0b_case0b0_v166 (broadcastInDim S128x100000 ![0, 1] bcast_S128x1_S128x100000_0_1 : (⟨S128x1, .f32⟩ : BufTy).Contents (Elt F) → (⟨S128x100000, .f32⟩ : BufTy).Contents (Elt F)),
    StableHlo.binary main_while0b_v79 main_while0b_case0b0_v166 main_while0b_case0b0_v167 (subf : (⟨S128x100000, .f32⟩ : BufTy).Contents (Elt F) → (⟨S128x100000, .f32⟩ : BufTy).Contents (Elt F) → (⟨S128x100000, .f32⟩ : BufTy).Contents (Elt F)),
    StableHlo.unary main_while0b_v87 main_while0b_case0b0_v168 (broadcastInDim S128x100000 ![0, 1] bcast_S128x1_S128x100000_0_1 : (⟨S128x1, .f32⟩ : BufTy).Contents (Elt F) → (⟨S128x100000, .f32⟩ : BufTy).Contents (Elt F)),
    StableHlo.binary main_while0b_case0b0_v167 main_while0b_case0b0_v168 main_while0b_case0b0_v169 (subf : (⟨S128x100000, .f32⟩ : BufTy).Contents (Elt F) → (⟨S128x100000, .f32⟩ : BufTy).Contents (Elt F) → (⟨S128x100000, .f32⟩ : BufTy).Contents (Elt F)),
    StableHlo.unary main_while0b_case0b0_v169 main_while0b_case0b0_v170 (Host.exp : (⟨S128x100000, .f32⟩ : BufTy).Contents (Elt F) → (⟨S128x100000, .f32⟩ : BufTy).Contents (Elt F)),
    StableHlo.unary main_while0b_case0b0_v170 main_while0b_case0b0_values_55 ((fun x => (Host.topK S128x40 1 (FloatOps.cmpfTotal .gt) x sliceFits_S128x100000_S128x40).1) : (⟨S128x100000, .f32⟩ : BufTy).Contents (Elt F) → (⟨S128x40, .f32⟩ : BufTy).Contents (Elt F)),
    StableHlo.unary main_while0b_case0b0_v170 main_while0b_case0b0_indices_56 ((fun x => (Host.topK S128x40 1 (FloatOps.cmpfTotal .gt) x sliceFits_S128x100000_S128x40).2) : (⟨S128x100000, .f32⟩ : BufTy).Contents (Elt F) → (⟨S128x40, .i32⟩ : BufTy).Contents (Elt F)),
    StableHlo.unary main_while0b_case0b0_values_55 main_while0b_v130_0 id,
    StableHlo.unary main_while0b_case0b0_indices_56 main_while0b_v130_1 id ]
/-- Arm 1: the grouped top-k's own answers. -/
abbrev groupedOps : List (HloOp τ sig (Elt F)) :=
  [ StableHlo.unary main_while0b_values_39 main_while0b_v130_0 id,
    StableHlo.unary main_while0b_v120 main_while0b_v130_1 id ]
abbrev armOps : Fin 2 → List (HloOp τ sig (Elt F))
  | 0 => fullOps
  | 1 => groupedOps

theorem arms_plain : Plain [fullOps (F := F), groupedOps] :=
  .cons ⟨StableHlo.unary_bufs_sub .., StableHlo.binary_bufs_sub .., StableHlo.unary_bufs_sub .., StableHlo.binary_bufs_sub ..,
      StableHlo.unary_bufs_sub .., StableHlo.unary_bufs_sub .., StableHlo.unary_bufs_sub .., StableHlo.unary_bufs_sub ..,
      StableHlo.unary_bufs_sub ..⟩
    (.cons ⟨StableHlo.unary_bufs_sub .., StableHlo.unary_bufs_sub ..⟩ .nil)

theorem armOps_sub (b : Fin 2) : ∀ op ∈ armOps (F := F) b, op.bufs ⊆ uc := fun op h =>
  Pipeline.sub_ucRefs op ((arms_plain (armOps b) (by fin_cases b <;> simp [armOps])).1 op h)
theorem armOps_fresh (b : Fin 2) : ∀ op ∈ armOps (F := F) b, op.fresh = ∅ :=
  (arms_plain (armOps b) (by fin_cases b <;> simp [armOps])).2

section Fold

variable (V : Dev nD → Valuation τ sig (Elt F))

/-- The buffers after the read; the word read; the buffers after the arm that the word names. -/
abbrev V1 (c : Dev nD) : Valuation τ sig (Elt F) := after [rdOp] (V c)
abbrev word (c : Dev nD) : BitVec 32 := V1 V c (Proc.devRef .tc main_while0b_v129) HostLoop.idx0
def afterCase (c : Dev nD) : Valuation τ sig (Elt F) := after (armOps (HostLoop.branch (word V c) 1)) (V1 V c)

abbrev PT : Type → Type 1 := Prog (TpuEff nD τ sig (Elt F) (HostLoop.Sig (Pipeline.Sig Λ₀ (Fin 1) fun p => (pcfgs (F := F) p).Adm) 1) .tc)

/-- The arms as printed. -/
abbrev armProg : Fin 2 → PT (F := F) PUnit
  | 0 => do
      hlo rfl (StableHlo.unary main_while0b_v81 main_while0b_case0b0_v166 (broadcastInDim S128x100000 ![0, 1] bcast_S128x1_S128x100000_0_1 : (⟨S128x1, .f32⟩ : BufTy).Contents (Elt F) → (⟨S128x100000, .f32⟩ : BufTy).Contents (Elt F))) (fun _ => .ret ⟨⟩)
      hlo rfl (StableHlo.binary main_while0b_v79 main_while0b_case0b0_v166 main_while0b_case0b0_v167 (subf : (⟨S128x100000, .f32⟩ : BufTy).Contents (Elt F) → (⟨S128x100000, .f32⟩ : BufTy).Contents (Elt F) → (⟨S128x100000, .f32⟩ : BufTy).Contents (Elt F))) (fun _ => .ret ⟨⟩)
      hlo rfl (StableHlo.unary main_while0b_v87 main_while0b_case0b0_v168 (broadcastInDim S128x100000 ![0, 1] bcast_S128x1_S128x100000_0_1 : (⟨S128x1, .f32⟩ : BufTy).Contents (Elt F) → (⟨S128x100000, .f32⟩ : BufTy).Contents (Elt F))) (fun _ => .ret ⟨⟩)
      hlo rfl (StableHlo.binary main_while0b_case0b0_v167 main_while0b_case0b0_v168 main_while0b_case0b0_v169 (subf : (⟨S128x100000, .f32⟩ : BufTy).Contents (Elt F) → (⟨S128x100000, .f32⟩ : BufTy).Contents (Elt F) → (⟨S128x100000, .f32⟩ : BufTy).Contents (Elt F))) (fun _ => .ret ⟨⟩)
      hlo rfl (StableHlo.unary main_while0b_case0b0_v169 main_while0b_case0b0_v170 (Host.exp : (⟨S128x100000, .f32⟩ : BufTy).Contents (Elt F) → (⟨S128x100000, .f32⟩ : BufTy).Contents (Elt F))) (fun _ => .ret ⟨⟩)
      hlo rfl (StableHlo.unary main_while0b_case0b0_v170 main_while0b_case0b0_values_55 ((fun x => (Host.topK S128x40 1 (FloatOps.cmpfTotal .gt) x sliceFits_S128x100000_S128x40).1) : (⟨S128x100000, .f32⟩ : BufTy).Contents (Elt F) → (⟨S128x40, .f32⟩ : BufTy).Contents (Elt F))) (fun _ => .ret ⟨⟩)
      hlo rfl (StableHlo.unary main_while0b_case0b0_v170 main_while0b_case0b0_indices_56 ((fun x => (Host.topK S128x40 1 (FloatOps.cmpfTotal .gt) x sliceFits_S128x100000_S128x40).2) : (⟨S128x100000, .f32⟩ : BufTy).Contents (Elt F) → (⟨S128x40, .i32⟩ : BufTy).Contents (Elt F))) (fun _ => .ret ⟨⟩)
      hlo rfl (StableHlo.unary main_while0b_case0b0_values_55 main_while0b_v130_0 id) (fun _ => .ret ⟨⟩)
      hlo rfl (StableHlo.unary main_while0b_case0b0_indices_56 main_while0b_v130_1 id) (fun _ => .ret ⟨⟩)
      pure ⟨⟩
  | 1 => do
      hlo rfl (StableHlo.unary main_while0b_values_39 main_while0b_v130_0 id) (fun _ => .ret ⟨⟩)
      hlo rfl (StableHlo.unary main_while0b_v120 main_while0b_v130_1 id) (fun _ => .ret ⟨⟩)
      pure ⟨⟩
  | ⟨_ + 2, h⟩ => absurd h (Nat.not_lt.2 (Nat.le_add_left _ _))

/-- The read as printed. -/
abbrev rdProg : PT (F := F) (BitVec 32) := hlo rfl (rdOp (F := F)) (HostLoop.elt main_while0b_v129)

/-- Between the read of the word `v` and the arm. -/
abbrev cmid (v : BitVec 32) (c : Dev nD) : sProp 𝕄 := iprop(held (c : Thread nD τ) uc (V1 V c) ∗ ⌜v = word V c⌝ ∗ Rw c)

-- `iapply` of a rule stated for any thread at the TensorCore thread unifies only when unification may unfold
-- plain definitions in a metavariable's type
set_option backward.isDefEq.respectTransparency.types false in
/-- The read: one operation, its result read for its element. -/
theorem read_spec (c : Dev nD) (bd : Option (Variants.lift 𝒱₀).V) :
    iprop(boundary (c : Thread nD τ) ∗ (held (c : Thread nD τ) uc (V c) ∗ Rw c))
      ⊢ (wp frame (wpE (HostLoop.defs loops (Pipeline.defs (pcfgs (F := F)) defs₀)) (Variants.lift 𝒱₀) (c : Thread nD τ) bd) Set.univ (rdProg (F := F))
          (fun v => iprop(⌜True⌝ ∗ boundary (c : Thread nD τ) ∗ cmid V v c)) : sProp 𝕄) := by
  unfold rdProg
  iintro ⟨Hb, Hh, HR⟩
  iapply (StableHlo.wp_hlo_within (Variants.lift 𝒱₀) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  isplitl [Hh]; · unfold V1; rw [StableHlo.after_cons, StableHlo.after_nil]; iexact Hh
  isplitr; · ipureintro; rfl
  iexact HR

/-- Arm `b`'s segment, the fact that the word names it riding along. -/
def armSeg (b : Fin 2) : CSeg (pcfgs (F := F)) adm (defs₀ (F := F)) 𝒱₀ L lv loops tk :=
  CSeg.ofOps _ _ _ _ _ _ _ _ uc (armOps b) (armOps_sub b) (armOps_fresh b) (V1 V)
    (fun c => iprop(⌜b = HostLoop.branch (word V c) 1⌝ ∗ Rw c))

/-- The branch's record. -/
def caseSeg : CaseSeg (pcfgs (F := F)) adm (defs₀ (F := F)) 𝒱₀ L lv loops tk :=
  { on := fun _ => True
    N := 1
    rd := rdProg
    br := armProg
    pre := fun c => iprop(held (c : Thread nD τ) uc (V c) ∗ Rw c)
    mid := cmid V
    post := fun c => iprop(held (c : Thread nD τ) uc (afterCase V c) ∗ Rw c)
    live := fun _ => True
    hrd := fun c _ bd => read_spec V c bd
    segs := fun b => [armSeg V b]
    hch := fun c _ v _ => ⟨by
        show iprop(held (c : Thread nD τ) uc (V1 V c) ∗ ⌜v = word V c⌝ ∗ Rw c)
          ⊢ (iprop(held (c : Thread nD τ) uc (V1 V c) ∗ ⌜HostLoop.branch v 1 = HostLoop.branch (word V c) 1⌝ ∗ Rw c) : sProp 𝕄)
        iintro ⟨Hh, %hv, HR⟩
        isplitl [Hh]; · iexact Hh
        isplitr; · ipureintro; rw [hv]
        iexact HR, by
        show iprop(held (c : Thread nD τ) uc (after (armOps (HostLoop.branch v 1)) (V1 V c)) ∗ ⌜HostLoop.branch v 1 = HostLoop.branch (word V c) 1⌝ ∗ Rw c)
          ⊢ (iprop(held (c : Thread nD τ) uc (afterCase V c) ∗ Rw c) : sProp 𝕄)
        iintro ⟨Hh, %hv, HR⟩
        unfold afterCase; rw [← hv]
        isplitl [Hh] <;> iassumption⟩
    hbr := fun b _ => by fin_cases b <;> chain_rfl
    B := 0
    hM := fun _ _ s hs => by obtain rfl := List.mem_singleton.mp hs; exact le_rfl
    T := ∅
    hT := fun _ _ s hs => by obtain rfl := List.mem_singleton.mp hs; exact subset_rfl
    hdisT := fun _ _ => List.pairwise_singleton .. }

end Fold

/-- The branch as an item. -/
def caseItem : Item (F := F) where
  prog := rdProg >>= fun x => HostLoop.case 2 x armProg
  next := afterCase
  seg _ V := CSeg.case _ _ _ _ _ _ _ _ (caseSeg V)
  hprog _ _ := rfl
  ok _ _ := True
  hpre _ V _ _ := CSeg.case_pre _ _ _ _ _ _ _ _ (caseSeg V) trivial
  hpost _ V _ := .rfl
  M := 0
  hM _ _ := le_rfl
  T _ := ∅
  hT _ _ := Finset.Subset.refl _

end Cert.KernelIdeal.Prf

end
-- ==== Proof.KI.Loop.lean ====
/-
  The decode loop: its fifteen trips over the items of its body as one segment, the buffers' contents before each trip
  a fold over those items.
-/
module

public import proofs.«01_k».proof.Proof.KI.Items
public import Idealize.ShloMosaic.Lib.StableHlo.RunRead
public import Idealize.ShloMosaic.Lib.Scf.ExitTest
public import Idealize.ShloMosaic.Lib.Scf.Counter

@[expose] public section

noncomputable section

namespace Cert.KernelIdeal.Prf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after afterL held LoopItem Plain nextL ticketsL atTripI okL)
open Idealize.ShloMosaic.Pipeline (CSeg CaseSeg Ticket)

variable {F : FTy → Type} [FloatOps F]

local notation "𝕄" => MT nD τ sig Unit (Elt F) ℕ UU ℕ

/-! ## The stretches, and the references that they write -/

theorem fresh_of {ops : List (HloOp τ sig (Elt F))} (h : ops.map HloOp.fresh = ops.map fun _ => (∅ : Finset (DevRef τ sig))) :
    ∀ op ∈ ops, op.fresh = ∅ := List.forall_iff_forall_mem.mp (StableHlo.forall_fresh_of_map h)

/-- Before the loop; in the body, up to the kernel's launch, from there to the branch, and after the branch. -/
abbrev stretchH : List (List (HloOp τ sig (Elt F))) := [hostOps0]
abbrev stretchA : List (List (HloOp τ sig (Elt F))) := [while0Ops0, while0Ops0_1, while0Ops0_2]
abbrev stretchB : List (List (HloOp τ sig (Elt F))) := [while0Ops1, while0Ops1_1, while0Ops1_2, while0Ops1_3, while0Ops1_4, while0Ops1_5, while0Ops1_6, while0Ops1_7, while0Ops1_8]
abbrev stretchC : List (List (HloOp τ sig (Elt F))) := [while0Ops1_9, while0Ops1_10, while0Ops1_11, while0Ops1_12, while0Ops1_13, while0Ops1_14, while0Ops1_15, while0Ops1_16, while0Ops1_17, while0Ops1_18, while0Ops1_19, while0Ops1_20, while0Ops1_21, while0Ops1_22]

theorem plainH : Plain (stretchH (F := F)) := .cons hostOps0_sub (hf := fresh_of rfl) .nil
theorem plainA : Plain (stretchA (F := F)) := .cons while0Ops0_sub (hf := fresh_of rfl) (.cons while0Ops0_1_sub (hf := fresh_of rfl) (.cons while0Ops0_2_sub (hf := fresh_of rfl) .nil))
theorem plainB : Plain (stretchB (F := F)) := .cons while0Ops1_sub (hf := fresh_of rfl) (.cons while0Ops1_1_sub (hf := fresh_of rfl) (.cons while0Ops1_2_sub (hf := fresh_of rfl) (.cons while0Ops1_3_sub (hf := fresh_of rfl) (.cons while0Ops1_4_sub (hf := fresh_of rfl) (.cons while0Ops1_5_sub (hf := fresh_of rfl) (.cons while0Ops1_6_sub (hf := fresh_of rfl) (.cons while0Ops1_7_sub (hf := fresh_of rfl) (.cons while0Ops1_8_sub (hf := fresh_of rfl) .nil))))))))
theorem plainC : Plain (stretchC (F := F)) := .cons while0Ops1_9_sub (hf := fresh_of rfl) (.cons while0Ops1_10_sub (hf := fresh_of rfl) (.cons while0Ops1_11_sub (hf := fresh_of rfl) (.cons while0Ops1_12_sub (hf := fresh_of rfl) (.cons while0Ops1_13_sub (hf := fresh_of rfl) (.cons while0Ops1_14_sub (hf := fresh_of rfl) (.cons while0Ops1_15_sub (hf := fresh_of rfl) (.cons while0Ops1_16_sub (hf := fresh_of rfl) (.cons while0Ops1_17_sub (hf := fresh_of rfl) (.cons while0Ops1_18_sub (hf := fresh_of rfl) (.cons while0Ops1_19_sub (hf := fresh_of rfl) (.cons while0Ops1_20_sub (hf := fresh_of rfl) (.cons while0Ops1_21_sub (hf := fresh_of rfl) (.cons while0Ops1_22_sub (hf := fresh_of rfl) .nil)))))))))))))

/-- The lists write the references `W`, operation by operation. -/
def Writes (l : List (List (HloOp τ sig (Elt F)))) (W : List (List (Ref sig .tc))) : Prop :=
  l.map (·.map HloOp.writes) = W.map (·.map fun r => ({Proc.devRef (τ := τ) .tc r} : Finset (DevRef τ sig)))

theorem Writes.take {l : List (List (HloOp τ sig (Elt F)))} {W : List (List (Ref sig .tc))} (h : Writes l W) (n : ℕ) :
    Writes (l.take n) (W.take n) := by
  unfold Writes
  rw [List.map_take, List.map_take]
  exact congrArg (List.take n) h

/-- What the lists do not write stays. -/
theorem Writes.keep {l : List (List (HloOp τ sig (Elt F)))} {W : List (List (Ref sig .tc))} (h : Writes l W) {r : Ref sig .tc}
    (hr : r ∉ W.flatten) (V : Valuation τ sig (Elt F)) : afterL l V (Proc.devRef .tc r) = V (Proc.devRef .tc r) := by
  induction l generalizing W V with
  | nil => rfl
  | cons ops l ih =>
    cases W with
    | nil => cases h
    | cons w W =>
      obtain ⟨h1, h2⟩ := List.cons.inj h
      rw [List.flatten_cons, List.mem_append, not_or] at hr
      exact (ih (W := W) h2 hr.2 _).trans (StableHlo.after_of_writes_sub ops V (StableHlo.forall_writes_sub_of_map h1) hr.1)

abbrev WH : List (List (Ref sig .tc)) :=
  [ [main_c, main_v0, main_v1, main_c_0, main_v2, main_v3, main_v4, main_v5, main_v6, main_c_1, main_v7, main_v8, main_c_2, main_v9, main_v10, main_v11, main_v12, main_v13, main_v14, main_v15, main_v16, main_v17, main_v18, main_v19, main_c_3, main_v20, main_c_4, main_v21, main_c_5, main_c_6, main_v22, main_v23, main_v24, main_c_7, main_v25, main_v26, main_v27, main_v28, main_c_8, main_v29, main_cst, main_v30, main_c_9, main_c_10, main_v31_0, main_v31_1, main_v31_2, main_v31_3, main_v31_4, main_v31_5, main_v31_6, main_v31_7, main_v31_8, main_v31_9, main_v31_10, main_v31_11, main_v31_12, main_v31_13, main_v31_14] ]
abbrev WA : List (List (Ref sig .tc)) :=
  [ [main_while0b_c_25, main_while0b_v32, main_while0b_c_26, main_while0b_v33, main_while0b_v34, main_while0b_c_27, main_while0b_v35, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_cst_28, main_while0b_v57, main_while0b_v58, main_while0b_cst_29, main_while0b_v59, main_while0b_v60, main_while0b_v61, main_while0b_v62, main_while0b_v63, main_while0b_cst_30, main_while0b_v64, main_while0b_v65, main_while0b_cst_31, main_while0b_v66, main_while0b_v67, main_while0b_v68, main_while0b_v69, main_while0b_v70, main_while0b_cst_32, main_while0b_v71, main_while0b_v72, main_while0b_v73, main_while0b_v74, main_while0b_v75, main_while0b_v76, main_while0b_v77, main_while0b_v78, main_while0b_v79, main_while0b_cst_33, main_while0b_v80, main_while0b_v81, main_while0b_v82, main_while0b_v83, main_while0b_v84, main_while0b_cst_34, main_while0b_v85, main_while0b_v86, main_while0b_v87, main_while0b_v88],
    [main_while0b_call0_c, main_while0b_call0_v0, main_while0b_call0_v1, main_while0b_call0_c_0, main_while0b_call0_v2, main_while0b_call0_v3, main_while0b_call0_v4, main_while0b_call0_v5, main_while0b_call0_v6, main_while0b_call0_v7, main_while0b_call0_v8, main_while0b_call0_v9, main_while0b_call0_v10, main_while0b_call0_call0_v0, main_while0b_call0_call0_c, main_while0b_call0_call0_v1, main_while0b_call0_call0_v2, main_while0b_call0_call0_v3, main_while0b_call0_call0_v4, main_while0b_call0_call0_v5, main_while0b_call0_call0_v6, main_while0b_call0_call0_c_0, main_while0b_call0_call0_v7, main_while0b_call0_call0_v8, main_while0b_call0_call0_c_1, main_while0b_call0_call0_v9, main_while0b_call0_call0_v10, main_while0b_call0_call0_v11, main_while0b_call0_call0_v12, main_while0b_call0_call0_v13, main_while0b_call0_call0_c_2, main_while0b_call0_call0_v14, main_while0b_call0_call0_v15, main_while0b_call0_call0_c_3, main_while0b_call0_call0_v16, main_while0b_call0_call0_v17, main_while0b_call0_call0_v18, main_while0b_call0_call0_v19, main_while0b_call0_call0_v20, main_while0b_call0_call0_c_4, main_while0b_call0_call0_v21, main_while0b_call0_call0_v22, main_while0b_call0_call0_c_5, main_while0b_call0_call0_v23, main_while0b_call0_call0_v24, main_while0b_call0_call0_v25, main_while0b_call0_call0_v26, main_while0b_call0_call0_v27, main_while0b_call0_call0_c_6, main_while0b_call0_call0_v28, main_while0b_call0_call0_v29, main_while0b_call0_call0_c_7, main_while0b_call0_call0_v30, main_while0b_call0_call0_v31, main_while0b_call0_call0_v32, main_while0b_call0_call0_v33, main_while0b_call0_call0_v34, main_while0b_call0_call0_v35, main_while0b_call0_call0_v36, main_while0b_call0_call0_v37, main_while0b_call0_call0_c_8, main_while0b_call0_call0_v38, main_while0b_call0_call0_v39, main_while0b_call0_call0_v40, main_while0b_call0_call0_c_9, main_while0b_call0_call0_v41, main_while0b_call0_call0_v42, main_while0b_call0_call0_c_10, main_while0b_call0_call0_v43, main_while0b_call0_call0_v44, main_while0b_call0_call0_v45, main_while0b_call0_call0_v46, main_while0b_call0_call0_v47, main_while0b_call0_call0_c_11, main_while0b_call0_call0_v48, main_while0b_call0_call0_v49, main_while0b_call0_call0_c_12, main_while0b_call0_call0_v50, main_while0b_call0_call0_v51, main_while0b_call0_call0_v52, main_while0b_call0_call0_v53, main_while0b_call0_call0_v54, main_while0b_call0_call0_c_13, main_while0b_call0_call0_v55, main_while0b_call0_call0_v56, main_while0b_call0_call0_c_14, main_while0b_call0_call0_v57, main_while0b_call0_call0_v58, main_while0b_call0_call0_v59, main_while0b_call0_call0_v60, main_while0b_call0_call0_v61, main_while0b_call0_call0_c_15, main_while0b_call0_call0_v62, main_while0b_call0_call0_v63, main_while0b_call0_call0_c_16, main_while0b_call0_call0_v64, main_while0b_call0_call0_v65, main_while0b_call0_call0_v66, main_while0b_call0_call0_v67, main_while0b_call0_call0_v68, main_while0b_call0_call0_v69, main_while0b_call0_call0_v70, main_while0b_call0_call0_v71, main_while0b_call0_call0_c_17, main_while0b_call0_call0_v72, main_while0b_call0_call0_v73, main_while0b_call0_call0_v74, main_while0b_call0_call0_c_18, main_while0b_call0_call0_v75, main_while0b_call0_call0_v76, main_while0b_call0_call0_c_19, main_while0b_call0_call0_v77, main_while0b_call0_call0_v78, main_while0b_call0_call0_v79, main_while0b_call0_call0_v80, main_while0b_call0_call0_v81, main_while0b_call0_call0_c_20, main_while0b_call0_call0_v82, main_while0b_call0_call0_v83, main_while0b_call0_call0_c_21, main_while0b_call0_call0_v84, main_while0b_call0_call0_v85, main_while0b_call0_call0_v86, main_while0b_call0_call0_v87, main_while0b_call0_call0_v88, main_while0b_call0_call0_c_22, main_while0b_call0_call0_v89, main_while0b_call0_call0_v90, main_while0b_call0_call0_c_23, main_while0b_call0_call0_v91, main_while0b_call0_call0_v92, main_while0b_call0_call0_v93, main_while0b_call0_call0_v94, main_while0b_call0_call0_v95, main_while0b_call0_call0_c_24, main_while0b_call0_call0_v96, main_while0b_call0_call0_v97, main_while0b_call0_call0_c_25, main_while0b_call0_call0_v98, main_while0b_call0_call0_v99, main_while0b_call0_call0_v100, main_while0b_call0_call0_v101, main_while0b_call0_call0_v102, main_while0b_call0_call0_v103, main_while0b_call0_call0_v104, main_while0b_call0_call0_v105, main_while0b_call0_call0_c_26, main_while0b_call0_call0_v106, main_while0b_call0_call0_v107, main_while0b_call0_call0_v108, main_while0b_call0_call0_c_27, main_while0b_call0_call0_v109, main_while0b_call0_call0_v110, main_while0b_call0_call0_c_28, main_while0b_call0_call0_v111, main_while0b_call0_call0_v112, main_while0b_call0_call0_v113, main_while0b_call0_call0_v114, main_while0b_call0_call0_v115, main_while0b_call0_call0_c_29, main_while0b_call0_call0_v116, main_while0b_call0_call0_v117, main_while0b_call0_call0_c_30, main_while0b_call0_call0_v118, main_while0b_call0_call0_v119, main_while0b_call0_call0_v120, main_while0b_call0_call0_v121, main_while0b_call0_call0_v122, main_while0b_call0_call0_c_31, main_while0b_call0_call0_v123, main_while0b_call0_call0_v124, main_while0b_call0_call0_c_32, main_while0b_call0_call0_v125, main_while0b_call0_call0_v126, main_while0b_call0_call0_v127, main_while0b_call0_call0_v128, main_while0b_call0_call0_v129, main_while0b_call0_call0_c_33, main_while0b_call0_call0_v130, main_while0b_call0_call0_v131, main_while0b_call0_call0_c_34, main_while0b_call0_call0_v132, main_while0b_call0_call0_v133, main_while0b_call0_call0_v134, main_while0b_call0_call0_v135, main_while0b_call0_call0_v136, main_while0b_call0_call0_v137, main_while0b_call0_call0_v138, main_while0b_call0_call0_v139, main_while0b_call0_call0_c_35, main_while0b_call0_call0_v140, main_while0b_call0_call0_v141, main_while0b_call0_call0_v142, main_while0b_call0_call0_c_36, main_while0b_call0_call0_v143, main_while0b_call0_call0_v144, main_while0b_call0_call0_c_37, main_while0b_call0_call0_v145, main_while0b_call0_call0_v146, main_while0b_call0_call0_v147, main_while0b_call0_call0_v148, main_while0b_call0_call0_v149, main_while0b_call0_call0_c_38, main_while0b_call0_call0_v150, main_while0b_call0_call0_v151, main_while0b_call0_call0_c_39, main_while0b_call0_call0_v152, main_while0b_call0_call0_v153, main_while0b_call0_call0_v154, main_while0b_call0_call0_v155, main_while0b_call0_call0_v156, main_while0b_call0_call0_c_40, main_while0b_call0_call0_v157, main_while0b_call0_call0_v158, main_while0b_call0_call0_c_41, main_while0b_call0_call0_v159, main_while0b_call0_call0_v160, main_while0b_call0_call0_v161, main_while0b_call0_call0_v162, main_while0b_call0_call0_v163, main_while0b_call0_call0_c_42, main_while0b_call0_call0_v164, main_while0b_call0_call0_v165, main_while0b_call0_call0_c_43, main_while0b_call0_call0_v166, main_while0b_call0_call0_v167, main_while0b_call0_call0_v168, main_while0b_call0_call0_v169, main_while0b_call0_call0_v170, main_while0b_call0_v11_0, main_while0b_call0_call0_v172, main_while0b_call0_call0_v173, main_while0b_call0_call0_c_44, main_while0b_call0_call0_v174, main_while0b_call0_v11_1, main_while0b_v89],
    [main_while0b_v90, main_while0b_v91, main_while0b_v92, main_while0b_v93, main_while0b_v94] ]
abbrev WB : List (List (Ref sig .tc)) :=
  [ [main_while0b_v96, main_while0b_values, main_while0b_indices],
    [main_while0b_v97],
    [main_while0b_v98, main_while0b_c_35, main_while0b_v99, main_while0b_v100, main_while0b_v101, main_while0b_v102, main_while0b_v103, main_while0b_v104, main_while0b_v105, main_while0b_v106, main_while0b_c_36, main_while0b_v107, main_while0b_v108, main_while0b_v109],
    [main_while0b_call2_c, main_while0b_call2_v0, main_while0b_call2_v1, main_while0b_call2_c_0, main_while0b_call2_v2, main_while0b_call2_v3, main_while0b_call2_v4, main_while0b_call2_v5, main_while0b_call2_c_1, main_while0b_call2_c_2, main_while0b_call2_v6, main_while0b_call2_v7, main_while0b_call2_v8, main_while0b_call2_v9, main_while0b_call2_v10, main_while0b_call2_v11, main_while0b_call2_c_3, main_while0b_call2_v12, main_while0b_call2_v13, main_while0b_call2_cst, main_while0b_call2_v14, main_while0b_v110],
    [main_while0b_v111, main_while0b_v112, main_while0b_v113, main_while0b_v114, main_while0b_v115, main_while0b_v116, main_while0b_c_37, main_while0b_v117, main_while0b_v118, main_while0b_cst_38],
    [main_while0b_call3_v0, main_while0b_call3_v1, main_while0b_v119],
    [main_while0b_values_39, main_while0b_indices_40],
    [main_while0b_call4_c, main_while0b_call4_v0, main_while0b_call4_v1, main_while0b_call4_c_0, main_while0b_call4_v2, main_while0b_call4_v3, main_while0b_call4_v4, main_while0b_call4_v5, main_while0b_call4_c_1, main_while0b_call4_c_2, main_while0b_call4_v6, main_while0b_call4_v7, main_while0b_call4_v8, main_while0b_call4_v9, main_while0b_call4_v10, main_while0b_call4_v11, main_while0b_call4_c_3, main_while0b_call4_v12, main_while0b_call4_v13, main_while0b_call4_c_4, main_while0b_call4_v14, main_while0b_v120],
    [main_while0b_v121, main_while0b_v122, main_while0b_v123, main_while0b_v124, main_while0b_c_41, main_while0b_v125, main_while0b_c_42, main_while0b_v126, main_while0b_v127, main_while0b_c_43, main_while0b_v128] ]
abbrev WC : List (List (Ref sig .tc)) :=
  [ [main_while0b_cst_44, main_while0b_v131, main_while0b_v132, main_while0b_v133],
    [main_while0b_call5_cst, main_while0b_call5_cst_0, main_while0b_call5_call0_v0, main_while0b_call5_call0_v1, main_while0b_call5_call0_v2, main_while0b_call5_call0_v3, main_while0b_call5_call0_v4, main_while0b_call5_call0_v5, main_while0b_call5_call0_v6, main_while0b_call5_call0_v7, main_while0b_call5_call0_v8, main_while0b_call5_call0_c, main_while0b_call5_call0_v9, main_while0b_call5_call0_v10, main_while0b_call5_call0_c_0, main_while0b_call5_call0_v11, main_while0b_call5_call0_v12, main_while0b_call5_call0_v13, main_while0b_call5_call0_c_1, main_while0b_call5_call0_v14, main_while0b_call5_call0_v15, main_while0b_call5_call0_v16, main_while0b_call5_call0_v17, main_while0b_call5_call0_call0_v0, main_while0b_call5_call0_call0_c, main_while0b_call5_call0_call0_v1, main_while0b_call5_call0_call0_v2, main_while0b_call5_call0_call0_v3, main_while0b_call5_call0_call0_v4, main_while0b_call5_call0_call0_v5, main_while0b_call5_call0_call0_v6, main_while0b_call5_call0_call0_c_0, main_while0b_call5_call0_call0_v7, main_while0b_call5_call0_call0_v8, main_while0b_call5_call0_call0_c_1, main_while0b_call5_call0_call0_v9, main_while0b_call5_call0_call0_v10, main_while0b_call5_call0_call0_v11, main_while0b_call5_call0_call0_v12, main_while0b_call5_call0_call0_v13, main_while0b_call5_call0_call0_c_2, main_while0b_call5_call0_call0_v14, main_while0b_call5_call0_call0_v15, main_while0b_call5_call0_call0_c_3, main_while0b_call5_call0_call0_v16, main_while0b_call5_call0_call0_v17, main_while0b_call5_call0_call0_v18, main_while0b_call5_call0_call0_v19, main_while0b_call5_call0_call0_v20, main_while0b_call5_call0_call0_c_4, main_while0b_call5_call0_call0_v21, main_while0b_call5_call0_call0_v22, main_while0b_call5_call0_call0_c_5, main_while0b_call5_call0_call0_v23, main_while0b_call5_call0_call0_v24, main_while0b_call5_call0_call0_v25, main_while0b_call5_call0_call0_v26, main_while0b_call5_call0_call0_v27, main_while0b_call5_call0_call0_c_6, main_while0b_call5_call0_call0_v28, main_while0b_call5_call0_call0_v29, main_while0b_call5_call0_call0_c_7, main_while0b_call5_call0_call0_v30, main_while0b_call5_call0_call0_v31, main_while0b_call5_call0_call0_v32, main_while0b_call5_call0_call0_v33, main_while0b_call5_call0_call0_v34, main_while0b_call5_call0_call0_v35, main_while0b_call5_call0_call0_v36, main_while0b_call5_call0_call0_v37, main_while0b_call5_call0_call0_c_8, main_while0b_call5_call0_call0_v38, main_while0b_call5_call0_call0_v39, main_while0b_call5_call0_call0_v40, main_while0b_call5_call0_call0_c_9, main_while0b_call5_call0_call0_v41, main_while0b_call5_call0_call0_v42, main_while0b_call5_call0_call0_c_10, main_while0b_call5_call0_call0_v43, main_while0b_call5_call0_call0_v44, main_while0b_call5_call0_call0_v45, main_while0b_call5_call0_call0_v46, main_while0b_call5_call0_call0_v47, main_while0b_call5_call0_call0_c_11, main_while0b_call5_call0_call0_v48, main_while0b_call5_call0_call0_v49, main_while0b_call5_call0_call0_c_12, main_while0b_call5_call0_call0_v50, main_while0b_call5_call0_call0_v51, main_while0b_call5_call0_call0_v52, main_while0b_call5_call0_call0_v53, main_while0b_call5_call0_call0_v54, main_while0b_call5_call0_call0_c_13, main_while0b_call5_call0_call0_v55, main_while0b_call5_call0_call0_v56, main_while0b_call5_call0_call0_c_14, main_while0b_call5_call0_call0_v57, main_while0b_call5_call0_call0_v58, main_while0b_call5_call0_call0_v59, main_while0b_call5_call0_call0_v60, main_while0b_call5_call0_call0_v61, main_while0b_call5_call0_call0_c_15, main_while0b_call5_call0_call0_v62, main_while0b_call5_call0_call0_v63, main_while0b_call5_call0_call0_c_16, main_while0b_call5_call0_call0_v64, main_while0b_call5_call0_call0_v65, main_while0b_call5_call0_call0_v66, main_while0b_call5_call0_call0_v67, main_while0b_call5_call0_call0_v68, main_while0b_call5_call0_call0_v69, main_while0b_call5_call0_call0_v70, main_while0b_call5_call0_call0_v71, main_while0b_call5_call0_call0_c_17, main_while0b_call5_call0_call0_v72, main_while0b_call5_call0_call0_v73, main_while0b_call5_call0_call0_v74, main_while0b_call5_call0_call0_c_18, main_while0b_call5_call0_call0_v75, main_while0b_call5_call0_call0_v76, main_while0b_call5_call0_call0_c_19, main_while0b_call5_call0_call0_v77, main_while0b_call5_call0_call0_v78, main_while0b_call5_call0_call0_v79, main_while0b_call5_call0_call0_v80, main_while0b_call5_call0_call0_v81, main_while0b_call5_call0_call0_c_20, main_while0b_call5_call0_call0_v82, main_while0b_call5_call0_call0_v83, main_while0b_call5_call0_call0_c_21, main_while0b_call5_call0_call0_v84, main_while0b_call5_call0_call0_v85, main_while0b_call5_call0_call0_v86, main_while0b_call5_call0_call0_v87, main_while0b_call5_call0_call0_v88, main_while0b_call5_call0_call0_c_22, main_while0b_call5_call0_call0_v89, main_while0b_call5_call0_call0_v90, main_while0b_call5_call0_call0_c_23, main_while0b_call5_call0_call0_v91, main_while0b_call5_call0_call0_v92, main_while0b_call5_call0_call0_v93, main_while0b_call5_call0_call0_v94, main_while0b_call5_call0_call0_v95, main_while0b_call5_call0_call0_c_24, main_while0b_call5_call0_call0_v96, main_while0b_call5_call0_call0_v97, main_while0b_call5_call0_call0_c_25, main_while0b_call5_call0_call0_v98, main_while0b_call5_call0_call0_v99, main_while0b_call5_call0_call0_v100, main_while0b_call5_call0_call0_v101, main_while0b_call5_call0_call0_v102, main_while0b_call5_call0_call0_v103, main_while0b_call5_call0_call0_v104, main_while0b_call5_call0_call0_v105, main_while0b_call5_call0_call0_c_26, main_while0b_call5_call0_call0_v106, main_while0b_call5_call0_call0_v107, main_while0b_call5_call0_call0_v108, main_while0b_call5_call0_call0_c_27, main_while0b_call5_call0_call0_v109, main_while0b_call5_call0_call0_v110, main_while0b_call5_call0_call0_c_28, main_while0b_call5_call0_call0_v111, main_while0b_call5_call0_call0_v112, main_while0b_call5_call0_call0_v113, main_while0b_call5_call0_call0_v114, main_while0b_call5_call0_call0_v115, main_while0b_call5_call0_call0_c_29, main_while0b_call5_call0_call0_v116, main_while0b_call5_call0_call0_v117, main_while0b_call5_call0_call0_c_30, main_while0b_call5_call0_call0_v118, main_while0b_call5_call0_call0_v119, main_while0b_call5_call0_call0_v120, main_while0b_call5_call0_call0_v121, main_while0b_call5_call0_call0_v122, main_while0b_call5_call0_call0_c_31, main_while0b_call5_call0_call0_v123, main_while0b_call5_call0_call0_v124, main_while0b_call5_call0_call0_c_32, main_while0b_call5_call0_call0_v125, main_while0b_call5_call0_call0_v126, main_while0b_call5_call0_call0_v127, main_while0b_call5_call0_call0_v128, main_while0b_call5_call0_call0_v129, main_while0b_call5_call0_call0_c_33, main_while0b_call5_call0_call0_v130, main_while0b_call5_call0_call0_v131, main_while0b_call5_call0_call0_c_34, main_while0b_call5_call0_call0_v132, main_while0b_call5_call0_call0_v133, main_while0b_call5_call0_call0_v134, main_while0b_call5_call0_call0_v135, main_while0b_call5_call0_call0_v136, main_while0b_call5_call0_call0_v137, main_while0b_call5_call0_call0_v138, main_while0b_call5_call0_call0_v139, main_while0b_call5_call0_call0_c_35, main_while0b_call5_call0_call0_v140, main_while0b_call5_call0_call0_v141, main_while0b_call5_call0_call0_v142, main_while0b_call5_call0_call0_c_36, main_while0b_call5_call0_call0_v143, main_while0b_call5_call0_call0_v144, main_while0b_call5_call0_call0_c_37, main_while0b_call5_call0_call0_v145, main_while0b_call5_call0_call0_v146, main_while0b_call5_call0_call0_v147, main_while0b_call5_call0_call0_v148, main_while0b_call5_call0_call0_v149, main_while0b_call5_call0_call0_c_38, main_while0b_call5_call0_call0_v150, main_while0b_call5_call0_call0_v151, main_while0b_call5_call0_call0_c_39, main_while0b_call5_call0_call0_v152, main_while0b_call5_call0_call0_v153, main_while0b_call5_call0_call0_v154, main_while0b_call5_call0_call0_v155, main_while0b_call5_call0_call0_v156, main_while0b_call5_call0_call0_c_40, main_while0b_call5_call0_call0_v157, main_while0b_call5_call0_call0_v158, main_while0b_call5_call0_call0_c_41, main_while0b_call5_call0_call0_v159, main_while0b_call5_call0_call0_v160, main_while0b_call5_call0_call0_v161, main_while0b_call5_call0_call0_v162, main_while0b_call5_call0_call0_v163, main_while0b_call5_call0_call0_c_42, main_while0b_call5_call0_call0_v164, main_while0b_call5_call0_call0_v165, main_while0b_call5_call0_call0_c_43, main_while0b_call5_call0_call0_v166, main_while0b_call5_call0_call0_v167, main_while0b_call5_call0_call0_v168, main_while0b_call5_call0_call0_v169, main_while0b_call5_call0_call0_v170, main_while0b_call5_call0_v18_0, main_while0b_call5_call0_call0_v172, main_while0b_call5_call0_call0_v173, main_while0b_call5_call0_call0_c_44, main_while0b_call5_call0_call0_v174, main_while0b_call5_call0_v18_1, main_while0b_call5_call0_v19, main_while0b_call5_call0_c_2, main_while0b_call5_call0_v20, main_while0b_call5_call0_v21, main_while0b_call5_call0_c_3, main_while0b_call5_call0_v22, main_while0b_call5_call0_v23, main_while0b_call5_call0_v24, main_while0b_call5_call0_cst, main_while0b_call5_call0_v25, main_while0b_call5_call0_v26, main_while0b_call5_call0_v27, main_while0b_call5_call0_v28, main_while0b_call5_call0_v29, main_while0b_call5_call0_v30, main_while0b_call5_call0_v31, main_while0b_call5_call0_v32, main_while0b_call5_v0, main_while0b_call5_v1, main_while0b_call5_v2, main_while0b_call5_v3, main_while0b_v134],
    [main_while0b_v135],
    [main_while0b_call6_v0, main_while0b_call6_cst, main_while0b_call6_c, main_while0b_call6_v1_0, main_while0b_v136],
    [main_while0b_v137],
    [main_while0b_call7_c, main_while0b_call7_v0, main_while0b_call7_v1, main_while0b_call7_c_0, main_while0b_call7_v2, main_while0b_call7_v3, main_while0b_call7_v4, main_while0b_call7_v5, main_while0b_call7_c_1, main_while0b_call7_c_2, main_while0b_call7_v6, main_while0b_call7_v7, main_while0b_call7_v8, main_while0b_call7_v9, main_while0b_call7_v10, main_while0b_call7_v11, main_while0b_call7_c_3, main_while0b_call7_v12, main_while0b_call7_v13, main_while0b_call7_cst, main_while0b_call7_v14, main_while0b_v138],
    [main_while0b_v139, main_while0b_v140],
    [main_while0b_call8_c, main_while0b_call8_v0, main_while0b_call8_v1, main_while0b_call8_c_0, main_while0b_call8_v2, main_while0b_call8_v3, main_while0b_call8_v4, main_while0b_call8_v5, main_while0b_call8_c_1, main_while0b_call8_c_2, main_while0b_call8_v6, main_while0b_call8_v7, main_while0b_call8_v8, main_while0b_call8_v9, main_while0b_call8_v10, main_while0b_call8_v11, main_while0b_call8_c_3, main_while0b_call8_v12, main_while0b_call8_v13, main_while0b_call8_c_4, main_while0b_call8_v14, main_while0b_v141],
    [main_while0b_v142, main_while0b_c_45, main_while0b_v143, main_while0b_c_46, main_while0b_v144, main_while0b_v145, main_while0b_v146, main_while0b_v147, main_while0b_v148, main_while0b_c_47, main_while0b_v149, main_while0b_c_48, main_while0b_v150, main_while0b_v151, main_while0b_v152, main_while0b_v153, main_while0b_v154, main_while0b_c_49, main_while0b_v155, main_while0b_v156, main_while0b_c_50, main_while0b_v157, main_while0b_v158, main_while0b_c_51, main_while0b_v159, main_while0b_v160, main_while0b_c_52, main_while0b_v161],
    [main_while0b_call9_v0, main_while0b_call9_v1, main_while0b_v162],
    [main_while0b_c_53],
    [main_while0b_call10_v0, main_while0b_call10_v1, main_while0b_v163],
    [main_while0b_v164],
    [main_while0b_c_54, main_while0b_v165, main_v31_8, main_v31_9, main_v31_10, main_v31_11, main_v31_12, main_v31_13, main_v31_14] ]

set_option maxRecDepth 100000 in
theorem writesH : Writes (stretchH (F := F)) WH := rfl
set_option maxRecDepth 100000 in
theorem writesA : Writes (stretchA (F := F)) WA := rfl
set_option maxRecDepth 100000 in
theorem writesB : Writes (stretchB (F := F)) WB := rfl
set_option maxRecDepth 100000 in
theorem writesC : Writes (stretchC (F := F)) WC := rfl

/-- The read and the two arms of the branch. -/
abbrev WR : List (List (Ref sig .tc)) := [[main_while0b_v129]]
abbrev WF : List (List (Ref sig .tc)) := [[main_while0b_case0b0_v166, main_while0b_case0b0_v167, main_while0b_case0b0_v168, main_while0b_case0b0_v169,
  main_while0b_case0b0_v170, main_while0b_case0b0_values_55, main_while0b_case0b0_indices_56, main_while0b_v130_0, main_while0b_v130_1]]
abbrev WG : List (List (Ref sig .tc)) := [[main_while0b_v130_0, main_while0b_v130_1]]
theorem writesR : Writes [[rdOp (F := F)]] WR := rfl
theorem writesF : Writes [fullOps (F := F)] WF := rfl
theorem writesG : Writes [groupedOps (F := F)] WG := rfl

/-- The branch leaves what neither the read nor an arm writes. -/
theorem afterCase_keep (V : Dev nD → Valuation τ sig (Elt F)) (c : Dev nD) (r : Ref sig .tc) (h : r ∉ (WR ++ WF ++ WG).flatten) :
    afterCase V c (Proc.devRef .tc r) = V c (Proc.devRef .tc r) := by
  simp only [List.flatten_append, List.mem_append, not_or] at h
  have h1 : V1 V c (Proc.devRef .tc r) = V c (Proc.devRef .tc r) := writesR.keep h.1.1 (V c)
  unfold afterCase
  generalize HostLoop.branch (word V c) 1 = b
  fin_cases b
  · exact (writesF.keep h.1.2 (V1 V c)).trans h1
  · exact (writesG.keep h.2 (V1 V c)).trans h1

/-! ## The body, and the contents before each trip -/

/-- The loop body's items, in order. -/
def items : List (Item (F := F)) := opsItems stretchA plainA ++ (vmItem :: (opsItems stretchB plainB ++ (caseItem :: (opsItems stretchC plainC ++ []))))

/-- One trip, from the contents after the condition. -/
def trip (V : Dev nD → Valuation τ sig (Elt F)) : Dev nD → Valuation τ sig (Elt F) := fun c =>
  afterL stretchC (afterCase (fun c => afterL stretchB (afterVm (fun c => afterL stretchA (V c)) c)) c)

theorem items_next (V : Dev nD → Valuation τ sig (Elt F)) : nextL items V = trip V := by
  unfold items
  rw [nextL_ops, StableHlo.nextL_cons, nextL_ops, StableHlo.nextL_cons, nextL_ops]
  rfl

theorem items_ok (k : ℕ) (V : Dev nD → Valuation τ sig (Elt F)) : okL k items V :=
  okL_ops k _ _ _ _ ⟨trivial, okL_ops k _ _ _ _ ⟨trivial, okL_ops k _ _ _ _ trivial⟩⟩

theorem items_disjoint (k : ℕ) : (items (F := F)).Pairwise fun i i' => Disjoint (i.T k) (i'.T k) := by
  have hC : ∀ i ∈ opsItems (F := F) stretchC plainC ++ [], i.T k = ∅ := fun i hi => ops_T k _ _ i (by simpa using hi)
  have hC' : ∀ i ∈ caseItem (F := F) :: (opsItems stretchC plainC ++ []), i.T k = ∅ := fun i hi => by
    rcases List.mem_cons.mp hi with rfl | hi
    · rfl
    · exact hC i hi
  have hB : ∀ i ∈ opsItems (F := F) stretchB plainB ++ (caseItem :: (opsItems stretchC plainC ++ [])), i.T k = ∅ := fun i hi => by
    rcases List.mem_append.mp hi with hi | hi
    · exact ops_T k _ _ i hi
    · exact hC' i hi
  have hnil : ∀ l : List (Item (F := F)), (∀ i ∈ l, i.T k = ∅) → l.Pairwise fun i i' => Disjoint (i.T k) (i'.T k) := fun l hl =>
    List.pairwise_of_forall_mem_list fun i hi j _ => by rw [hl i hi]; exact Finset.disjoint_empty_left _
  unfold items
  refine List.pairwise_append.mpr ⟨hnil _ fun i hi => ops_T k _ _ i hi,
    List.pairwise_cons.mpr ⟨fun i hi => by rw [hB i hi]; exact Finset.disjoint_empty_right _, hnil _ hB⟩,
    fun i hi j _ => by rw [ops_T k _ _ i hi]; exact Finset.disjoint_empty_left _⟩

theorem ticketsL_append (k : ℕ) : ∀ (l l' : List (Item (F := F))), ticketsL k (l ++ l') = ticketsL k l ∪ ticketsL k l'
  | [], l' => (Finset.empty_union _).symm
  | i :: l, l' => by
    show i.T k ∪ ticketsL k (l ++ l') = (i.T k ∪ ticketsL k l) ∪ ticketsL k l'
    rw [ticketsL_append k l l', Finset.union_assoc]

theorem ticketsL_ops (k : ℕ) : ∀ (l : List (List (HloOp τ sig (Elt F)))) (h : Plain l), ticketsL k (opsItems l h) = ∅
  | [], _ => rfl
  | ops :: l, h => by
    exact (Finset.empty_union _).trans (ticketsL_ops k l _)

theorem items_tickets (k : ℕ) : ticketsL k (items (F := F)) = {tkAt k} := by
  unfold items
  rw [ticketsL_append, ticketsL_ops, Finset.empty_union]
  show {tkAt k} ∪ ticketsL k (opsItems (F := F) stretchB plainB ++ (caseItem :: (opsItems stretchC plainC ++ []))) = _
  rw [ticketsL_append, ticketsL_ops, Finset.empty_union]
  show {tkAt k} ∪ (∅ ∪ ticketsL k (opsItems (F := F) stretchC plainC ++ [])) = _
  rw [ticketsL_append, ticketsL_ops]
  rfl

theorem tickets_disjoint (k k' : ℕ) (h : k < k') (hk : k' < 15) : Disjoint (ticketsL k (items (F := F))) (ticketsL k' (items (F := F))) := by
  rw [items_tickets, items_tickets]
  unfold tkAt
  rw [dif_pos (Nat.lt_trans h hk), dif_pos hk]
  exact Finset.disjoint_singleton.mpr fun he => Nat.ne_of_lt h (congrArg Fin.val he)

set_option maxRecDepth 100000 in
theorem body_eq : main_while0_body (F := F) = Pipeline.chain (items.map LoopItem.prog) := by
  rw [while0_body_chain]
  rfl

/-- The condition's two operations: the bound, and the trip counter compared with it. -/
abbrev condOps : List (HloOp τ sig (Elt F)) :=
  [ StableHlo.nullary main_while0c_c_25 (constantI S_ 32 15#32),
    StableHlo.binary main_v31_8 main_while0c_c_25 main_while0c_v32 (cmpi .slt : (⟨S_, .i32⟩ : BufTy).Contents (Elt F) → (⟨S_, .i32⟩ : BufTy).Contents (Elt F) → (⟨S_, .i1⟩ : BufTy).Contents (Elt F)) ]
abbrev Wcond : List (List (Ref sig .tc)) := [[main_while0c_c_25, main_while0c_v32]]
theorem writesCond : Writes [condOps (F := F)] Wcond := rfl

variable (m : (ℓ : Loc nD τ sig) → Buf (Elt F) ℓ)

/-- The buffers at launch, and at the loop's entry; before the `k`-th run of the condition; after the loop. -/
abbrev W0 (c : Dev nD) : Valuation τ sig (Elt F) := fun b => m ((c : Dev nD), b)
abbrev Went (c : Dev nD) : Valuation τ sig (Elt F) := afterL stretchH (W0 m c)
abbrev Wk (k : ℕ) (c : Dev nD) : Valuation τ sig (Elt F) := atTripI condOps items (Went m) k c
abbrev Wend (c : Dev nD) : Valuation τ sig (Elt F) := after condOps (Wk m 15 c)

theorem Wk_succ (k : ℕ) : Wk m (k + 1) = trip fun c => after condOps (Wk m k c) := items_next _

/-- A trip leaves what none of its operations writes. -/
theorem trip_keep (V : Dev nD → Valuation τ sig (Elt F)) (c : Dev nD) (r : Ref sig .tc) (h : r ∉ (WA ++ WB ++ WC ++ WR ++ WF ++ WG ++ [[main_while0b_v95]]).flatten) :
    trip V c (Proc.devRef .tc r) = V c (Proc.devRef .tc r) := by
  simp only [List.flatten_append, List.mem_append, not_or] at h
  unfold trip
  rw [writesC.keep h.1.1.1.1.2, afterCase_keep _ _ _ (by simp only [List.flatten_append, List.mem_append, not_or]; exact ⟨⟨h.1.1.1.2, h.1.1.2⟩, h.1.2⟩),
    writesB.keep h.1.1.1.1.1.2, afterVm_ne _ _ _ (by simpa using h.2), writesA.keep h.1.1.1.1.1.1]

/-! ## The counter and the condition -/

theorem counter_step (X : Valuation τ sig (Elt F)) :
    afterL stretchC X (Proc.devRef .tc main_v31_8) = addi (X (Proc.devRef .tc main_v31_8)) (constantI S_ 32 1#32) := by
  have hs : ∀ Y : Valuation τ sig (Elt F), after while0Ops1_22 Y (Proc.devRef .tc main_v31_8) = addi (Y (Proc.devRef .tc main_v31_8)) (constantI S_ 32 1#32) := fun Y => by
    after_results
    rfl
  have hk : afterL (stretchC.take 13) X (Proc.devRef .tc main_v31_8) = X (Proc.devRef .tc main_v31_8) :=
    Writes.keep (l := stretchC.take 13) (W := WC.take 13) (writesC.take 13) (by decide +kernel) X
  exact (hs _).trans (congrArg (addi · _) hk)

theorem counter_entry (c : Dev nD) : Went m c (Proc.devRef .tc main_v31_8) = fun _ => (0#32 : BitVec 32) := by
  simp only [Went, StableHlo.afterL_cons, StableHlo.afterL_nil]
  after_reads_simp
  rfl

theorem counter (c : Dev nD) : ∀ k, Wk m k c (Proc.devRef .tc main_v31_8) = fun _ => Scf.iv 0#32 1#32 k
  | 0 => (counter_entry m c).trans (by rw [Scf.iv_zero])
  | k + 1 => by
    have hk : afterCase (fun c => afterL stretchB (afterVm (fun c => afterL stretchA (after condOps (Wk m k c))) c)) c (Proc.devRef .tc main_v31_8)
        = Wk m k c (Proc.devRef .tc main_v31_8) := by
      rw [afterCase_keep _ _ _ (by decide +kernel), writesB.keep (by decide +kernel), afterVm_ne _ _ _ (by decide), writesA.keep (by decide +kernel)]
      exact writesCond.keep (by decide) _
    rw [Wk_succ]
    refine (counter_step _).trans ?_
    rw [hk, counter c k, Scf.iv_succ]
    rfl

-- `iapply` of a rule stated for any thread at the TensorCore thread unifies only when unification may unfold
-- plain definitions in a metavariable's type
set_option backward.isDefEq.respectTransparency.types false in
/-- The condition's two operations read `1` exactly while `k < 15`. -/
theorem cond_spec : StableHlo.LoopCondI (pcfgs (F := F)) adm defs₀ 𝒱₀ L lv loops tk uc Rw (main_while0_cond (F := F)) condOps items (Went m) 15 := by
  intro k hk c bd
  have hctr := counter m c k
  unfold main_while0_cond
  rw [wp_bind]
  iintro ⟨Hb, Hh, HR⟩
  iapply (StableHlo.wp_hlo_within (Variants.lift 𝒱₀) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift 𝒱₀) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v31_8 HostLoop.idx0)
        (HloOp.result _ (Wk m k c) main_while0c_c_25 HostLoop.idx0) = 1#1) (k < 15)
    rw [StableHlo.nullary_result_ne _ _ _ _ (by decide), StableHlo.nullary_result, hctr]
    exact Scf.cmpi_slt_iv_ub_iff (lb := 0#32) (ub := 15#32) (st := 1#32) (by decide) (show k ≤ Scf.trips 0#32 15#32 1#32 from hk)
  isplitl [Hb]; · iexact Hb
  isplitl [Hh]; · rw [StableHlo.after_cons, StableHlo.after_cons, StableHlo.after_nil]; iexact Hh
  iexact HR

/-- The loop as one segment. -/
abbrev loopSeg : CSeg (pcfgs (F := F)) adm (defs₀ (F := F)) 𝒱₀ L lv loops tk :=
  StableHlo.loopSegI _ _ _ _ _ _ _ _ uc Rw 0 main_while0_cond main_while0_body rfl condOps items body_eq 15 (Went m) (cond_spec m)
    (fun k _ => items_ok k _) (fun k _ => items_disjoint k) tickets_disjoint

/-- The operations before the loop as one segment. -/
abbrev preSeg : CSeg (pcfgs (F := F)) adm (defs₀ (F := F)) 𝒱₀ L lv loops tk :=
  CSeg.ofOps _ _ _ _ _ _ _ _ uc hostOps0 (fun op h => Pipeline.sub_ucRefs op ((plainH _ List.mem_cons_self).1 op h)) (plainH _ List.mem_cons_self).2 (W0 m) Rw

abbrev segs : List (CSeg (pcfgs (F := F)) adm (defs₀ (F := F)) 𝒱₀ L lv loops tk) := [preSeg m, loopSeg m]

theorem main_run (c : Dev nD) : main (F := F) c = CSeg.runL (segs m) := (main_chain c).trans (by chain_rfl)

end Cert.KernelIdeal.Prf

end
-- ==== Proof.KI.Run.lean ====
/-
  The run of the decode: every execution ends with every buffer at the fold over the trips and every semaphore
  counter at zero; the arguments are unchanged.
-/
module

public import proofs.«01_k».proof.Proof.KI.Loop
public import Idealize.ShloMosaic.Lib.Pipeline.RegionsLoop
public import Idealize.ShloMosaic.Lib.Pipeline.RegionsOwned

@[expose] public section

noncomputable section

namespace Cert.KernelIdeal.Prf

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after afterL held)
open Idealize.ShloMosaic.Pipeline (CSeg)

variable {F : FTy → Type} [FloatOps F] (m : (ℓ : Loc nD τ sig) → Buf (Elt F) ℓ)

local notation "𝕄" => MT nD τ sig Unit (Elt F) ℕ UU ℕ

theorem segs_disjoint : (segs m).Pairwise fun s s' => Disjoint s.T s'.T :=
  List.pairwise_cons.mpr ⟨fun _ _ => Finset.disjoint_empty_left _, List.pairwise_singleton _ _⟩

/-- What a device has at the launch's end: its buffers as the program found them. -/
abbrev Tfirst (c : Dev nD) : sProp 𝕄 := iprop(held (c : Thread nD τ) uc (W0 m c) ∗ Rw c)
abbrev Tlast (c : Dev nD) : sProp 𝕄 := held (c : Thread nD τ) uc (Wend m c)

theorem link_end (c : Dev nD) : (loopSeg m).post c ⊢ iprop(Tlast m c ∗ ∃ W, owes (c.tc : Thread nD τ) (0 : CellTallies nD τ sig Unit) W) := by
  show iprop(held (c : Thread nD τ) uc (Wend m c) ∗ Rw c) ⊢ _
  iintro ⟨Hh, -, HO⟩
  isplitl [Hh]; · iexact Hh
  iexact HO

-- the kit's implicit arguments are found by unifying its conclusion with this one, which unfolds plain definitions in a metavariable's type
set_option backward.isDefEq.respectTransparency.types false in
theorem run_main (g : Dev nD → PrngReg) : θ_run (defs (F := F)) (onTc (τ := τ) (main (F := F))) ⟨m, fun _ => 0, g⟩
    (fun r => (∀ (c : Dev nD), ∀ b ∈ uc, r.2.mem ((c : Dev nD), b) = Wend m c b) ∧ r.2.sem = fun _ => 0) :=
  Pipeline.θ_run_regions_loop_kit_sems (pcfgs (F := F)) adm cellOf_inj defs₀ 𝒱₀ L lv loops tk m g main (segs m)
    (fun c Q => by rw [main_run m c]) (segs_disjoint m)
    (O₀ := 0) (hL := fun _ _ => rfl) (G := fun _ => iprop(BI.emp))
    (u₀ := (fun _ => initOf (Pipeline.cells (Pipeline.pin (pcfgs (F := F)) adm) cellOf_inj) (Pipeline.launchToks (Pipeline.pin (pcfgs (F := F)) adm) cellOf_inj), 1))
    (hu₀ := by
      iintro Hu
      ihave H := (ownU_pair _ _) $$ Hu
      icases H with ⟨HP, -⟩
      imodintro
      isplitl [HP]
      · iapply (own_iprod _) $$ HP
      rw [BI.bigSep_emp_const]
      iempintro)
    (T₀ := Tfirst m) (Tₙ := Tlast m)
    (hch := ⟨fun _ => .rfl, fun _ => .rfl, link_end m⟩)
    (hinit := by
      refine Pipeline.initEach L lv fun c => ?_
      rw [show unscopedBufs c (fun b => m ((c : Thread nD τ).loc b)) = held (c : Thread nD τ) (Pipeline.ucRefs τ sig) (W0 m c) from Pipeline.unscopedBufs_held c (W0 m c)]
      iintro ⟨⟨Hh, -, HO, -, -, -⟩, -⟩
      imodintro
      isplitl [Hh]; · iexact Hh
      isplitr; · iempintro
      iexists ∅; iexact HO)
    (QY := fun c s => ∀ b ∈ uc, s.mem ((c : Dev nD), b) = Wend m c b)
    (hfin := fun c s' => by
      unfold Tlast held
      iintro ⟨Hh, HSI⟩
      ihave Hp := (pointsTo_read_all uc (fun b => (((c : Thread nD τ)).1, b)) (Wend m c) s') $$ [Hh HSI]
      · isplitl [Hh] <;> iassumption
      icases Hp with ⟨%hb, HSI⟩
      imodintro
      isplitr; · ipureintro; exact hb
      iexact HSI)
    (hQ := fun _ h hz => ⟨h, funext fun g => hz g (.inr (by revert g; decide))⟩)

/-- The references that the program writes. -/
abbrev Wall : List (List (Ref sig .tc)) := WH ++ Wcond ++ (WA ++ WB ++ WC ++ WR ++ WF ++ WG ++ [[main_while0b_v95]])

/-- What the program does not write ends as it was. -/
theorem Wend_keep (c : Dev nD) (r : Ref sig .tc) (h : r ∉ Wall.flatten) : Wend m c (Proc.devRef .tc r) = m ((c.tc : Thread nD τ).loc r) := by
  unfold Wall at h
  rw [List.flatten_append, List.flatten_append, List.mem_append, List.mem_append, not_or, not_or] at h
  have hk : ∀ k, Wk m k c (Proc.devRef .tc r) = m ((c.tc : Thread nD τ).loc r) := fun k => by
    induction k with
    | zero => exact writesH.keep h.1.1 (W0 m c)
    | succ k ih =>
      rw [Wk_succ, trip_keep _ _ _ h.2]
      exact (writesCond.keep h.1.2 _).trans ih
  exact (writesCond.keep h.1.2 _).trans (hk 15)

theorem run_args (g : Dev nD → PrngReg) : θ_run (defs (F := F)) (onTc (τ := τ) (main (F := F))) ⟨m, fun _ => 0, g⟩
    (fun r => (∀ c : Dev nD, ∀ b : Ref sig .tc, Proc.devRef .tc b ∈ uc → r.2.mem ((c.tc : Thread nD τ).loc b) = Wend m c (Proc.devRef .tc b)) ∧ r.2.sem = fun _ => 0) :=
  (θ_run defs _ _).mono (fun _ h => ⟨fun c b hb => h.1 c _ hb, h.2⟩) (run_main m g)

/-- The arguments end as they were, at any value they had. -/
theorem Wend_args (c : Dev nD) (r : Ref sig .tc) (h : r ∈ [main_arg0, main_arg1, main_arg2, main_arg3, main_arg4, main_arg5, main_arg6, main_arg7,
    main_arg8, main_arg9, main_arg10, main_arg11, main_arg12]) : Wend m c (Proc.devRef .tc r) = m ((c.tc : Thread nD τ).loc r) :=
  Wend_keep m c r (by revert r; decide +kernel)

theorem args_uc (r : Ref sig .tc) (h : r ∈ [main_arg0, main_arg1, main_arg2, main_arg3, main_arg4, main_arg5, main_arg6, main_arg7,
    main_arg8, main_arg9, main_arg10, main_arg11, main_arg12]) : Proc.devRef .tc r ∈ uc :=
  Finset.mem_filter.mpr ⟨StableHlo.devRef_mem_tcRefs r, by revert r; decide +kernel⟩

end Cert.KernelIdeal.Prf

end
-- ==== Proof.Ref.Run.lean ====
/-
  The run of the reference: what its operations do not write ends as it was, and no semaphore is left raised.
-/
module

public import proofs.«01_k».proof.Proof.Gen.ReferenceIdeal.Run

@[expose] public section

noncomputable section

namespace Cert.ReferenceIdeal.Prf

open Cert.ReferenceIdeal Cert.ReferenceIdeal.Gen Cert.ReferenceIdeal.Value

open Idealize.ShloMosaic Idealize.ShloMosaic.TcCoe Idealize.SL.Sem
open Idealize.ShloMosaic.StableHlo

variable {F : FTy → Type} [FloatOps F]

/-- The lists write the references `W`, operation by operation. -/
def Writes (l : List (List (HloOp τ sig (Elt F)))) (W : List (List (Ref sig .tc))) : Prop :=
  l.map (·.map HloOp.writes) = W.map (·.map fun r => ({Proc.devRef (τ := τ) .tc r} : Finset (DevRef τ sig)))

/-- What the lists do not write stays. -/
theorem Writes.keep {l : List (List (HloOp τ sig (Elt F)))} {W : List (List (Ref sig .tc))} (h : Writes l W) {r : Ref sig .tc}
    (hr : r ∉ W.flatten) (V : Valuation τ sig (Elt F)) : afterL l V (Proc.devRef .tc r) = V (Proc.devRef .tc r) := by
  induction l generalizing W V with
  | nil => rfl
  | cons ops l ih =>
    cases W with
    | nil => cases h
    | cons w W =>
      obtain ⟨h1, h2⟩ := List.cons.inj h
      rw [List.flatten_cons, List.mem_append, not_or] at hr
      exact (ih (W := W) h2 hr.2 _).trans (StableHlo.after_of_writes_sub ops V (StableHlo.forall_writes_sub_of_map h1) hr.1)

abbrev WH : List (List (Ref sig .tc)) := [hostOps0_W]
abbrev Wcond : List (List (Ref sig .tc)) := [condOps_W]
abbrev WB : List (List (Ref sig .tc)) :=
  [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W, while0Ops0_14_W, while0Ops0_15_W, while0Ops0_16_W, while0Ops0_17_W]

set_option maxRecDepth 100000 in
theorem writesH : Writes (preI (F := F)) WH := rfl
theorem writesCond : Writes [condOps (F := F)] Wcond := rfl
set_option maxRecDepth 100000 in
theorem writesB : Writes (bodyI (F := F)) WB := rfl

variable (m : (ℓ : Loc nD τ sig) → Buf (Elt F) ℓ)

/-- The buffers after the loop. -/
abbrev Wend (c : Dev nD) : Valuation τ sig (Elt F) := finalContents condOps preI bodyI postI 15 m c

/-- What the program does not write ends as it was. -/
theorem Wend_keep (c : Dev nD) (r : Ref sig .tc) (h : r ∉ (WH ++ Wcond ++ WB).flatten) : Wend m c (Proc.devRef .tc r) = m ((c.tc : Thread nD τ).loc r) := by
  rw [List.flatten_append, List.flatten_append, List.mem_append, List.mem_append, not_or, not_or] at h
  have hc : ∀ V : Valuation τ sig (Elt F), after condOps V (Proc.devRef .tc r) = V (Proc.devRef .tc r) := fun V => writesCond.keep h.1.2 V
  have hb : ∀ V : Valuation τ sig (Elt F), afterL bodyI V (Proc.devRef .tc r) = V (Proc.devRef .tc r) := fun V => writesB.keep h.2 V
  have hk : ∀ k, atTrip condOps bodyI (entryContents preI m) k c (Proc.devRef .tc r) = m ((c.tc : Thread nD τ).loc r) := fun k => by
    induction k with
    | zero => exact writesH.keep h.1.1 _
    | succ k ih => rw [atTrip_succ, hb, hc, ih]
  unfold Wend finalContents
  generalize 15 = k
  exact (hc _).trans (hk k)

/-- The program has no semaphore. -/
theorem no_sem (s : SemLoc sig) : False := by
  revert s; decide

theorem run_args (g : Dev nD → PrngReg) : θ_run (defs (F := F)) (onTc (τ := τ) (main (F := F))) ⟨m, fun _ => 0, g⟩
    (fun r => (∀ c : Dev nD, ∀ b : Ref sig .tc, (Proc.devRef .tc b : DevRef τ sig).isScoped = false → r.2.mem ((c.tc : Thread nD τ).loc b) = Wend m c (Proc.devRef .tc b))
      ∧ r.2.sem = fun _ => 0) :=
  (θ_run defs _ _).mono (fun _ h => ⟨h, funext fun g => (no_sem g.2).elim⟩) (run_fold (F := F) m (ρ := g))

/-- The arguments. -/
abbrev args : List (Ref sig .tc) := [main_arg0, main_arg1, main_arg2, main_arg3, main_arg4, main_arg5, main_arg6, main_arg7,
    main_arg8, main_arg9, main_arg10, main_arg11, main_arg12]

/-- The arguments end as they were. -/
theorem Wend_args (c : Dev nD) (r : Ref sig .tc) (h : r ∈ args) : Wend m c (Proc.devRef .tc r) = m ((c.tc : Thread nD τ).loc r) :=
  Wend_keep m c r (by revert r; decide +kernel)

theorem args_unscoped (r : Ref sig .tc) (h : r ∈ args) : (Proc.devRef .tc r : DevRef τ sig).isScoped = false := by
  revert r; decide +kernel

end Cert.ReferenceIdeal.Prf

end
-- ==== Proof.Frames.lean ====
/-
  The frames: each program runs, ends with its arguments as they were and leaves every semaphore counter at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Run
public import proofs.«01_k».proof.Proof.KI.Run
public import proofs.«01_k».proof.Proof.Ref.Run

@[expose] public section

noncomputable section

namespace Cert.Proof

open Idealize.ShloMosaic Idealize.SL.Sem

theorem frame_Kernel : Cert.quiescent_Kernel := fun m g _ => by
  refine (θ_run Cert.Kernel.defs _ _).mono (fun r h => ⟨fun c => ?_, h.2⟩) (Cert.Kernel.Prf.run_args m g)
  have k := fun b hb => (h.1 c b (Cert.Kernel.Prf.args_uc b hb)).trans (Cert.Kernel.Prf.Wend_args m c b hb)
  refine ⟨k _ ?_, k _ ?_, k _ ?_, k _ ?_, k _ ?_, k _ ?_, k _ ?_, k _ ?_, k _ ?_, k _ ?_, k _ ?_, k _ ?_, k _ ?_⟩ <;> decide +kernel

theorem frame_KernelIdeal : Cert.quiescent_KernelIdeal := fun m g _ => by
  refine (θ_run Cert.KernelIdeal.defs _ _).mono (fun r h => ⟨fun c => ?_, h.2⟩) (Cert.KernelIdeal.Prf.run_args m g)
  have k := fun b hb => (h.1 c b (Cert.KernelIdeal.Prf.args_uc b hb)).trans (Cert.KernelIdeal.Prf.Wend_args m c b hb)
  refine ⟨k _ ?_, k _ ?_, k _ ?_, k _ ?_, k _ ?_, k _ ?_, k _ ?_, k _ ?_, k _ ?_, k _ ?_, k _ ?_, k _ ?_, k _ ?_⟩ <;> decide +kernel

theorem frame_ReferenceIdeal : Cert.quiescent_ReferenceIdeal := fun m g _ => by
  refine (θ_run Cert.ReferenceIdeal.defs _ _).mono (fun r h => ⟨fun c => ?_, h.2⟩) (Cert.ReferenceIdeal.Prf.run_args m g)
  have k := fun b hb => (h.1 c b (Cert.ReferenceIdeal.Prf.args_unscoped b hb)).trans (Cert.ReferenceIdeal.Prf.Wend_args m c b hb)
  refine ⟨k _ ?_, k _ ?_, k _ ?_, k _ ?_, k _ ?_, k _ ?_, k _ ?_, k _ ?_, k _ ?_, k _ ?_, k _ ?_, k _ ?_, k _ ?_⟩ <;> decide +kernel

end Cert.Proof

end
-- ==== Proof.Alg.Lock.lean ====
/-
  Two lists of host operations run side by side.  A list of pairs of buffer numbers says which buffers of one program
  hold the same contents as which buffers of the other; a step of the same operation on paired operands pairs its results.
-/
module

public import Idealize.ShloMosaic.Lib.StableHlo
public import Idealize.ShloMosaic.Lib.StableHlo.Run
public import Idealize.ShloMosaic.Lib.StableHlo.RunLoop

@[expose] public section

noncomputable section

namespace Cert.Alg

open Idealize.ShloMosaic Idealize.ShloMosaic.TcCoe Idealize.ShloMosaic.StableHlo

variable {τ τ' : Topo} {sig sig' : RefSig} {Val : EltTy → Type}

/-- Is `(a, b)` among the pairs? -/
def inP : List (ℕ × ℕ) → ℕ → ℕ → Bool
  | [], _, _ => false
  | p :: P, a, b => (Nat.beq p.1 a && Nat.beq p.2 b) || inP P a b

/-- Is neither number in any pair, on its side? -/
def freshP : List (ℕ × ℕ) → ℕ → ℕ → Bool
  | [], _, _ => true
  | p :: P, a, b => !(Nat.beq p.1 a) && (!(Nat.beq p.2 b) && freshP P a b)

/-- Every pair of the first list is in the second. -/
def subP : List (ℕ × ℕ) → List (ℕ × ℕ) → Bool
  | [], _ => true
  | p :: Q, P => inP P p.1 p.2 && subP Q P

/-- Is the buffer in the device's main memory? -/
def Hbm (x : Ref sig .tc) : Prop := x.space = .hbm

/-- The buffers that `R` pairs hold the same contents. -/
def AgreeOn (R : ℕ → ℕ → Bool) (V : Valuation τ sig Val) (V' : Valuation τ' sig' Val) : Prop :=
  ∀ (x : Ref sig .tc) (x' : Ref sig' .tc), Hbm x → Hbm x' → R x.idx.val x'.idx.val = true →
    HEq (V (Proc.devRef .tc x)) (V' (Proc.devRef .tc x'))

/-- The buffers paired by the list hold the same contents. -/
abbrev Agree (P : List (ℕ × ℕ)) (V : Valuation τ sig Val) (V' : Valuation τ' sig' Val) : Prop := AgreeOn (inP P) V V'

/-- Every pair of the list is paired by `R`. -/
def subR (R : ℕ → ℕ → Bool) : List (ℕ × ℕ) → Bool
  | [] => true
  | p :: Q => R p.1 p.2 && subR R Q

theorem inP_of_subR {R : ℕ → ℕ → Bool} {Q : List (ℕ × ℕ)} (hQ : subR R Q = true) {a b : ℕ} (hin : inP Q a b = true) : R a b = true := by
  induction Q with
  | nil => exact absurd hin (by simp [inP])
  | cons q Q ih =>
    simp only [subR, Bool.and_eq_true] at hQ
    simp only [inP, Bool.or_eq_true, Bool.and_eq_true] at hin
    rcases hin with ⟨h1, h2⟩ | hin
    · rw [← Nat.eq_of_beq_eq_true h1, ← Nat.eq_of_beq_eq_true h2]; exact hQ.1
    · exact ih hQ.2 hin

theorem AgreeOn.sub {R : ℕ → ℕ → Bool} {Q : List (ℕ × ℕ)} {V : Valuation τ sig Val} {V' : Valuation τ' sig' Val} (h : AgreeOn R V V')
    (hQ : subR R Q = true) : Agree Q V V' := fun x x' hx hx' hin => h x x' hx hx' (inP_of_subR hQ hin)

/-- A number fresh to the pairs is not the number of a paired buffer. -/
theorem ne_of_fresh {P : List (ℕ × ℕ)} {a b y y' : ℕ} (hf : freshP P y y' = true) (h : inP P a b = true) : a ≠ y ∧ b ≠ y' := by
  induction P with
  | nil => exact absurd h (by simp [inP])
  | cons p P ih =>
    simp only [freshP, Bool.and_eq_true, Bool.not_eq_true'] at hf
    simp only [inP, Bool.or_eq_true, Bool.and_eq_true] at h
    rcases h with ⟨h1, h2⟩ | h
    · have e1 := Nat.eq_of_beq_eq_true h1
      have e2 := Nat.eq_of_beq_eq_true h2
      subst e1 e2
      exact ⟨Nat.ne_of_beq_eq_false hf.1, Nat.ne_of_beq_eq_false hf.2.1⟩
    · exact ih hf.2.2 h

/-- Two buffers of main memory with one number are one. -/
theorem ref_eq {x y : Ref sig .tc} (hx : Hbm x) (hy : Hbm y) (h : x.idx.val = y.idx.val) : x = y := by
  obtain ⟨sx, ix, nx⟩ := x
  obtain ⟨sy, iy, ny⟩ := y
  unfold Hbm at hx hy
  dsimp only at hx hy
  subst hx hy
  obtain rfl : ix = iy := Fin.ext h
  rfl

/-- One operation of each program, each writing one buffer, adds that pair to what it leaves alone. -/
theorem AgreeOn.step {R R' : ℕ → ℕ → Bool} {V : Valuation τ sig Val} {V' : Valuation τ' sig' Val} (h : AgreeOn R V V')
    {op : HloOp τ sig Val} {op' : HloOp τ' sig' Val} {y : Ref sig .tc} {y' : Ref sig' .tc}
    (hw : op.writes = {Proc.devRef .tc y}) (hw' : op'.writes = {Proc.devRef .tc y'})
    (hy : Hbm y) (hy' : Hbm y')
    (hR : ∀ a b, R' a b = true → (a = y.idx.val ∧ b = y'.idx.val) ∨ (R a b = true ∧ a ≠ y.idx.val ∧ b ≠ y'.idx.val))
    (hr : HEq (op.result V (Proc.devRef .tc y)) (op'.result V' (Proc.devRef .tc y'))) :
    AgreeOn R' (op.result V) (op'.result V') := by
  intro x x' hx hx' hin
  rcases hR _ _ hin with ⟨h1, h2⟩ | ⟨hin, n1, n2⟩
  · obtain rfl := ref_eq hy hx h1.symm
    obtain rfl := ref_eq hy' hx' h2.symm
    exact hr
  · have e1 : op.result V (Proc.devRef .tc x) = V (Proc.devRef .tc x) := op.result_of_not_mem _ (by
      rw [hw]; intro hm
      exact n1 (congrArg (fun r : Ref sig .tc => r.idx.val) (Proc.devRef_injective _ (Finset.mem_singleton.mp hm))))
    have e2 : op'.result V' (Proc.devRef .tc x') = V' (Proc.devRef .tc x') := op'.result_of_not_mem _ (by
      rw [hw']; intro hm
      exact n2 (congrArg (fun r : Ref sig' .tc => r.idx.val) (Proc.devRef_injective _ (Finset.mem_singleton.mp hm))))
    rw [e1, e2]
    exact h x x' hx hx' hin

/-! ## A stretch that writes buffers numbered in order -/

/-- The pairs of the list, and `k` consecutive numbers from `b` with as many from `b'`. -/
def okK (P : List (ℕ × ℕ)) (b b' k x x' : ℕ) : Bool :=
  (Nat.ble b x && (Nat.ble b' x' && (Nat.beq (x - b) (x' - b') && Nat.blt (x - b) k))) || inP P x x'

/-- Every number of the list is below the two bounds. -/
def below (P : List (ℕ × ℕ)) (b b' : ℕ) : Bool := P.all fun p => Nat.blt p.1 b && Nat.blt p.2 b'

theorem lt_of_below {P : List (ℕ × ℕ)} {b b' x x' : ℕ} (h : below P b b' = true) (hin : inP P x x' = true) : x < b ∧ x' < b' := by
  induction P with
  | nil => exact absurd hin (by simp [inP])
  | cons p P ih =>
    simp only [below, List.all_cons, Bool.and_eq_true] at h
    simp only [inP, Bool.or_eq_true, Bool.and_eq_true] at hin
    rcases hin with ⟨h1, h2⟩ | hin
    · rw [← Nat.eq_of_beq_eq_true h1, ← Nat.eq_of_beq_eq_true h2]
      exact ⟨Nat.le_of_ble_eq_true h.1.1, Nat.le_of_ble_eq_true h.1.2⟩
    · exact ih h.2 hin

theorem okK_iff {P : List (ℕ × ℕ)} {b b' k x x' : ℕ} :
    okK P b b' k x x' = true ↔ (b ≤ x ∧ b' ≤ x' ∧ x - b = x' - b' ∧ x - b < k) ∨ inP P x x' = true := by
  simp only [okK, Bool.or_eq_true, Bool.and_eq_true, Nat.ble_eq, Nat.beq_eq, Nat.blt_eq]

section Same

variable (P : List (ℕ × ℕ)) (b b' k : ℕ)

/-- The `k`-th operations of the two stretches: from contents that agree on what came before, to contents that agree on their
    results too, whenever the pairs lie below the stretch. -/
def Same (op : HloOp τ sig Val) (op' : HloOp τ' sig' Val) : Prop :=
  below P b b' = true → ∀ (V : Valuation τ sig Val) (V' : Valuation τ' sig' Val), AgreeOn (okK P b b' k) V V' →
    AgreeOn (okK P b b' (k + 1)) (op.result V) (op'.result V')

/-- The two stretches are the same operation by operation, the first being the `k`-th. -/
def Seq : ℕ → List (HloOp τ sig Val) → List (HloOp τ' sig' Val) → Prop
  | _, [], [] => True
  | k, op :: l, op' :: l' => Same P b b' k op op' ∧ Seq (k + 1) l l'
  | _, _, _ => False

theorem Seq.run (hP : below P b b' = true) : ∀ (k : ℕ) (l : List (HloOp τ sig Val)) (l' : List (HloOp τ' sig' Val)), Seq P b b' k l l' →
    ∀ (V : Valuation τ sig Val) (V' : Valuation τ' sig' Val), AgreeOn (okK P b b' k) V V' →
      AgreeOn (okK P b b' (k + l.length)) (after l V) (after l' V')
  | _, [], [], _, _, _, hA => hA
  | k, op :: l, op' :: l', h, V, V', hA => by
    rw [List.length_cons, Nat.add_comm l.length 1, ← Nat.add_assoc]
    exact Seq.run hP (k + 1) l l' h.2 _ _ (h.1 hP V V' hA)
  | _, [], _ :: _, h, _, _, _ => h.elim
  | _, _ :: _, [], h, _, _, _ => h.elim

theorem Agree.start {V : Valuation τ sig Val} {V' : Valuation τ' sig' Val} (h : Agree P V V') : AgreeOn (okK P b b' 0) V V' :=
  fun x x' hx hx' hin => h x x' hx hx' ((okK_iff.mp hin).resolve_left fun hh => Nat.not_lt_zero _ hh.2.2.2)

variable {P b b' k}

/-- A step that writes the next numbers and whose results agree is a step of the same operation. -/
theorem Same.of_result {op : HloOp τ sig Val} {op' : HloOp τ' sig' Val} {y : Ref sig .tc} {y' : Ref sig' .tc}
    (hw : op.writes = {Proc.devRef .tc y}) (hw' : op'.writes = {Proc.devRef .tc y'}) (hy : Hbm y) (hy' : Hbm y')
    (ny : y.idx.val = b + k) (ny' : y'.idx.val = b' + k)
    (hr : ∀ (V : Valuation τ sig Val) (V' : Valuation τ' sig' Val), AgreeOn (okK P b b' k) V V' →
      HEq (op.result V (Proc.devRef .tc y)) (op'.result V' (Proc.devRef .tc y'))) : Same P b b' k op op' := by
  intro hP V V' hA
  refine hA.step hw hw' hy hy' (fun x x' h => ?_) (hr V V' hA)
  rw [ny, ny']
  rcases okK_iff.mp h with ⟨h1, h2, h3, h4⟩ | h
  · by_cases hk : x - b < k
    · exact Or.inr ⟨okK_iff.mpr (Or.inl ⟨h1, h2, h3, hk⟩), by omega, by omega⟩
    · exact Or.inl ⟨by omega, by omega⟩
  · have := lt_of_below hP h
    exact Or.inr ⟨okK_iff.mpr (Or.inr h), by omega, by omega⟩

end Same

theorem heq1 {A A' B B' : Type} (hA : A = A') (hB : B = B') {f : A → B} {f' : A' → B'} (hf : HEq f f') {a : A} {a' : A'}
    (ha : HEq a a') : HEq (f a) (f' a') := by
  subst hA hB; cases hf; cases ha; rfl
theorem heq2 {A A' B B' C C' : Type} (hA : A = A') (hB : B = B') (hC : C = C') {f : A → B → C} {f' : A' → B' → C'}
    (hf : HEq f f') {a : A} {a' : A'} (ha : HEq a a') {b : B} {b' : B'} (hb : HEq b b') : HEq (f a b) (f' a' b') := by
  subst hA hB hC; cases hf; cases ha; cases hb; rfl
theorem heq3 {A A' B B' C C' D D' : Type} (hA : A = A') (hB : B = B') (hC : C = C') (hD : D = D') {f : A → B → C → D}
    {f' : A' → B' → C' → D'} (hf : HEq f f') {a : A} {a' : A'} (ha : HEq a a') {b : B} {b' : B'} (hb : HEq b b')
    {c : C} {c' : C'} (hc : HEq c c') : HEq (f a b c) (f' a' b' c') := by
  subst hA hB hC hD; cases hf; cases ha; cases hb; cases hc; rfl
theorem heq4 {A A' B B' C C' D D' E E' : Type} (hA : A = A') (hB : B = B') (hC : C = C') (hD : D = D') (hE : E = E')
    {f : A → B → C → D → E} {f' : A' → B' → C' → D' → E'} (hf : HEq f f') {a : A} {a' : A'} (ha : HEq a a') {b : B} {b' : B'}
    (hb : HEq b b') {c : C} {c' : C'} (hc : HEq c c') {d : D} {d' : D'} (hd : HEq d d') : HEq (f a b c d) (f' a' b' c' d') := by
  subst hA hB hC hD hE; cases hf; cases ha; cases hb; cases hc; cases hd; rfl

/-- The types of two buffers' contents, from the buffers' types. -/
theorem contents_eq {T T' : BufTy} (h : T = T') : T.Contents Val = T'.Contents Val := congrArg (fun U : BufTy => U.Contents Val) h

variable {P : List (ℕ × ℕ)} {b b' k : ℕ}

theorem Same.nullary {y : Ref sig .tc} {y' : Ref sig' .tc} {v : y.ty.Contents Val} {v' : y'.ty.Contents Val} {hy hy'}
    (sy : Hbm y) (sy' : Hbm y') (ny : y.idx.val = b + k) (ny' : y'.idx.val = b' + k) (hv : HEq v v') :
    Same P b b' k (StableHlo.nullary y v hy : HloOp τ sig Val) (StableHlo.nullary y' v' hy' : HloOp τ' sig' Val) :=
  .of_result rfl rfl sy sy' ny ny' fun V V' hA => by rw [nullary_result, nullary_result]; exact hv

theorem Same.unary {x y : Ref sig .tc} {x' y' : Ref sig' .tc} {f : x.ty.Contents Val → y.ty.Contents Val}
    {f' : x'.ty.Contents Val → y'.ty.Contents Val} {hx hy hx' hy'}
    (sx : Hbm x) (sx' : Hbm x') (sy : Hbm y) (sy' : Hbm y')
    (hxi : okK P b b' k x.idx.val x'.idx.val = true) (ny : y.idx.val = b + k) (ny' : y'.idx.val = b' + k)
    (tx : x.ty = x'.ty) (ty : y.ty = y'.ty) (hff : HEq f f') :
    Same P b b' k (StableHlo.unary x y f hx hy : HloOp τ sig Val) (StableHlo.unary x' y' f' hx' hy' : HloOp τ' sig' Val) :=
  .of_result rfl rfl sy sy' ny ny' fun V V' hA => by
    rw [unary_result, unary_result]; exact heq1 (contents_eq tx) (contents_eq ty) hff (hA x x' sx sx' hxi)

theorem Same.binary {a c y : Ref sig .tc} {a' c' y' : Ref sig' .tc} {f : a.ty.Contents Val → c.ty.Contents Val → y.ty.Contents Val}
    {f' : a'.ty.Contents Val → c'.ty.Contents Val → y'.ty.Contents Val} {ha hc hy ha' hc' hy'}
    (sa : Hbm a) (sa' : Hbm a') (sc : Hbm c) (sc' : Hbm c') (sy : Hbm y) (sy' : Hbm y')
    (hai : okK P b b' k a.idx.val a'.idx.val = true) (hci : okK P b b' k c.idx.val c'.idx.val = true)
    (ny : y.idx.val = b + k) (ny' : y'.idx.val = b' + k)
    (ta : a.ty = a'.ty) (tc : c.ty = c'.ty) (ty : y.ty = y'.ty) (hff : HEq f f') :
    Same P b b' k (StableHlo.binary a c y f ha hc hy : HloOp τ sig Val) (StableHlo.binary a' c' y' f' ha' hc' hy' : HloOp τ' sig' Val) :=
  .of_result rfl rfl sy sy' ny ny' fun V V' hA => by
    rw [binary_result, binary_result]
    exact heq2 (contents_eq ta) (contents_eq tc) (contents_eq ty) hff (hA a a' sa sa' hai) (hA c c' sc sc' hci)

theorem Same.ternary {a c d y : Ref sig .tc} {a' c' d' y' : Ref sig' .tc}
    {f : a.ty.Contents Val → c.ty.Contents Val → d.ty.Contents Val → y.ty.Contents Val}
    {f' : a'.ty.Contents Val → c'.ty.Contents Val → d'.ty.Contents Val → y'.ty.Contents Val} {ha hc hd hy ha' hc' hd' hy'}
    (sa : Hbm a) (sa' : Hbm a') (sc : Hbm c) (sc' : Hbm c') (sd : Hbm d) (sd' : Hbm d') (sy : Hbm y) (sy' : Hbm y')
    (hai : okK P b b' k a.idx.val a'.idx.val = true) (hci : okK P b b' k c.idx.val c'.idx.val = true)
    (hdi : okK P b b' k d.idx.val d'.idx.val = true) (ny : y.idx.val = b + k) (ny' : y'.idx.val = b' + k)
    (ta : a.ty = a'.ty) (tc : c.ty = c'.ty) (td : d.ty = d'.ty) (ty : y.ty = y'.ty) (hff : HEq f f') :
    Same P b b' k (StableHlo.ternary a c d y f ha hc hd hy : HloOp τ sig Val)
      (StableHlo.ternary a' c' d' y' f' ha' hc' hd' hy' : HloOp τ' sig' Val) :=
  .of_result rfl rfl sy sy' ny ny' fun V V' hA => by
    rw [ternary_result, ternary_result]
    exact heq3 (contents_eq ta) (contents_eq tc) (contents_eq td) (contents_eq ty) hff (hA a a' sa sa' hai) (hA c c' sc sc' hci)
      (hA d d' sd sd' hdi)

theorem Same.quaternary {a c d e y : Ref sig .tc} {a' c' d' e' y' : Ref sig' .tc}
    {f : a.ty.Contents Val → c.ty.Contents Val → d.ty.Contents Val → e.ty.Contents Val → y.ty.Contents Val}
    {f' : a'.ty.Contents Val → c'.ty.Contents Val → d'.ty.Contents Val → e'.ty.Contents Val → y'.ty.Contents Val}
    {ha hc hd he hy ha' hc' hd' he' hy'}
    (sa : Hbm a) (sa' : Hbm a') (sc : Hbm c) (sc' : Hbm c') (sd : Hbm d) (sd' : Hbm d') (se : Hbm e) (se' : Hbm e')
    (sy : Hbm y) (sy' : Hbm y')
    (hai : okK P b b' k a.idx.val a'.idx.val = true) (hci : okK P b b' k c.idx.val c'.idx.val = true)
    (hdi : okK P b b' k d.idx.val d'.idx.val = true) (hei : okK P b b' k e.idx.val e'.idx.val = true)
    (ny : y.idx.val = b + k) (ny' : y'.idx.val = b' + k)
    (ta : a.ty = a'.ty) (tc : c.ty = c'.ty) (td : d.ty = d'.ty) (te : e.ty = e'.ty) (ty : y.ty = y'.ty) (hff : HEq f f') :
    Same P b b' k (StableHlo.quaternary a c d e y f ha hc hd he hy : HloOp τ sig Val)
      (StableHlo.quaternary a' c' d' e' y' f' ha' hc' hd' he' hy' : HloOp τ' sig' Val) :=
  .of_result rfl rfl sy sy' ny ny' fun V V' hA => by
    rw [quaternary_result, quaternary_result]
    exact heq4 (contents_eq ta) (contents_eq tc) (contents_eq td) (contents_eq te) (contents_eq ty) hff (hA a a' sa sa' hai)
      (hA c c' sc sc' hci) (hA d d' sd sd' hdi) (hA e e' se se' hei)

/-- A reshape as a function of the operand's contents. -/
abbrev reshapeFn (x y : Ref sig .tc) (he : x.ty.elt = y.ty.elt) (hn : x.ty.shape.ShapeCasts y.ty.shape) :
    x.ty.Contents Val → y.ty.Contents Val := fun u i => he ▸ shapeCast y.ty.shape u hn i

theorem Same.reshape {x y : Ref sig .tc} {x' y' : Ref sig' .tc} {he : x.ty.elt = y.ty.elt} {hn : x.ty.shape.ShapeCasts y.ty.shape}
    {he' : x'.ty.elt = y'.ty.elt} {hn' : x'.ty.shape.ShapeCasts y'.ty.shape} {hx hy hx' hy'}
    (sx : Hbm x) (sx' : Hbm x') (sy : Hbm y) (sy' : Hbm y')
    (hxi : okK P b b' k x.idx.val x'.idx.val = true) (ny : y.idx.val = b + k) (ny' : y'.idx.val = b' + k)
    (tx : x.ty = x'.ty) (ty : y.ty = y'.ty)
    (hff : HEq (reshapeFn (Val := Val) x y he hn) (reshapeFn (Val := Val) x' y' he' hn')) :
    Same P b b' k (StableHlo.reshape x y he hn hx hy : HloOp τ sig Val) (StableHlo.reshape x' y' he' hn' hx' hy' : HloOp τ' sig' Val) :=
  .of_result rfl rfl sy sy' ny ny' fun V V' hA => by
    rw [reshape_result, reshape_result]
    exact heq1 (f := reshapeFn x y he hn) (f' := reshapeFn x' y' he' hn') (contents_eq tx) (contents_eq ty) hff (hA x x' sx sx' hxi)

end Cert.Alg
-- ==== Proof.Alg.Pairs.lean ====
/-
  Pairs of buffers, and agreement pair by pair.
-/
module

public import proofs.«01_k».proof.Proof.Alg.Lock

@[expose] public section

noncomputable section

namespace Cert.Alg

open Idealize.ShloMosaic Idealize.ShloMosaic.TcCoe Idealize.ShloMosaic.StableHlo

variable {τ τ' : Topo} {sig sig' : RefSig} {Val : EltTy → Type}

/-- The numbers of the pairs' buffers. -/
abbrev nums (L : List (Ref sig .tc × Ref sig' .tc)) : List (ℕ × ℕ) := L.map fun p => (p.1.idx.val, p.2.idx.val)

/-- The pairs' buffers are in main memory. -/
abbrev InHbm (L : List (Ref sig .tc × Ref sig' .tc)) : Prop := ∀ p ∈ L, Hbm p.1 ∧ Hbm p.2

/-- The pairs' buffers hold the same contents. -/
abbrev Same2 (L : List (Ref sig .tc × Ref sig' .tc)) (V : Valuation τ sig Val) (V' : Valuation τ' sig' Val) : Prop :=
  ∀ p ∈ L, HEq (V (Proc.devRef .tc p.1)) (V' (Proc.devRef .tc p.2))

theorem hbm_nil : InHbm ([] : List (Ref sig .tc × Ref sig' .tc)) := fun _ h => absurd h List.not_mem_nil

theorem hbm_cons {x : Ref sig .tc} {x' : Ref sig' .tc} {L : List (Ref sig .tc × Ref sig' .tc)} (h : Hbm x) (h' : Hbm x') (hL : InHbm L) :
    InHbm ((x, x') :: L) := List.forall_mem_cons.mpr ⟨⟨h, h'⟩, hL⟩

theorem hbm_append {L L' : List (Ref sig .tc × Ref sig' .tc)} (h : InHbm L) (h' : InHbm L') : InHbm (L ++ L') :=
  List.forall_mem_append.mpr ⟨h, h'⟩

theorem agree_of_pairs {L : List (Ref sig .tc × Ref sig' .tc)} (hb : InHbm L) {V : Valuation τ sig Val} {V' : Valuation τ' sig' Val}
    (h : Same2 L V V') : Agree (nums L) V V' := by
  intro x x' hx hx' hin
  induction L with
  | nil => exact absurd hin (by simp [inP])
  | cons p L ih =>
    simp only [nums, List.map_cons, inP, Bool.or_eq_true, Bool.and_eq_true] at hin
    rcases hin with ⟨h1, h2⟩ | hin
    · obtain rfl := ref_eq (hb p List.mem_cons_self).1 hx (Nat.eq_of_beq_eq_true h1)
      obtain rfl := ref_eq (hb p List.mem_cons_self).2 hx' (Nat.eq_of_beq_eq_true h2)
      exact h p List.mem_cons_self
    · exact ih (fun q hq => hb q (List.mem_cons_of_mem _ hq)) (fun q hq => h q (List.mem_cons_of_mem _ hq)) hin

/-- Buffers that `R` pairs hold the same contents, so the pairs of a list do that `R` has. -/
theorem pairs_of_agree {R : ℕ → ℕ → Bool} {L : List (Ref sig .tc × Ref sig' .tc)} (hb : InHbm L) {V : Valuation τ sig Val}
    {V' : Valuation τ' sig' Val} (h : AgreeOn R V V') (hR : subR R (nums L) = true) : Same2 L V V' := by
  induction L with
  | nil => exact fun _ h => absurd h List.not_mem_nil
  | cons p L ih =>
    simp only [nums, List.map_cons, subR, Bool.and_eq_true] at hR
    exact List.forall_mem_cons.mpr ⟨h p.1 p.2 (hb p List.mem_cons_self).1 (hb p List.mem_cons_self).2 hR.1,
      ih (fun q hq => hb q (List.mem_cons_of_mem _ hq)) hR.2⟩

/-- What leaves the pairs' buffers as they were leaves them the same. -/
theorem Same2.carry {L : List (Ref sig .tc × Ref sig' .tc)} {V U : Valuation τ sig Val} {V' U' : Valuation τ' sig' Val} (h : Same2 L V V')
    (hU : ∀ p ∈ L, U (Proc.devRef .tc p.1) = V (Proc.devRef .tc p.1)) (hU' : ∀ p ∈ L, U' (Proc.devRef .tc p.2) = V' (Proc.devRef .tc p.2)) :
    Same2 L U U' := fun p hp => (heq_of_eq (hU p hp)).trans ((h p hp).trans (heq_of_eq (hU' p hp)).symm)

theorem same2_nil {V : Valuation τ sig Val} {V' : Valuation τ' sig' Val} : Same2 [] V V' := fun _ h => absurd h List.not_mem_nil

theorem same2_cons {x : Ref sig .tc} {x' : Ref sig' .tc} {L : List (Ref sig .tc × Ref sig' .tc)} {V : Valuation τ sig Val} {V' : Valuation τ' sig' Val}
    (h : HEq (V (Proc.devRef .tc x)) (V' (Proc.devRef .tc x'))) (hL : Same2 L V V') : Same2 ((x, x') :: L) V V' :=
  List.forall_mem_cons.mpr ⟨h, hL⟩

theorem same2_append {L L' : List (Ref sig .tc × Ref sig' .tc)} {V : Valuation τ sig Val} {V' : Valuation τ' sig' Val}
    (h : Same2 L V V') (h' : Same2 L' V V') : Same2 (L ++ L') V V' :=
  List.forall_mem_append.mpr ⟨h, h'⟩

/-- A stretch run after another, at the length that it is known to have. -/
theorem Seq.run_to {P : List (ℕ × ℕ)} {b b' : ℕ} (hP : below P b b' = true) {k k' : ℕ} {l : List (HloOp τ sig Val)}
    {l' : List (HloOp τ' sig' Val)} (h : Seq P b b' k l l') (hk : k + l.length = k') {V : Valuation τ sig Val} {V' : Valuation τ' sig' Val}
    (hA : AgreeOn (okK P b b' k) V V') : AgreeOn (okK P b b' k') (after l V) (after l' V') := by
  subst hk
  exact Seq.run P b b' hP k l l' h V V' hA

end Cert.Alg
-- ==== Proof.Alg.LockLogits.lean ====
/-
  The decode step up to the logits (embedding, recurrent cell, output layer), side by side.
-/
module

public import proofs.«01_k».proof.Proof.Alg.Lock
public import proofs.«01_k».proof.Proof.Gen.KernelIdeal.Launch
public import proofs.«01_k».proof.Proof.Gen.ReferenceIdeal.Run

@[expose] public section

noncomputable section

namespace Cert.Alg

open Idealize.ShloMosaic Idealize.ShloMosaic.TcCoe Idealize.ShloMosaic.StableHlo

attribute [local irreducible] StableHlo.nullary StableHlo.unary StableHlo.binary StableHlo.ternary StableHlo.quaternary StableHlo.reshape

variable {F : FTy → Type} [FloatOps F]

/-- What a trip finds: the parameters, the random key, the counters and the carried values. -/
abbrev PT : List (ℕ × ℕ) := [(Cert.KernelIdeal.main_v31_0.idx.val, Cert.ReferenceIdeal.main_v31_0.idx.val), (Cert.KernelIdeal.main_v31_1.idx.val, Cert.ReferenceIdeal.main_v31_1.idx.val), (Cert.KernelIdeal.main_v31_2.idx.val, Cert.ReferenceIdeal.main_v31_2.idx.val), (Cert.KernelIdeal.main_v31_3.idx.val, Cert.ReferenceIdeal.main_v31_3.idx.val), (Cert.KernelIdeal.main_v31_4.idx.val, Cert.ReferenceIdeal.main_v31_4.idx.val), (Cert.KernelIdeal.main_v31_5.idx.val, Cert.ReferenceIdeal.main_v31_5.idx.val), (Cert.KernelIdeal.main_v31_6.idx.val, Cert.ReferenceIdeal.main_v31_6.idx.val), (Cert.KernelIdeal.main_v31_7.idx.val, Cert.ReferenceIdeal.main_v31_7.idx.val), (Cert.KernelIdeal.main_v31_8.idx.val, Cert.ReferenceIdeal.main_v31_8.idx.val), (Cert.KernelIdeal.main_v31_9.idx.val, Cert.ReferenceIdeal.main_v31_9.idx.val), (Cert.KernelIdeal.main_v31_10.idx.val, Cert.ReferenceIdeal.main_v31_10.idx.val), (Cert.KernelIdeal.main_v31_11.idx.val, Cert.ReferenceIdeal.main_v31_11.idx.val), (Cert.KernelIdeal.main_v31_12.idx.val, Cert.ReferenceIdeal.main_v31_12.idx.val), (Cert.KernelIdeal.main_v31_13.idx.val, Cert.ReferenceIdeal.main_v31_13.idx.val), (Cert.KernelIdeal.main_v31_14.idx.val, Cert.ReferenceIdeal.main_v31_14.idx.val)]

set_option maxRecDepth 100000 in
set_option maxHeartbeats 4000000 in
theorem seq_logits : Seq (Val := Elt F) PT 74 74 0 (Cert.KernelIdeal.Gen.while0Ops0.take 56) Cert.ReferenceIdeal.Gen.while0Ops0 := by
  repeat (refine ⟨?_, ?_⟩; (first
    | exact Same.binary rfl rfl rfl rfl rfl rfl rfl rfl rfl rfl rfl rfl rfl HEq.rfl
    | exact Same.unary rfl rfl rfl rfl rfl rfl rfl rfl rfl HEq.rfl
    | exact Same.nullary rfl rfl rfl rfl HEq.rfl
    | exact Same.ternary rfl rfl rfl rfl rfl rfl rfl rfl rfl rfl rfl rfl rfl rfl rfl rfl rfl HEq.rfl
    | exact Same.reshape rfl rfl rfl rfl rfl rfl rfl rfl rfl HEq.rfl
    | exact Same.quaternary rfl rfl rfl rfl rfl rfl rfl rfl rfl rfl rfl rfl rfl rfl rfl rfl rfl rfl rfl rfl rfl HEq.rfl))
  exact trivial

end Cert.Alg
-- ==== Proof.Alg.LockRest.lean ====
/-
  The rest of the decode step once the forty candidates are chosen (the noise, the choice, what is recorded), side by side.
-/
module

public import proofs.«01_k».proof.Proof.Alg.Lock
public import proofs.«01_k».proof.Proof.Gen.KernelIdeal.Launch
public import proofs.«01_k».proof.Proof.Gen.ReferenceIdeal.Run

@[expose] public section

noncomputable section

namespace Cert.Alg

open Idealize.ShloMosaic Idealize.ShloMosaic.TcCoe Idealize.ShloMosaic.StableHlo

attribute [local irreducible] StableHlo.nullary StableHlo.unary StableHlo.binary StableHlo.ternary StableHlo.quaternary StableHlo.reshape

variable {F : FTy → Type} [FloatOps F]

/-- What it finds: the carried values, the next step number, the hidden state, the step's key, the forty probabilities and words. -/
abbrev PC : List (ℕ × ℕ) := [(Cert.KernelIdeal.main_v31_0.idx.val, Cert.ReferenceIdeal.main_v31_0.idx.val), (Cert.KernelIdeal.main_v31_1.idx.val, Cert.ReferenceIdeal.main_v31_1.idx.val), (Cert.KernelIdeal.main_v31_2.idx.val, Cert.ReferenceIdeal.main_v31_2.idx.val), (Cert.KernelIdeal.main_v31_3.idx.val, Cert.ReferenceIdeal.main_v31_3.idx.val), (Cert.KernelIdeal.main_v31_4.idx.val, Cert.ReferenceIdeal.main_v31_4.idx.val), (Cert.KernelIdeal.main_v31_5.idx.val, Cert.ReferenceIdeal.main_v31_5.idx.val), (Cert.KernelIdeal.main_v31_6.idx.val, Cert.ReferenceIdeal.main_v31_6.idx.val), (Cert.KernelIdeal.main_v31_7.idx.val, Cert.ReferenceIdeal.main_v31_7.idx.val), (Cert.KernelIdeal.main_v31_8.idx.val, Cert.ReferenceIdeal.main_v31_8.idx.val), (Cert.KernelIdeal.main_v31_9.idx.val, Cert.ReferenceIdeal.main_v31_9.idx.val), (Cert.KernelIdeal.main_v31_10.idx.val, Cert.ReferenceIdeal.main_v31_10.idx.val), (Cert.KernelIdeal.main_v31_11.idx.val, Cert.ReferenceIdeal.main_v31_11.idx.val), (Cert.KernelIdeal.main_v31_12.idx.val, Cert.ReferenceIdeal.main_v31_12.idx.val), (Cert.KernelIdeal.main_v31_13.idx.val, Cert.ReferenceIdeal.main_v31_13.idx.val), (Cert.KernelIdeal.main_v31_14.idx.val, Cert.ReferenceIdeal.main_v31_14.idx.val), (Cert.KernelIdeal.main_while0b_v32.idx.val, Cert.ReferenceIdeal.main_while0b_v32.idx.val), (Cert.KernelIdeal.main_while0b_v75.idx.val, Cert.ReferenceIdeal.main_while0b_v75.idx.val), (Cert.KernelIdeal.main_while0b_v89.idx.val, Cert.ReferenceIdeal.main_while0b_v83.idx.val), (Cert.KernelIdeal.main_while0b_v130_0.idx.val, Cert.ReferenceIdeal.main_while0b_values.idx.val), (Cert.KernelIdeal.main_while0b_v130_1.idx.val, Cert.ReferenceIdeal.main_while0b_indices.idx.val)]

set_option maxRecDepth 100000 in
set_option maxHeartbeats 40000000 in
theorem seq_rest :
    Seq (Val := Elt F) PC 481 385 0 Cert.KernelIdeal.Gen.while0Ops1_9 (Cert.ReferenceIdeal.Gen.while0Ops0_4.drop 2)
    ∧ Seq (Val := Elt F) PC 481 385 4 Cert.KernelIdeal.Gen.while0Ops1_10 Cert.ReferenceIdeal.Gen.while0Ops0_5
    ∧ Seq (Val := Elt F) PC 481 385 271 Cert.KernelIdeal.Gen.while0Ops1_11 Cert.ReferenceIdeal.Gen.while0Ops0_6
    ∧ Seq (Val := Elt F) PC 481 385 272 Cert.KernelIdeal.Gen.while0Ops1_12 Cert.ReferenceIdeal.Gen.while0Ops0_7
    ∧ Seq (Val := Elt F) PC 481 385 277 Cert.KernelIdeal.Gen.while0Ops1_13 Cert.ReferenceIdeal.Gen.while0Ops0_8
    ∧ Seq (Val := Elt F) PC 481 385 278 Cert.KernelIdeal.Gen.while0Ops1_14 Cert.ReferenceIdeal.Gen.while0Ops0_9
    ∧ Seq (Val := Elt F) PC 481 385 300 Cert.KernelIdeal.Gen.while0Ops1_15 Cert.ReferenceIdeal.Gen.while0Ops0_10
    ∧ Seq (Val := Elt F) PC 481 385 302 Cert.KernelIdeal.Gen.while0Ops1_16 Cert.ReferenceIdeal.Gen.while0Ops0_11
    ∧ Seq (Val := Elt F) PC 481 385 324 Cert.KernelIdeal.Gen.while0Ops1_17 Cert.ReferenceIdeal.Gen.while0Ops0_12
    ∧ Seq (Val := Elt F) PC 481 385 352 Cert.KernelIdeal.Gen.while0Ops1_18 Cert.ReferenceIdeal.Gen.while0Ops0_13
    ∧ Seq (Val := Elt F) PC 481 385 355 Cert.KernelIdeal.Gen.while0Ops1_19 Cert.ReferenceIdeal.Gen.while0Ops0_14
    ∧ Seq (Val := Elt F) PC 481 385 356 Cert.KernelIdeal.Gen.while0Ops1_20 Cert.ReferenceIdeal.Gen.while0Ops0_15
    ∧ Seq (Val := Elt F) PC 481 385 359 Cert.KernelIdeal.Gen.while0Ops1_21 Cert.ReferenceIdeal.Gen.while0Ops0_16
    ∧ Seq (Val := Elt F) PC 481 385 360 (Cert.KernelIdeal.Gen.while0Ops1_22.take 2) (Cert.ReferenceIdeal.Gen.while0Ops0_17.take 2) := by
  refine ⟨?_, ?_, ?_, ?_, ?_, ?_, ?_, ?_, ?_, ?_, ?_, ?_, ?_, ?_⟩ <;>
    (repeat (refine ⟨?_, ?_⟩; (first
      | exact Same.binary rfl rfl rfl rfl rfl rfl rfl rfl rfl rfl rfl rfl rfl HEq.rfl
      | exact Same.unary rfl rfl rfl rfl rfl rfl rfl rfl rfl HEq.rfl
      | exact Same.nullary rfl rfl rfl rfl HEq.rfl
      | exact Same.ternary rfl rfl rfl rfl rfl rfl rfl rfl rfl rfl rfl rfl rfl rfl rfl rfl rfl HEq.rfl
      | exact Same.reshape rfl rfl rfl rfl rfl rfl rfl rfl rfl HEq.rfl
      | exact Same.quaternary rfl rfl rfl rfl rfl rfl rfl rfl rfl rfl rfl rfl rfl rfl rfl rfl rfl rfl rfl rfl rfl HEq.rfl))
     exact trivial)

end Cert.Alg
-- ==== Proof.Alg.Rest.lean ====
/-
  From the forty candidates to the next trip: programs that agree on the candidates agree on what the next trip finds.
-/
module

public import proofs.«01_k».proof.Proof.Alg.Pairs
public import proofs.«01_k».proof.Proof.Alg.LockLogits
public import proofs.«01_k».proof.Proof.Alg.LockRest
public import proofs.«01_k».proof.Proof.KI.Loop
public import proofs.«01_k».proof.Proof.Ref.Run

@[expose] public section

noncomputable section

namespace Cert.Alg

open Idealize.ShloMosaic Idealize.ShloMosaic.TcCoe Idealize.ShloMosaic.StableHlo

variable {F : FTy → Type} [FloatOps F]

section

open Cert.KernelIdeal

/-- A buffer of the kernel's program with one of the reference's. -/
abbrev RefPair : Type := Ref Cert.KernelIdeal.sig .tc × Ref Cert.ReferenceIdeal.sig .tc

/-- The parameters and the random key, which no trip writes; the counters and the carried values. -/
abbrev LP : List RefPair :=
  [(main_v31_0, Cert.ReferenceIdeal.main_v31_0), (main_v31_1, Cert.ReferenceIdeal.main_v31_1), (main_v31_2, Cert.ReferenceIdeal.main_v31_2),
   (main_v31_3, Cert.ReferenceIdeal.main_v31_3), (main_v31_4, Cert.ReferenceIdeal.main_v31_4), (main_v31_5, Cert.ReferenceIdeal.main_v31_5),
   (main_v31_6, Cert.ReferenceIdeal.main_v31_6), (main_v31_7, Cert.ReferenceIdeal.main_v31_7)]
abbrev LV : List RefPair :=
  [(main_v31_8, Cert.ReferenceIdeal.main_v31_8), (main_v31_9, Cert.ReferenceIdeal.main_v31_9), (main_v31_10, Cert.ReferenceIdeal.main_v31_10),
   (main_v31_11, Cert.ReferenceIdeal.main_v31_11), (main_v31_12, Cert.ReferenceIdeal.main_v31_12), (main_v31_13, Cert.ReferenceIdeal.main_v31_13),
   (main_v31_14, Cert.ReferenceIdeal.main_v31_14)]
/-- What a trip finds. -/
abbrev LT : List RefPair := LP ++ LV
/-- What the step computes for the next one beside its choice. -/
abbrev LN : List RefPair :=
  [(main_while0b_v32, Cert.ReferenceIdeal.main_while0b_v32), (main_while0b_v75, Cert.ReferenceIdeal.main_while0b_v75)]

theorem hbm_LP : InHbm LP := by
  repeat refine hbm_cons rfl rfl ?_
  exact hbm_nil
theorem hbm_LV : InHbm LV := by
  repeat refine hbm_cons rfl rfl ?_
  exact hbm_nil
theorem hbm_LT : InHbm LT := hbm_append hbm_LP hbm_LV
theorem hbm_LN : InHbm LN := by
  repeat refine hbm_cons rfl rfl ?_
  exact hbm_nil

end

theorem nums_LT : nums LT = PT := rfl

/-- The kernel's operations after the branch up to the copies for the next trip, and the reference's. -/
abbrev copyK : List (HloOp Cert.KernelIdeal.τ Cert.KernelIdeal.sig (Elt F)) := Cert.KernelIdeal.Gen.while0Ops1_22.drop 2
abbrev copyR : List (HloOp Cert.ReferenceIdeal.τ Cert.ReferenceIdeal.sig (Elt F)) := Cert.ReferenceIdeal.Gen.while0Ops0_17.drop 2

section Run

open Cert.KernelIdeal.Gen

/-- The kernel's buffers after the choice. -/
abbrev restK (Y : Valuation Cert.KernelIdeal.τ Cert.KernelIdeal.sig (Elt F)) : Valuation Cert.KernelIdeal.τ Cert.KernelIdeal.sig (Elt F) :=
  after (while0Ops1_22.take 2) (afterL [while0Ops1_9, while0Ops1_10, while0Ops1_11, while0Ops1_12, while0Ops1_13, while0Ops1_14, while0Ops1_15, while0Ops1_16,
    while0Ops1_17, while0Ops1_18, while0Ops1_19, while0Ops1_20, while0Ops1_21] Y)

theorem stretchC_eq (Y : Valuation Cert.KernelIdeal.τ Cert.KernelIdeal.sig (Elt F)) :
    afterL Cert.KernelIdeal.Prf.stretchC Y = after copyK (restK Y) := rfl

end Run

section RunR

open Cert.ReferenceIdeal.Gen

/-- The reference's buffers after the choice. -/
abbrev restR (Y : Valuation Cert.ReferenceIdeal.τ Cert.ReferenceIdeal.sig (Elt F)) : Valuation Cert.ReferenceIdeal.τ Cert.ReferenceIdeal.sig (Elt F) :=
  after (while0Ops0_17.take 2) (afterL [while0Ops0_4.drop 2, while0Ops0_5, while0Ops0_6, while0Ops0_7, while0Ops0_8, while0Ops0_9, while0Ops0_10, while0Ops0_11,
    while0Ops0_12, while0Ops0_13, while0Ops0_14, while0Ops0_15, while0Ops0_16] Y)

/-- The reference's stretch from the candidates. -/
abbrev stretchR : List (List (HloOp Cert.ReferenceIdeal.τ Cert.ReferenceIdeal.sig (Elt F))) :=
  [while0Ops0_4.drop 2, while0Ops0_5, while0Ops0_6, while0Ops0_7, while0Ops0_8, while0Ops0_9, while0Ops0_10, while0Ops0_11,
    while0Ops0_12, while0Ops0_13, while0Ops0_14, while0Ops0_15, while0Ops0_16, while0Ops0_17]

theorem stretchR_eq (Y : Valuation Cert.ReferenceIdeal.τ Cert.ReferenceIdeal.sig (Elt F)) : afterL stretchR Y = after copyR (restR Y) := rfl

end RunR

variable (Y : Valuation Cert.KernelIdeal.τ Cert.KernelIdeal.sig (Elt F)) (Y' : Valuation Cert.ReferenceIdeal.τ Cert.ReferenceIdeal.sig (Elt F))

set_option maxRecDepth 100000 in
/-- The two programs' stretches after the choice, side by side. -/
theorem rest_agree (h : Agree PC Y Y') : AgreeOn (okK PC 481 385 362) (restK Y) (restR Y') := by
  obtain ⟨h1, h2, h3, h4, h5, h6, h7, h8, h9, h10, h11, h12, h13, h14⟩ := seq_rest (F := F)
  have hP : below PC 481 385 = true := by decide +kernel
  refine h14.run_to hP rfl (h13.run_to hP rfl (h12.run_to hP rfl (h11.run_to hP rfl (h10.run_to hP rfl (h9.run_to hP rfl (h8.run_to hP rfl ?_))))))
  exact h7.run_to hP rfl (h6.run_to hP rfl (h5.run_to hP rfl (h4.run_to hP rfl (h3.run_to hP rfl (h2.run_to hP rfl (h1.run_to hP rfl
    (Agree.start PC 481 385 h)))))))

section Copies

open Cert.KernelIdeal

theorem copies_K : after copyK Y (Proc.devRef .tc main_v31_8) = Y (Proc.devRef .tc main_while0b_v165)
    ∧ after copyK Y (Proc.devRef .tc main_v31_9) = Y (Proc.devRef .tc main_while0b_v32)
    ∧ after copyK Y (Proc.devRef .tc main_v31_10) = Y (Proc.devRef .tc main_while0b_v75)
    ∧ after copyK Y (Proc.devRef .tc main_v31_11) = Y (Proc.devRef .tc main_while0b_v142)
    ∧ after copyK Y (Proc.devRef .tc main_v31_12) = Y (Proc.devRef .tc main_while0b_v164)
    ∧ after copyK Y (Proc.devRef .tc main_v31_13) = Y (Proc.devRef .tc main_while0b_v148)
    ∧ after copyK Y (Proc.devRef .tc main_v31_14) = Y (Proc.devRef .tc main_while0b_v154) := by
  unfold copyK
  simp only [List.drop_succ_cons, List.drop_zero]
  refine ⟨?_, ?_, ?_, ?_, ?_, ?_, ?_⟩ <;> (after_results; rfl)

theorem keep_copyK (r : Ref sig .tc) (h : r ∈ LP.map Prod.fst) : after copyK Y (Proc.devRef .tc r) = Y (Proc.devRef .tc r) :=
  Cert.KernelIdeal.Prf.Writes.keep (l := [copyK]) (W := [[main_v31_8, main_v31_9, main_v31_10, main_v31_11, main_v31_12, main_v31_13, main_v31_14]]) rfl
    (by revert r; decide +kernel) Y

end Copies

section CopiesR

open Cert.ReferenceIdeal

theorem copies_R : after copyR Y' (Proc.devRef .tc main_v31_8) = Y' (Proc.devRef .tc main_while0b_v118)
    ∧ after copyR Y' (Proc.devRef .tc main_v31_9) = Y' (Proc.devRef .tc main_while0b_v32)
    ∧ after copyR Y' (Proc.devRef .tc main_v31_10) = Y' (Proc.devRef .tc main_while0b_v75)
    ∧ after copyR Y' (Proc.devRef .tc main_v31_11) = Y' (Proc.devRef .tc main_while0b_v95)
    ∧ after copyR Y' (Proc.devRef .tc main_v31_12) = Y' (Proc.devRef .tc main_while0b_v117)
    ∧ after copyR Y' (Proc.devRef .tc main_v31_13) = Y' (Proc.devRef .tc main_while0b_v101)
    ∧ after copyR Y' (Proc.devRef .tc main_v31_14) = Y' (Proc.devRef .tc main_while0b_v107) := by
  unfold copyR
  simp only [List.drop_succ_cons, List.drop_zero]
  refine ⟨?_, ?_, ?_, ?_, ?_, ?_, ?_⟩ <;> (after_results; rfl)

theorem keep_copyR (r : Ref sig .tc) (h : r ∈ LP.map Prod.snd) : after copyR Y' (Proc.devRef .tc r) = Y' (Proc.devRef .tc r) :=
  Cert.ReferenceIdeal.Prf.Writes.keep (l := [copyR]) (W := [[main_v31_8, main_v31_9, main_v31_10, main_v31_11, main_v31_12, main_v31_13, main_v31_14]]) rfl
    (by revert r; decide +kernel) Y'

end CopiesR

section Out

open Cert.KernelIdeal

/-- What the copies are taken from. -/
abbrev LS : List RefPair :=
  [(main_while0b_v165, Cert.ReferenceIdeal.main_while0b_v118), (main_while0b_v32, Cert.ReferenceIdeal.main_while0b_v32),
   (main_while0b_v75, Cert.ReferenceIdeal.main_while0b_v75), (main_while0b_v142, Cert.ReferenceIdeal.main_while0b_v95),
   (main_while0b_v164, Cert.ReferenceIdeal.main_while0b_v117), (main_while0b_v148, Cert.ReferenceIdeal.main_while0b_v101),
   (main_while0b_v154, Cert.ReferenceIdeal.main_while0b_v107)]

theorem hbm_LS : InHbm LS := by
  repeat refine hbm_cons rfl rfl ?_
  exact hbm_nil

/-- Programs that agree on the candidates agree on what the next trip finds. -/
theorem rest (h : Agree PC Y Y') : Same2 LT (afterL Cert.KernelIdeal.Prf.stretchC Y) (afterL stretchR Y') := by
  have hr := rest_agree Y Y' h
  rw [stretchC_eq, stretchR_eq]
  generalize restK Y = X at hr ⊢
  generalize restR Y' = X' at hr ⊢
  refine same2_append ?_ ?_
  · exact Same2.carry (pairs_of_agree hbm_LP hr (by decide +kernel))
      (fun p hp => keep_copyK X p.1 (List.mem_map_of_mem hp)) (fun p hp => keep_copyR X' p.2 (List.mem_map_of_mem hp))
  · have hs := pairs_of_agree hbm_LS hr (by decide +kernel)
    obtain ⟨s1, s2, s3, s4, s5, s6, s7⟩ := by simpa only [LS, List.forall_mem_cons] using hs
    obtain ⟨k1, k2, k3, k4, k5, k6, k7⟩ := copies_K X
    obtain ⟨r1, r2, r3, r4, r5, r6, r7⟩ := copies_R X'
    exact same2_cons ((heq_of_eq k1).trans (s1.trans (heq_of_eq r1).symm)) (same2_cons ((heq_of_eq k2).trans (s2.trans (heq_of_eq r2).symm))
      (same2_cons ((heq_of_eq k3).trans (s3.trans (heq_of_eq r3).symm)) (same2_cons ((heq_of_eq k4).trans (s4.trans (heq_of_eq r4).symm))
      (same2_cons ((heq_of_eq k5).trans (s5.trans (heq_of_eq r5).symm)) (same2_cons ((heq_of_eq k6).trans (s6.trans (heq_of_eq r6).symm))
      (same2_cons ((heq_of_eq k7).trans (s7.1.trans (heq_of_eq r7).symm)) same2_nil))))))

end Out

end Cert.Alg
-- ==== Proof.Alg.Order.lean ====
/-
  The k greatest of a row, equal values in index order; and the same k found among the members of the groups whose maxima
  are the greatest, when few enough groups reach the last value found.
-/
module

public import Idealize.ShloMosaic.Lib.SortFacts
public import Idealize.ShloMosaic.Lib.SortPrefix

@[expose] public section

noncomputable section

namespace Cert.Alg

open Idealize.ShloMosaic

variable {α : Type} [LinearOrder α]

/-- The positions of a row, greatest value first, equal values in the order the stable sort leaves them. -/
def ord {n : ℕ} (x : Fin n → α) : Fin n → Fin n := sortedFrom fun k k' => decide (x k' < x k)

/-- Greater value first, then the lesser position. -/
def before {n : ℕ} (x : Fin n → α) (k k' : Fin n) : Bool := decide (x k' < x k) || (decide (x k = x k') && decide (k < k'))

theorem before_strict {n : ℕ} (x : Fin n → α) : StrictTotalBefore (before x) :=
  StrictTotalBefore.of_key_then_position (fun a b => decide (b < a)) x (fun a => by simp)
    (fun a b c hab hbc => by simp only [decide_eq_true_eq] at *; exact lt_trans hbc hab)
    (fun a b => by
      simp only [decide_eq_true_eq]
      rcases lt_trichotomy a b with h | h | h
      · exact Or.inr (Or.inr h)
      · exact Or.inr (Or.inl h)
      · exact Or.inl h)

/-- On positions listed in order the stable sort by value alone is the sort by value and then position. -/
theorem stableSort_before {n : ℕ} (x : Fin n → α) : ∀ l : List (Fin n), l.Pairwise (· < ·) →
    stableSort (fun k k' => decide (x k' < x k)) l = stableSort (before x) l
  | [], _ => rfl
  | a :: l, h => by
    rw [List.pairwise_cons] at h
    unfold stableSort
    rw [stableSort_before x l h.2]
    refine insertBefore_congr _ _ a _ fun b hb => ?_
    have hab : a < b := h.1 b ((perm_stableSort _ l).mem_iff.mp hb)
    unfold before
    rw [decide_eq_false (not_lt_of_gt hab), Bool.and_false, Bool.or_false]

theorem ord_eq {n : ℕ} (x : Fin n → α) : ord x = sortedFrom (before x) := by
  have h : sortPositions n (fun k k' => decide (x k' < x k)) = sortPositions n (before x) :=
    stableSort_before x _ (List.pairwise_lt_finRange n)
  funext k
  unfold ord sortedFrom
  rw [List.get_of_eq h]
  rfl

theorem ord_injective {n : ℕ} (x : Fin n → α) : Function.Injective (ord x) := sortedFrom_injective _
theorem ord_surjective {n : ℕ} (x : Fin n → α) : Function.Surjective (ord x) := sortedFrom_surjective _

/-- An earlier place holds a position that comes before. -/
theorem ord_before {n : ℕ} (x : Fin n → α) {i j : Fin n} (h : i < j) : before x (ord x i) (ord x j) = true := by
  have hB := before_strict x
  have hne : ord x i ≠ ord x j := fun e => (ne_of_lt h) (ord_injective x e)
  have hno : before x (ord x j) (ord x i) = false := by
    rw [ord_eq]
    exact sortedFrom_noInversion (before x) (before x) (fun a b h => hB.asymm a b h) (fun _ _ h => h) hB.negTrans i j h
  rcases hB.total _ _ hne with h | h
  · exact h
  · rw [hno] at h; exact absurd h (by decide)

theorem le_of_before {n : ℕ} {x : Fin n → α} {a b : Fin n} (h : before x a b = true) : x b ≤ x a := by
  unfold before at h
  simp only [Bool.or_eq_true, Bool.and_eq_true, decide_eq_true_eq] at h
  rcases h with h | h
  · exact le_of_lt h
  · exact le_of_eq h.1.symm

theorem ord_le {n : ℕ} (x : Fin n → α) {i j : Fin n} (h : i ≤ j) : x (ord x j) ≤ x (ord x i) := by
  rcases lt_or_eq_of_le h with h | h
  · exact le_of_before (ord_before x h)
  · rw [h]

attribute [local irreducible] ord

section Groups

variable [Zero α]
variable (p : Fin 100000 → α) (vm : Fin 3328 → α) (gid : Fin 44 → Fin 3328) (pc : Fin 1408 → α)

/-- The index that candidate `c` stands for: member `c % 32` of the group in place `c / 32`. -/
def cand (gid : Fin 44 → Fin 3328) (c : Fin 1408) : ℕ := 32 * (gid ⟨c.val / 32, by omega⟩).val + c.val % 32

theorem cand_mono {gid : Fin 44 → Fin 3328} (hg : StrictMono gid) {c c' : Fin 1408} (h : c < c') : cand gid c < cand gid c' := by
  have h' : c.val < c'.val := h
  unfold cand
  by_cases e : c.val / 32 = c'.val / 32
  · simp only [e]; omega
  · have := hg (show (⟨c.val / 32, by omega⟩ : Fin 44) < ⟨c'.val / 32, by omega⟩ from by
      show c.val / 32 < c'.val / 32
      omega)
    have h2 : (gid ⟨c.val / 32, by omega⟩).val < (gid ⟨c'.val / 32, by omega⟩).val := this
    omega

theorem cand_inj {gid : Fin 44 → Fin 3328} (hg : StrictMono gid) {c c' : Fin 1408} (h : cand gid c = cand gid c') : c = c' := by
  rcases lt_trichotomy c c' with h' | h' | h'
  · exact absurd h (ne_of_lt (cand_mono hg h'))
  · exact h'
  · exact absurd h.symm (ne_of_lt (cand_mono hg h'))

/-- The forty greatest of the row are the forty greatest of the candidates, if the candidates are the members of the
    forty-four groups of greatest maxima and no more than forty-four groups reach the fortieth candidate. -/
theorem top_of_groups (hg : StrictMono gid)
    (hgid : ∀ g, (∃ i : Fin 44, gid i = g) ↔ ∃ i : Fin 44, ord vm (i.castLE (by omega)) = g)
    (hpc : ∀ c, pc c = if h : cand gid c < 100000 then p ⟨cand gid c, h⟩ else 0)
    (hvm : ∀ v : Fin 100000, p v ≤ vm ⟨v.val / 32, by omega⟩) (hv0 : ∀ g, 0 ≤ vm g)
    (hok : (Finset.univ.filter fun g => pc (ord pc ⟨39, by omega⟩) ≤ vm g).card ≤ 44) (i : Fin 40) :
    ∃ h : cand gid (ord pc (i.castLE (by omega))) < 100000,
      ord p (i.castLE (by omega)) = ⟨cand gid (ord pc (i.castLE (by omega))), h⟩ := by
  set th := pc (ord pc ⟨39, by omega⟩) with hth
  -- the threshold is positive
  have hpos : 0 < th := by
    by_contra hle
    rw [not_lt] at hle
    have : (Finset.univ.filter fun g : Fin 3328 => th ≤ vm g) = Finset.univ :=
      Finset.filter_true_of_mem fun g _ => hle.trans (hv0 g)
    rw [this, Finset.card_univ, Fintype.card_fin] at hok
    omega
  -- every group that reaches it is chosen
  have hsel : ∀ g, th ≤ vm g → ∃ i : Fin 44, gid i = g := by
    intro g hgt
    rw [hgid]
    obtain ⟨j, hj⟩ := ord_surjective vm g
    by_cases hj44 : j.val < 44
    · exact ⟨⟨j.val, hj44⟩, by rw [← hj]; rfl⟩
    · exfalso
      have hsub : (Finset.univ.map ⟨fun i : Fin 45 => ord vm (i.castLE (by omega)), fun a b e => by
          exact Fin.castLE_injective _ (ord_injective vm e)⟩) ⊆ Finset.univ.filter fun g : Fin 3328 => th ≤ vm g := by
        intro q hq
        obtain ⟨a, -, rfl⟩ := Finset.mem_map.mp hq
        refine Finset.mem_filter.mpr ⟨Finset.mem_univ _, hgt.trans ?_⟩
        rw [← hj]
        exact ord_le vm (Fin.le_def.mpr ((Nat.le_of_lt_succ a.isLt).trans (not_lt.mp hj44)))
      have := Finset.card_le_card hsub
      rw [Finset.card_map, Finset.card_univ, Fintype.card_fin] at this
      omega
  -- the first forty candidates reach it, so they are members of the row
  have hge : ∀ i : Fin 40, th ≤ pc (ord pc (i.castLE (by omega))) := fun i => by
    exact ord_le pc (Fin.le_def.mpr (Nat.le_of_lt_succ i.isLt))
  have hval : ∀ i : Fin 40, cand gid (ord pc (i.castLE (by omega))) < 100000 := fun i => by
    by_contra hn
    have := hge i
    rw [hpc, dif_neg hn] at this
    exact absurd hpos (not_lt_of_ge this)
  have hpv : ∀ i : Fin 40, pc (ord pc (i.castLE (by omega))) = p ⟨cand gid (ord pc (i.castLE (by omega))), hval i⟩ := fun i => by
    rw [hpc, dif_pos (hval i)]
  -- candidate order is row order
  have hbef : ∀ (c c' : Fin 1408) (h : cand gid c < 100000) (h' : cand gid c' < 100000), before pc c c' = true →
      before p ⟨cand gid c, h⟩ ⟨cand gid c', h'⟩ = true := by
    intro c c' h h' hb
    unfold before at hb ⊢
    rw [hpc c, hpc c', dif_pos h, dif_pos h'] at hb
    simp only [Bool.or_eq_true, Bool.and_eq_true, decide_eq_true_eq] at hb ⊢
    exact hb.imp id fun hh => ⟨hh.1, cand_mono hg hh.2⟩
  refine ⟨hval i, ?_⟩
  rw [ord_eq p]
  have hB := before_strict p
  refine hB.sortedFrom_eq_of_prefix (k := 40) (by omega) (fun i => ⟨cand gid (ord pc (i.castLE (by omega))), hval i⟩) ?_ ?_ ?_ i
  · intro a b e
    have e' : cand gid (ord pc (a.castLE (by omega))) = cand gid (ord pc (b.castLE (by omega))) := congrArg Fin.val e
    exact Fin.castLE_injective _ (ord_injective pc (cand_inj hg e'))
  · intro a b hab
    exact hB.asymm _ _ (hbef _ _ _ _ (ord_before pc hab))
  · intro a q hq
    refine hB.asymm _ _ ?_
    by_cases hs : ∃ j : Fin 44, gid j = ⟨q.val / 32, by omega⟩
    · obtain ⟨j, hj⟩ := hs
      have hjv : (gid j).val = q.val / 32 := congrArg Fin.val hj
      have hc : cand gid ⟨32 * j.val + q.val % 32, by omega⟩ = q.val := by
        unfold cand
        have e1 : (⟨(32 * j.val + q.val % 32) / 32, by omega⟩ : Fin 44) = j := Fin.ext (by show (32 * j.val + q.val % 32) / 32 = j.val; omega)
        simp only [e1]
        rw [hjv]
        omega
      obtain ⟨r, hr⟩ := ord_surjective pc (⟨32 * j.val + q.val % 32, by omega⟩ : Fin 1408)
      have hr40 : 40 ≤ r.val := by
        by_contra hlt
        exact hq ⟨r.val, by omega⟩ (Fin.ext (by
          show cand gid (ord pc r) = q.val
          rw [hr, hc]))
      have h1 := ord_before pc (show a.castLE (by omega) < r from by
        show a.val < r.val
        have := a.isLt
        omega)
      rw [hr] at h1
      have h2 := hbef _ _ (hval a) (by rw [hc]; exact q.isLt) h1
      have e2 : (⟨cand gid ⟨32 * j.val + q.val % 32, by omega⟩, by rw [hc]; exact q.isLt⟩ : Fin 100000) = q := Fin.ext hc
      rw [e2] at h2
      exact h2
    · have hlt : vm ⟨q.val / 32, by omega⟩ < th := lt_of_not_ge fun hge' => hs (hsel _ hge')
      have : p q < p ⟨cand gid (ord pc (a.castLE (by omega))), hval a⟩ :=
        lt_of_le_of_lt (hvm q) (lt_of_lt_of_le hlt ((hge a).trans (le_of_eq (hpv a))))
      unfold before
      rw [decide_eq_true this, Bool.true_or]

end Groups

end Cert.Alg
-- ==== Proof.Alg.Rows.lean ====
/-
  The host operations of the grouped selection, each read at a row: the top-k, the ascending sort of the chosen groups,
  the two look-ups along an axis, and the count of the groups that reach the threshold.
-/
module

public import proofs.«01_k».proof.Proof.Alg.Order
public import proofs.«01_k».proof.Proof.Gen.KernelIdeal.Launch
public import Idealize.ShloMosaic.Lib.Pointwise
public import Idealize.ShloMosaic.Lib.ValueIdxCore
public import Idealize.ShloMosaic.Lib.ReduceAll
public import Idealize.ShloMosaic.Lib.StableHlo.Predicate

@[expose] public section

noncomputable section

namespace Cert.Alg

open Idealize.ShloMosaic

/-! ## The top-k of the rows -/

theorem sortedFrom_gt {n : ℕ} (x : Fin n → Ideal .f32) (k : Fin n) :
    sortedFrom (fun k k' => FloatOps.cmpfTotal (F := Ideal) .gt (x k) (x k') == 1#1) k = ord (α := EReal) x k := by
  unfold ord
  refine congrFun (congrArg sortedFrom ?_) k
  funext a b
  rw [Bool.eq_iff_iff, beq_iff_eq, decide_eq_true_eq]
  show BitVec.ofBool (decide ((x b : EReal) < x a)) = 1#1 ↔ _
  rw [StableHlo.Predicate.ofBool_eq_one_iff, decide_eq_true_eq]

/-- Row `b` of a matrix. -/
def row {B n : ℕ} {α : Type} (x : (⟨2, ![B, n]⟩ : Shape).Idx → α) (b : Fin B) (v : Fin n) : α := x (ix2 b v)

/-- The position in row `b` of the `i`-th greatest value. -/
def pos {B n : ℕ} (x : (⟨2, ![B, n]⟩ : Shape).Idx → Ideal .f32) (b : Fin B) (i : Fin n) : Fin n := ord (α := EReal) (row x b) i

theorem sort2_rows {B n : ℕ} {β : Type} (x : (⟨2, ![B, n]⟩ : Shape).Idx → Ideal .f32) (y : (⟨2, ![B, n]⟩ : Shape).Idx → β) :
    Host.sort2 ⟨2, ![B, n]⟩ 1 (fun l r => FloatOps.cmpfTotal (F := Ideal) .gt l.1 r.1) x y
      = (fun j => x (ix2 (j 0) (pos x (j 0) (j 1))), fun j => y (ix2 (j 0) (pos x (j 0) (j 1)))) := by
  have e : ∀ j : (⟨2, ![B, n]⟩ : Shape).Idx, Shape.Idx.along (s := ⟨2, ![B, n]⟩) j (1 : Fin 2)
      (sortedFrom (fun k k' : Fin n => FloatOps.cmpfTotal (F := Ideal) .gt (x (Shape.Idx.along (s := ⟨2, ![B, n]⟩) j (1 : Fin 2) k))
        (x (Shape.Idx.along (s := ⟨2, ![B, n]⟩) j (1 : Fin 2) k')) == 1#1) (j 1)) = ix2 (j 0) (pos x (j 0) (j 1)) := by
    intro j
    have hj : ∀ k : Fin n, Shape.Idx.along (s := ⟨2, ![B, n]⟩) j (1 : Fin 2) k = ix2 (j 0) k := fun k => by
      funext a
      fin_cases a <;> rfl
    refine (hj _).trans (congrArg (ix2 (j 0)) ?_)
    refine Eq.trans ?_ (sortedFrom_gt (row x (j 0)) (j 1))
    refine congrFun (congrArg sortedFrom ?_) (j 1)
    funext k k'
    exact congrArg₂ (fun p q => FloatOps.cmpfTotal (F := Ideal) .gt p q == 1#1) (congrArg x (hj k)) (congrArg x (hj k'))
  unfold Host.sort2
  rw [dif_pos (show 1 < (⟨2, ![B, n]⟩ : Shape).rank from Nat.one_lt_two)]
  exact Prod.ext (funext fun j => congrArg x (e j)) (funext fun j => congrArg y (e j))

theorem topK_rows {B n k : ℕ} (hk : k ≤ n) (x : (⟨2, ![B, n]⟩ : Shape).Idx → Ideal .f32)
    (h : (⟨2, ![B, n]⟩ : Shape).Slices (fun _ => 0) ⟨2, ![B, k]⟩) (b : Fin B) (i : Fin k) :
    (Host.topK ⟨2, ![B, k]⟩ 1 (FloatOps.cmpfTotal .gt) x h).1 (ix2 b i) = x (ix2 b (pos x b (i.castLE hk)))
    ∧ (Host.topK ⟨2, ![B, k]⟩ 1 (FloatOps.cmpfTotal .gt) x h).2 (ix2 b i) = BitVec.ofNat 32 (pos x b (i.castLE hk)).val := by
  have hj : (fun a : Fin 2 => (⟨0 + (ix2 b i (a.cast h.1.symm)).val,
      Nat.lt_of_lt_of_le (Nat.add_lt_add_left (ix2 b i (a.cast h.1.symm)).isLt _) (h.2 a)⟩ : Fin ((⟨2, ![B, n]⟩ : Shape).size a)))
      = ix2 b (i.castLE hk) := by
    funext a
    refine Fin.ext ?_
    fin_cases a
    · show 0 + b.val = b.val; omega
    · show 0 + i.val = i.val; omega
  constructor
  · unfold Host.topK extractStridedSlice
    simp only [sort2_rows]
    show x (ix2 ((fun a : Fin 2 => _) 0) (pos x ((fun a : Fin 2 => _) 0) ((fun a : Fin 2 => _) 1))) = _
    exact congrArg (fun j : (⟨2, ![B, n]⟩ : Shape).Idx => x (ix2 (j 0) (pos x (j 0) (j 1)))) hj
  · unfold Host.topK extractStridedSlice
    simp only [sort2_rows]
    exact congrArg (fun j : (⟨2, ![B, n]⟩ : Shape).Idx => BitVec.ofNat 32 (pos x (j 0) (j 1)).val) hj

/-! ## The chosen groups, in ascending order -/

theorem sort_row {B n N : ℕ} (hN : N < 2 ^ 31) (w : IVec ⟨2, ![B, n]⟩ 32) (b : Fin B) (a : Fin n → Fin N) (ha : Function.Injective a)
    (hw : ∀ i, w (ix2 b i) = BitVec.ofNat 32 (a i).val) :
    ∃ g : Fin n → Fin N, StrictMono g ∧ (∀ q, (∃ i, g i = q) ↔ ∃ i, a i = q) ∧
      ∀ i, Host.sort ⟨2, ![B, n]⟩ 1 Cert.KernelIdeal.comparator_i32_d1 w (ix2 b i) = BitVec.ofNat 32 (g i).val := by
  let R : Fin n → Fin n → Bool := fun k k' => decide (a k < a k')
  have hR : StrictTotalBefore R :=
    { irrefl := fun k => by simp [R]
      trans := fun x y z h1 h2 => by simp only [R, decide_eq_true_eq] at *; exact lt_trans h1 h2
      total := fun x y hne => by
        simp only [R, decide_eq_true_eq]
        exact lt_or_gt_of_ne fun e => hne (ha e) }
  have hbit : ∀ k k' : Fin n, (Cert.KernelIdeal.comparator_i32_d1 (w (ix2 b k)) (w (ix2 b k')) == 1#1) = R k k' := fun k k' => by
    have h1 := (a k).isLt
    have h2 := (a k').isLt
    rw [Bool.eq_iff_iff, beq_iff_eq, hw, hw]
    simp only [R, decide_eq_true_eq]
    exact StableHlo.Predicate.slt_ofNat_iff _ _ (by omega) (by omega)
  refine ⟨fun i => a (sortedFrom R i), fun i j hij => ?_, fun q => ⟨fun ⟨i, hi⟩ => ⟨_, hi⟩, fun ⟨i, hi⟩ => ?_⟩, fun i => ?_⟩
  · have hno := sortedFrom_noInversion R R (fun x y h => hR.asymm x y h) (fun _ _ h => h) hR.negTrans i j hij
    have hne : a (sortedFrom R i) ≠ a (sortedFrom R j) := fun e => (ne_of_lt hij) (sortedFrom_injective R (ha e))
    refine lt_of_le_of_ne ?_ hne
    have hno' : ¬ a (sortedFrom R j) < a (sortedFrom R i) := of_decide_eq_false hno
    exact not_lt.mp hno'
  · obtain ⟨j, hj⟩ := sortedFrom_surjective R i
    exact ⟨j, (congrArg a hj).trans hi⟩
  · have hj : ∀ k : Fin n, Shape.Idx.along (s := ⟨2, ![B, n]⟩) (ix2 b i) (1 : Fin 2) k = ix2 b k := fun k => by
      funext a
      fin_cases a <;> rfl
    unfold Host.sort
    rw [dif_pos (show 1 < (⟨2, ![B, n]⟩ : Shape).rank from Nat.one_lt_two)]
    refine (congrArg w (hj _)).trans ((hw _).trans (congrArg (fun q => BitVec.ofNat 32 (a q).val) ?_))
    refine congrFun (congrArg sortedFrom ?_) i
    funext k k'
    exact (congrArg₂ (fun p q => Cert.KernelIdeal.comparator_i32_d1 p q == 1#1) (congrArg w (hj k)) (congrArg w (hj k'))).trans (hbit k k')

/-! ## Look-ups along an axis -/

/-- A look-up whose indices all lie inside: the wrap of negative indices does nothing, and no element is filled. -/
theorem take_apply {α : Type} {s2 s3 u : Shape} {axes : List (Fin s3.rank)} (N : ℕ) (hN : N < 2 ^ 31) (i : IVec s2 32) (hi : ∀ j, (i j).toNat ≤ N)
    (hc : s2.ShapeCasts s3) (z c : IVec s2 32) (z3 h3 : IVec s3 32) (one : IVec u 1) (g : IVec s3 32 → s2.Idx → α) (f : s2.Idx → α)
    (h : s3.ReducesTo axes s2) (hu : 0 < u.numel) (hz : ∀ j, z j = 0#32) (hz3 : ∀ j, z3 j = 0#32) (hh3 : ∀ j, h3 j = BitVec.ofNat 32 N)
    (h1 : one (Shape.Idx.first hu) = 1#1) (j : s2.Idx) :
    select (Host.reduce IntOp.andi (andi (cmpi .sge (shapeCast s3 (select (cmpi .slt i z) (addi i c) i) hc) z3)
      (cmpi .sle (shapeCast s3 (select (cmpi .slt i z) (addi i c) i) hc) h3)) one h hu)
      (g (shapeCast s3 (select (cmpi .slt i z) (addi i c) i) hc)) f j = g (shapeCast s3 i hc) j := by
  have e : select (cmpi .slt i z) (addi i c) i = i := by
    funext q
    show Scalar.select (IntOp.cmpi .slt (i q) (z q)) _ (i q) = i q
    have : ¬ IntOp.cmpi .slt (i q) (z q) = 1#1 := by
      rw [hz, StableHlo.Predicate.slt_iff_toNat (by have := hi q; omega) (by decide)]
      exact Nat.not_lt_zero _
    exact if_neg this
  rw [e]
  have hm : ∀ q : s3.Idx, (andi (cmpi .sge (shapeCast s3 i hc) z3) (cmpi .sle (shapeCast s3 i hc) h3)) q = 1#1 := fun q => by
    have hq : ((shapeCast s3 i hc) q).toNat ≤ N := hi _
    show IntOp.andi (IntOp.cmpi .sge ((shapeCast s3 i hc) q) (z3 q)) (IntOp.cmpi .sle ((shapeCast s3 i hc) q) (h3 q)) = 1#1
    have hA : IntOp.cmpi .sge ((shapeCast s3 i hc) q) (z3 q) = 1#1 := by
      rw [hz3, StableHlo.Predicate.sge_iff_toNat (by omega) (by decide)]
      exact Nat.zero_le _
    have hB : IntOp.cmpi .sle ((shapeCast s3 i hc) q) (h3 q) = 1#1 := by
      have hNt : (BitVec.ofNat 32 N).toNat = N := by rw [BitVec.toNat_ofNat]; omega
      rw [hh3, StableHlo.Predicate.sle_iff_toNat (by omega) (by rw [hNt]; exact hN), hNt]
      exact hq
    rw [hA, hB]
    decide
  show Scalar.select (Host.reduce IntOp.andi _ one h hu j) _ _ = _
  rw [Host.reduce_andi_one _ one h hu j h1 hm]
  rfl

/-- The look-up along the rows' axis, element `(b, k)`: row `b` at the position that the index names, clamped into the row. -/
theorem gather_cols_apply {α : Type} (x : Cert.KernelIdeal.S128x1408.Idx → α) (i : IVec Cert.KernelIdeal.S128x40x1 32) (b : Fin 128) (k : Fin 40) :
    Host.gather Cert.KernelIdeal.gather_S128x1408_S128x40x1_S128x40_n_1_0_0_1_2_11 x i (ix2 b k)
      = x (ix2 b ⟨min (i (ix3 b k 0)).toInt.toNat 1407, by omega⟩) := by
  unfold Host.gather
  refine congrArg x (funext fun a => Fin.ext ?_)
  show Cert.KernelIdeal.gather_S128x1408_S128x40x1_S128x40_n_1_0_0_1_2_11.start (ix2 b k) i a
    + Cert.KernelIdeal.gather_S128x1408_S128x40x1_S128x40_n_1_0_0_1_2_11.batchCoord (ix2 b k) a
    + Cert.KernelIdeal.gather_S128x1408_S128x40x1_S128x40_n_1_0_0_1_2_11.offCoord (ix2 b k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (show (0 : Fin 2) ∈ [(0 : Fin 2)] from List.mem_singleton.mpr rfl)).trans rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    refine (dif_pos (show (1 : Fin 2) ∈ [(1 : Fin 2)] from List.mem_singleton.mpr rfl)).trans ?_
    have hsi : ∀ q, Cert.KernelIdeal.gather_S128x1408_S128x40x1_S128x40_n_1_0_0_1_2_11.siIdx (ix2 b k) q = ix3 b k 0 := by
      intro q
      funext d
      refine Fin.ext ?_
      match d with
      | ⟨0, _⟩ => rfl
      | ⟨1, _⟩ => rfl
      | ⟨2, _⟩ =>
        show q.val = 0
        have : q.val < 1 := q.isLt
        omega
    rw [hsi]
    rfl

/-! ## The count of the groups that reach the threshold -/

theorem count_le {B n : ℕ} (hn : n < 2 ^ 31) (x : FVec Ideal ⟨2, ![B, n]⟩ .f32) (t : FVec Ideal ⟨2, ![B, n]⟩ .f32) (K : ℕ) (hK : K < 2 ^ 31)
    (h : (⟨2, ![B, n]⟩ : Shape).ReducesTo [1] ⟨1, ![B]⟩) {u : Shape} (hu : 0 < u.numel) (b : Fin B)
    (e : IntOp.cmpi .sle (Host.reduce IntOp.addi (extui 32 (cmpf .oge x t) (by omega)) (constantI u 32 0#32) h hu (ix1 b)) (BitVec.ofNat 32 K) = 1#1) :
    (Finset.univ.filter fun g : Fin n => (t (ix2 b g) : EReal) ≤ x (ix2 b g)).card ≤ K := by
  have hc := StableHlo.Predicate.toNat_reduce_count_cols (by omega) (cmpf .oge x t) (by omega) h hu (ix1 b)
  have hcard : (Finset.univ.filter fun g : Fin n => (cmpf .oge x t) (StableHlo.Predicate.ij ((ix1 b : (⟨1, ![B]⟩ : Shape).Idx) 0) g) = 1#1)
      = Finset.univ.filter fun g : Fin n => (t (ix2 b g) : EReal) ≤ x (ix2 b g) := by
    refine Finset.filter_congr fun g _ => ?_
    show BitVec.ofBool (decide ((t (ix2 b g) : EReal) ≤ x (ix2 b g))) = 1#1 ↔ _
    rw [StableHlo.Predicate.ofBool_eq_one_iff, decide_eq_true_eq]
  rw [hcard] at hc
  have hle : (Finset.univ.filter fun g : Fin n => (t (ix2 b g) : EReal) ≤ x (ix2 b g)).card ≤ n := by
    refine (Finset.card_filter_le _ _).trans ?_
    rw [Finset.card_univ, Fintype.card_fin]
  have hKt : (BitVec.ofNat 32 K).toNat = K := by rw [BitVec.toNat_ofNat]; omega
  rw [StableHlo.Predicate.sle_iff_toNat (by rw [hc]; omega) (by rw [hKt]; exact hK), hc, hKt] at e
  exact e

end Cert.Alg
-- ==== Proof.Alg.Stretch.lean ====
/-
  The grouped selection between the kernel's launch and the branch: what each stretch of host operations leaves, as a
  function of what it reads, and those functions read at a row.
-/
module

public import proofs.«01_k».proof.Proof.Alg.Rows
public import proofs.«01_k».proof.Proof.KI.Loop

@[expose] public section

noncomputable section

namespace Cert.Alg

open Cert.KernelIdeal Cert.KernelIdeal.Gen
open Idealize.ShloMosaic Idealize.ShloMosaic.TcCoe
open Idealize.ShloMosaic.StableHlo (after)

/-! ## The functions -/

/-- The group maxima, a row per batch row. -/
def maxT (w : FVec Ideal S3328x128 .f32) : FVec Ideal S128x3328 .f32 := transpose S128x3328 [1, 0] w transposes_S3328x128_S128x3328_1_0

/-- The 44 groups of greatest maximum, in ascending order. -/
def gids (w : FVec Ideal S128x3328 .f32) : IVec S128x44 32 :=
  Host.sort S128x44 1 comparator_i32_d1 (Host.topK S128x44 1 (FloatOps.cmpfTotal .gt) w sliceFits_S128x3328_S128x44).2

/-- The indices of the groups' members: 32 per group. -/
def cidx (s : IVec S128x44 32) : IVec S128x1408 32 :=
  shapeCast S128x1408 (addi
    (broadcastInDim S128x44x32 ![0, 1, 2] bcast_S128x44x1_S128x44x32_0_1_2
      (muli (broadcastInDim S128x44x1 ![0, 1] bcast_S128x44_S128x44x1_0_1 s) (broadcastInDim S128x44x1 ![] bcast_S_S128x44x1 (constantI S_ 32 32#32))))
    (broadcastInDim S128x44x32 ![0, 1, 2] bcast_S1x1x32_S128x44x32_0_1_2
      (broadcastInDim S1x1x32 ![2] bcast_S32_S1x1x32_2 (iotaInDim S32 32 0)))) shapeCasts_S128x44x32_S128x1408

/-- The same indices, capped at the last word and transposed. -/
def cidxT (q : IVec S128x1408 32) : IVec S1408x128 32 :=
  transpose S1408x128 [1, 0] (minsi q (broadcastInDim S128x1408 ![] bcast_S_S128x1408 (constantI S_ 32 99999#32))) transposes_S128x1408_S1408x128_1_0

/-- The look-up of rows of the logits. -/
def takeRows (x : FVec Ideal S100000x128 .f32) (i : IVec S1408x128 32) : FVec Ideal S1408x128 .f32 :=
  select (Host.reduce IntOp.andi
      (andi (cmpi .sge (shapeCast S1408x128x1 (select (cmpi .slt i (broadcastInDim S1408x128 ![] bcast_S_S1408x128 (constantI S_ 32 0#32)))
          (addi i (broadcastInDim S1408x128 ![] bcast_S_S1408x128 (constantI S_ 32 100000#32))) i) shapeCasts_S1408x128_S1408x128x1)
        (broadcastInDim S1408x128x1 ![] bcast_S_S1408x128x1 (constantI S_ 32 0#32)))
      (cmpi .sle (shapeCast S1408x128x1 (select (cmpi .slt i (broadcastInDim S1408x128 ![] bcast_S_S1408x128 (constantI S_ 32 0#32)))
          (addi i (broadcastInDim S1408x128 ![] bcast_S_S1408x128 (constantI S_ 32 100000#32))) i) shapeCasts_S1408x128_S1408x128x1)
        (broadcastInDim S1408x128x1 ![0, 1, 2] bcast_S1x1x1_S1408x128x1_0_1_2 (broadcastInDim S1x1x1 ![2] bcast_S1_S1x1x1_2 (constantI S1 32 99999#32)))))
      (constantI S_ 1 1#1) reducesTo_S1408x128x1_S1408x128_d2 h_S_)
    (Host.gather gather_S100000x128_S1408x128x1_S1408x128_n_0_1_1_0_2_11 x
      (shapeCast S1408x128x1 (select (cmpi .slt i (broadcastInDim S1408x128 ![] bcast_S_S1408x128 (constantI S_ 32 0#32)))
          (addi i (broadcastInDim S1408x128 ![] bcast_S_S1408x128 (constantI S_ 32 100000#32))) i) shapeCasts_S1408x128_S1408x128x1))
    (broadcastInDim S1408x128 ![] bcast_S_S1408x128 (constant S_ .f32 0x7FC00000#32))

/-- The candidates' probabilities; a candidate past the last word is 0. -/
def candP (q : IVec S128x1408 32) (t : FVec Ideal S1408x128 .f32) (m l : FVec Ideal S128x1 .f32) : FVec Ideal S128x1408 .f32 :=
  select (cmpi .slt q (broadcastInDim S128x1408 ![] bcast_S_S128x1408 (constantI S_ 32 100000#32)))
    (Host.exp (subf (subf (transpose S128x1408 [1, 0] t transposes_S1408x128_S128x1408_1_0) (broadcastInDim S128x1408 ![0, 1] bcast_S128x1_S128x1408_0_1 m))
      (broadcastInDim S128x1408 ![0, 1] bcast_S128x1_S128x1408_0_1 l)))
    (broadcastInDim S128x1408 ![] bcast_S_S128x1408 (id (constant (F := Ideal) S_ .f32 0x00000000#32)))

/-- The look-up of the candidates' indices. -/
def takeCols (q : IVec S128x1408 32) (i : IVec S128x40 32) : IVec S128x40 32 :=
  select (Host.reduce IntOp.andi
      (andi (cmpi .sge (shapeCast S128x40x1 (select (cmpi .slt i (broadcastInDim S128x40 ![] bcast_S_S128x40 (constantI S_ 32 0#32)))
          (addi i (broadcastInDim S128x40 ![] bcast_S_S128x40 (constantI S_ 32 1408#32))) i) shapeCasts_S128x40_S128x40x1)
        (broadcastInDim S128x40x1 ![] bcast_S_S128x40x1 (constantI S_ 32 0#32)))
      (cmpi .sle (shapeCast S128x40x1 (select (cmpi .slt i (broadcastInDim S128x40 ![] bcast_S_S128x40 (constantI S_ 32 0#32)))
          (addi i (broadcastInDim S128x40 ![] bcast_S_S128x40 (constantI S_ 32 1408#32))) i) shapeCasts_S128x40_S128x40x1)
        (broadcastInDim S128x40x1 ![0, 1, 2] bcast_S1x1x1_S128x40x1_0_1_2 (broadcastInDim S1x1x1 ![2] bcast_S1_S1x1x1_2 (constantI S1 32 1407#32)))))
      (constantI S_ 1 1#1) reducesTo_S128x40x1_S128x40_d2 h_S_)
    (Host.gather gather_S128x1408_S128x40x1_S128x40_n_1_0_0_1_2_11 q
      (shapeCast S128x40x1 (select (cmpi .slt i (broadcastInDim S128x40 ![] bcast_S_S128x40 (constantI S_ 32 0#32)))
          (addi i (broadcastInDim S128x40 ![] bcast_S_S128x40 (constantI S_ 32 1408#32))) i) shapeCasts_S128x40_S128x40x1))
    (broadcastInDim S128x40 ![] bcast_S_S128x40 (constantI S_ 32 2147483648#32))

/-- In every row at most 44 groups reach the 40th greatest candidate. -/
def few (w : FVec Ideal S128x3328 .f32) (v : FVec Ideal S128x40 .f32) : IVec S_ 1 :=
  Host.reduce IntOp.andi (cmpi .sle
    (Host.reduce IntOp.addi (extui 32 (cmpf .oge w (broadcastInDim S128x3328 ![0, 1] bcast_S128x1_S128x3328_0_1
      (extractStridedSlice S128x1 ![0, 39] v slices_S128x40_S128x1_0_39))) natLt_1_32) (constantI S_ 32 0#32) reducesTo_S128x3328_S128_d1 h_S_)
    (broadcastInDim S128 ![] bcast_S_S128 (constantI S_ 32 44#32))) (constantI S_ 1 1#1) reducesTo_S128_S_d0 h_S_

/-! ## What the stretches leave -/

section Reads

variable (V : Valuation τ sig (Elt Ideal))

theorem read_v96 : after while0Ops1 V (Proc.devRef .tc main_while0b_v96) = maxT (V (Proc.devRef .tc main_while0b_v95)) := by
  after_results
  rfl

theorem read_indices : after while0Ops1 V (Proc.devRef .tc main_while0b_indices)
    = (Host.topK S128x44 1 (FloatOps.cmpfTotal (F := Ideal) .gt) (maxT (V (Proc.devRef .tc main_while0b_v95))) sliceFits_S128x3328_S128x44).2 := by
  after_results
  rfl

theorem read_v97 : after while0Ops1_1 V (Proc.devRef .tc main_while0b_v97)
    = Host.sort S128x44 1 comparator_i32_d1 (V (Proc.devRef .tc main_while0b_indices)) := by
  after_results
  rfl

theorem read_v106 : after while0Ops1_2 V (Proc.devRef .tc main_while0b_v106) = cidx (V (Proc.devRef .tc main_while0b_v97)) := by
  after_results
  rfl

theorem read_v109 : after while0Ops1_2 V (Proc.devRef .tc main_while0b_v109) = cidxT (cidx (V (Proc.devRef .tc main_while0b_v97))) := by
  after_results
  rfl

theorem read_v110 : after while0Ops1_3 V (Proc.devRef .tc main_while0b_v110)
    = takeRows (V (Proc.devRef .tc main_while0b_v90)) (V (Proc.devRef .tc main_while0b_v109)) := by
  after_results
  simp only [StableHlo.TRef.ofBuf_toBuf]
  unfold takeRows
  congr 1

theorem read_v119 : after while0Ops1_5 (after while0Ops1_4 V) (Proc.devRef .tc main_while0b_v119)
    = candP (V (Proc.devRef .tc main_while0b_v106)) (V (Proc.devRef .tc main_while0b_v110)) (V (Proc.devRef .tc main_while0b_v81)) (V (Proc.devRef .tc main_while0b_v87)) := by
  after_results
  rfl

theorem read_values : after while0Ops1_6 V (Proc.devRef .tc main_while0b_values_39)
    = (Host.topK S128x40 1 (FloatOps.cmpfTotal (F := Ideal) (φ := .f32) .gt) (V (Proc.devRef .tc main_while0b_v119) : FVec Ideal S128x1408 .f32) sliceFits_S128x1408_S128x40).1 := by
  after_results

theorem read_places : after while0Ops1_6 V (Proc.devRef .tc main_while0b_indices_40)
    = (Host.topK S128x40 1 (FloatOps.cmpfTotal (F := Ideal) (φ := .f32) .gt) (V (Proc.devRef .tc main_while0b_v119) : FVec Ideal S128x1408 .f32) sliceFits_S128x1408_S128x40).2 := by
  after_results

set_option maxRecDepth 20000 in
theorem read_v120 : after while0Ops1_7 V (Proc.devRef .tc main_while0b_v120)
    = takeCols (V (Proc.devRef .tc main_while0b_v106)) (V (Proc.devRef .tc main_while0b_indices_40)) := by
  after_results
  rfl

theorem read_v128 : after while0Ops1_8 V (Proc.devRef .tc main_while0b_v128)
    = few (V (Proc.devRef .tc main_while0b_v96)) (V (Proc.devRef .tc main_while0b_values_39)) := by
  after_results
  rfl

end Reads

/-! ## The functions at a row -/

theorem maxT_apply (w : FVec Ideal S3328x128 .f32) (b : Fin 128) (g : Fin 3328) : maxT w (ix2 b g) = w (ix2 g b) := by
  pointwise [maxT]

theorem cidx_apply (s : IVec S128x44 32) (b : Fin 128) (gid : Fin 44 → Fin 3328) (hs : ∀ k, s (ix2 b k) = BitVec.ofNat 32 (gid k).val) (c : Fin 1408) :
    cidx s (ix2 b c) = BitVec.ofNat 32 (cand gid c) := by
  unfold cidx
  refine (shapeCast_apply _ _ (ix2 b c) (ix3 b (⟨c.val / 32, by omega⟩ : Fin 44) (⟨c.val % 32, by omega⟩ : Fin 32)) ?_).trans ?_
  · rw [Shape.rowMajor_val_two, Shape.rowMajor_val_three]
    show (b.val * 44 + c.val / 32) * 32 + c.val % 32 = b.val * 1408 + c.val
    omega
  · pointwise
    rw [hs]
    unfold cand
    show BitVec.ofNat 32 _ * 32#32 + BitVec.ofNat 32 _ = _
    rw [← BitVec.ofNat_mul, ← BitVec.ofNat_add, Nat.mul_comm]

theorem cidxT_apply (q : IVec S128x1408 32) (b : Fin 128) (c : Fin 1408) (n : ℕ) (hn : n < 106496) (hq : q (ix2 b c) = BitVec.ofNat 32 n) :
    cidxT q (ix2 c b) = BitVec.ofNat 32 (min n 99999) := by
  pointwise [cidxT]
  rw [hq]
  show (if (BitVec.ofNat 32 n).slt (BitVec.ofNat 32 99999) then BitVec.ofNat 32 n else BitVec.ofNat 32 99999) = _
  have h := StableHlo.Predicate.slt_ofNat_iff n 99999 (by omega) (by omega)
  by_cases hlt : n < 99999
  · have e : (BitVec.ofNat 32 n).slt (BitVec.ofNat 32 99999) = true := (StableHlo.Predicate.ofBool_eq_one_iff _).mp (h.mpr hlt)
    rw [if_pos e, Nat.min_eq_left (le_of_lt hlt)]
  · have e : ¬ (BitVec.ofNat 32 n).slt (BitVec.ofNat 32 99999) = true := fun q => hlt (h.mp ((StableHlo.Predicate.ofBool_eq_one_iff _).mpr q))
    rw [if_neg e, Nat.min_eq_right (not_lt.mp hlt)]

theorem takeRows_apply (x : FVec Ideal S100000x128 .f32) (i : IVec S1408x128 32) (hi : ∀ j, (i j).toNat ≤ 99999) (c : Fin 1408) (b : Fin 128) :
    takeRows x i (ix2 c b) = x (ix2 ⟨(i (ix2 c b)).toNat, Nat.lt_succ_of_le (hi _)⟩ b) := by
  unfold takeRows
  refine (take_apply 99999 (by omega) i hi _ _ _ _ _ _ _ _ _ _ (fun _ => rfl) (fun _ => rfl) (fun _ => rfl) rfl (ix2 c b)).trans ?_
  refine (ValueIdx.gather_take_rows_apply (N := 100000) (by omega) _ x _ (ix2 c b)).trans ?_
  refine congrArg x (congrArg (fun a => ix2 a b) (Fin.ext ?_))
  have hs : ∀ z, (z : S1408x128x1.Idx) = ix3 c b 0 → shapeCast S1408x128x1 i shapeCasts_S1408x128_S1408x128x1 z = i (ix2 c b) := by
    rintro z rfl
    refine shapeCast_apply _ _ _ _ ?_
    rw [Shape.rowMajor_val_two, Shape.rowMajor_val_three]
    show c.val * 128 + b.val = (c.val * 128 + b.val) * 1 + 0
    omega
  have e := hs (ValueIdx.takeIdx (ix2 c b)) (by
    funext a
    match a with
    | ⟨0, _⟩ => rfl
    | ⟨1, _⟩ => rfl
    | ⟨2, _⟩ => rfl)
  refine (congrArg (fun w : BitVec 32 => min w.toInt.toNat (100000 - 1)) e).trans ?_
  have h9 := hi (ix2 c b)
  show min (i (ix2 c b)).toInt.toNat (100000 - 1) = (i (ix2 c b)).toNat
  rw [StableHlo.Predicate.toInt_eq_toNat_of_lt (by omega), Int.toNat_natCast]
  omega

theorem candP_apply (q : IVec S128x1408 32) (t : FVec Ideal S1408x128 .f32) (m l : FVec Ideal S128x1 .f32) (b : Fin 128) (c : Fin 1408) :
    candP q t m l (ix2 b c) = if IntOp.cmpi .slt (q (ix2 b c)) 100000#32 = 1#1 then Ideal.exp ((t (ix2 c b) - m (ix2 b 0)) - l (ix2 b 0)) else 0 := by
  pointwise [candP]
  refine (congrArg (Scalar.select _ _) ?_).trans rfl
  exact Ideal.ofBits_zero_f32

theorem takeCols_apply (q : IVec S128x1408 32) (i : IVec S128x40 32) (hi : ∀ j, (i j).toNat ≤ 1407) (b : Fin 128) (k : Fin 40) :
    takeCols q i (ix2 b k) = q (ix2 b ⟨(i (ix2 b k)).toNat, Nat.lt_succ_of_le (hi _)⟩) := by
  unfold takeCols
  refine (take_apply 1407 (by omega) i hi _ _ _ _ _ _ _ _ _ _ (fun _ => rfl) (fun _ => rfl) (fun _ => rfl) rfl (ix2 b k)).trans ?_
  refine (gather_cols_apply q _ b k).trans ?_
  have hs : shapeCast S128x40x1 i shapeCasts_S128x40_S128x40x1 (ix3 b k 0) = i (ix2 b k) := by
    refine shapeCast_apply _ _ _ _ ?_
    rw [Shape.rowMajor_val_two, Shape.rowMajor_val_three]
    show b.val * 40 + k.val = (b.val * 40 + k.val) * 1 + 0
    omega
  refine congrArg q (congrArg (ix2 b) (Fin.ext ?_))
  have h9 := hi (ix2 b k)
  show min (shapeCast S128x40x1 i shapeCasts_S128x40_S128x40x1 (ix3 b k 0)).toInt.toNat 1407 = (i (ix2 b k)).toNat
  refine (congrArg (fun w : BitVec 32 => min w.toInt.toNat 1407) hs).trans ?_
  show min (i (ix2 b k)).toInt.toNat 1407 = (i (ix2 b k)).toNat
  rw [StableHlo.Predicate.toInt_eq_toNat_of_lt (by omega), Int.toNat_natCast]
  omega

theorem few_le (w : FVec Ideal S128x3328 .f32) (v : FVec Ideal S128x40 .f32) (h : few w v HostLoop.idx0 = 1#1) (b : Fin 128) :
    (Finset.univ.filter fun g : Fin 3328 => (v (ix2 b 39) : EReal) ≤ w (ix2 b g)).card ≤ 44 := by
  have h1 := Host.reduce_andi_eq_one _ _ _ _ _ h (ix1 b) (by funext a; exact a.elim0)
  have h2 := count_le (by omega) w _ 44 (by omega) reducesTo_S128x3328_S128_d1 h_S_ b h1
  refine le_trans (le_of_eq ?_) h2
  refine congrArg Finset.card (Finset.filter_congr fun g _ => ?_)
  refine iff_of_eq (congrArg (fun z : EReal => z ≤ w (ix2 b g)) ?_)
  pointwise

end Cert.Alg
-- ==== Proof.Alg.GroupMax.lean ====
/-
  What the launch leaves: at each group and lane, a value that is at least every masked probability of the group's
  thirty-two rows.
-/
module

public import proofs.«01_k».proof.Proof.KI.Region
public import Idealize.ShloMosaic.Lib.Pipeline.ValueKit.Geometry
public import Idealize.ShloMosaic.Lib.Pointwise

@[expose] public section

noncomputable section

namespace Cert.Alg

open Cert.KernelIdeal Cert.KernelIdeal.Gen Cert.KernelIdeal.Prf

open Idealize.ShloMosaic
open Idealize.ShloMosaic.TcCoe

/-- The fold of the maximum is at least each member. -/
theorem le_fold_max {ι : Type} [DecidableEq ι] (s : Finset ι) (b : EReal) (f : ι → EReal) (i : ι) (h : i ∈ s) : f i ≤ s.fold max b f :=
  (Finset.le_fold_max (f i)).mpr (Or.inr ⟨i, h, le_rfl⟩)

/-- A row of a block of maxima is at least each of its group's rows. -/
theorem groupRow_ge (v : FVec Ideal S8192x128 .f32) (g : Fin 256) (l : Fin 128) (r : Fin 32) :
    v (ix2 ⟨32 * g.val + r.val, by omega⟩ l) ≤ groupRow v g (ix2 0 l) := by
  have e : groupRow v g (ix2 0 l) = (Finset.univ : Finset (Fin 32)).fold max (FloatOps.ofBits .f32 0xFF800000#32)
      fun k => v (ix2 ⟨32 * g.val + k.val, by omega⟩ l) := by
    unfold groupRow
    refine (shapeCast_apply _ _ (ix2 0 l) (ix1 l) ?_).trans ((Ideal.multiReduction_maximumf_single _ _ _ _ _ _).trans ?_)
    · show (Shape.rowMajor ⟨1, ![128]⟩ (ix1 l)).val = (Shape.rowMajor ⟨2, ![1, 128]⟩ (ix2 0 l)).val
      rw [Shape.rowMajor_val_one, Shape.rowMajor_val_two]
      show l.val = 0 * 128 + l.val
      omega
    refine Finset.fold_congr fun k _ => ?_
    refine extractStridedSlice_apply _ _ _ _ _ fun a => ?_
    fin_cases a
    · rfl
    · show l.val = 0 + l.val
      omega
  rw [e]
  exact le_fold_max (Finset.univ : Finset (Fin 32)) _ (fun k => v (ix2 ⟨32 * g.val + k.val, by omega⟩ l)) r (Finset.mem_univ r)

theorem blockOut_ge (v : FVec Ideal S8192x128 .f32) (y : S256x128.Idx) (r : Fin 32) :
    v (ix2 ⟨32 * (y 0).val + r.val, by have : (y 0).val < 256 := (y 0).isLt; omega⟩ ⟨(y 1).val, (y 1).isLt⟩) ≤ blockOut v y := by
  have e : blockOut v y = groupRow v ⟨(y 0).val, (y 0).isLt⟩ (ix2 0 ⟨(y 1).val, (y 1).isLt⟩) := by
    unfold blockOut groupRows
    exact concatenate_ofFn_unit_apply (t := S256x128) (s₁ := S1x128) (0 : Fin 2) (groupRow v) _ rfl rfl y ⟨(y 0).val, (y 0).isLt⟩ rfl _ (fun b hb => by
      fin_cases b
      · exact absurd rfl hb
      · rfl)
  rw [e]
  exact groupRow_ge v ⟨(y 0).val, (y 0).isLt⟩ ⟨(y 1).val, (y 1).isLt⟩ r

variable (V : (c : Dev nD) → (b : Ref sig .tc) → Buf (Elt Ideal) ((c : Thread nD τ).loc b))

/-- The probability at row `n` of the transposed logits and lane `l`, zero past the vocabulary's end. -/
def maskedAt (x : Vec Ideal S100000x128 .f32) (mx ls : Vec Ideal S8x128 .f32) (n : ℕ) (l : Fin 128) : EReal :=
  if h : n < 100000 then Ideal.exp ((x (ix2 ⟨n, h⟩ l) - mx (ix2 0 l)) - ls (ix2 0 l)) else 0

theorem index_0 : ∀ t : Fin cfg0.N, win0_0.index t = ![(grid0.coords t 0).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![(grid0.coords t 0).val, 0] := (by decide +kernel : ∀ t : Fin grid0.N, _)

theorem mblk_top (c : Dev nD) (t : Fin cfg0.N) (l : Fin 128) : mblk V c t (top8 l) = V c main_while0b_v92 (ix2 0 l) := by
  unfold mblk
  rw [View.read_apply]
  refine (cast_eq _ _).trans (congrArg (V c main_while0b_v92) (funext fun a => Fin.ext ?_))
  fin_cases a
  · show ((win0_1.blk t).view.emb (top8 l) 0 : ℕ) = 0
    blk_simp [index_1 t]; rfl
  · show ((win0_1.blk t).view.emb (top8 l) 1 : ℕ) = l.val
    blk_simp [index_1 t]; rfl

theorem lblk_top (c : Dev nD) (t : Fin cfg0.N) (l : Fin 128) : lblk V c t (top8 l) = V c main_while0b_v94 (ix2 0 l) := by
  unfold lblk
  rw [View.read_apply]
  refine (cast_eq _ _).trans (congrArg (V c main_while0b_v94) (funext fun a => Fin.ext ?_))
  fin_cases a
  · show ((win0_2.blk t).view.emb (top8 l) 0 : ℕ) = 0
    blk_simp [index_2 t]; rfl
  · show ((win0_2.blk t).view.emb (top8 l) 1 : ℕ) = l.val
    blk_simp [index_2 t]; rfl

theorem xfill_row (c : Dev nD) (t : Fin cfg0.N) (j : S8192x128.Idx) (h : (grid0.coords t 0).val * 8192 + (j 0).val < 100000) :
    xfill V c t j = V c main_while0b_v90 (ix2 ⟨(grid0.coords t 0).val * 8192 + (j 0).val, h⟩ ⟨(j 1).val, (j 1).isLt⟩) := by
  have hm : win0_0.moved (grid0.coords t) j = true := by
    by_contra hn
    have := row_of_not_moved t j hn
    omega
  unfold xfill Pipeline.Window.fill
  rw [dif_pos hm]
  unfold xblk
  rw [View.read_apply]
  refine (cast_eq _ _).trans (congrArg (V c main_while0b_v90) (funext fun a => Fin.ext ?_))
  fin_cases a
  · show ((win0_0.blk t).view.emb _ 0 : ℕ) = (grid0.coords t 0).val * 8192 + (j 0).val
    blk_simp [index_0 t]
  · show ((win0_0.blk t).view.emb _ 1 : ℕ) = (j 1).val
    blk_simp [index_0 t]

set_option maxHeartbeats 4000000 in
theorem vmOut_ge (c : Dev nD) (i : S3328x128.Idx) (r : Fin 32) :
    maskedAt (V c main_while0b_v90) (V c main_while0b_v92) (V c main_while0b_v94) (32 * (i 0).val + r.val) ⟨(i 1).val, (i 1).isLt⟩
      ≤ vmOut V c i := by
  unfold vmOut
  refine (dat V c).arrAt_forall_of_covers 3 (fun i v => maskedAt (V c main_while0b_v90) (V c main_while0b_v92) (V c main_while0b_v94) (32 * (i 0).val + r.val) ⟨(i 1).val, (i 1).isLt⟩ ≤ v) (by decide +kernel) (fun t hf y => ?_) i
  have k0 : ((win0_3.blk t).view.emb y 0 : ℕ) = (grid0.coords t 0).val * 256 + (y 0).val := by blk_simp [index_3 t]
  have k1 : ((win0_3.blk t).view.emb y 1 : ℕ) = (y 1).val := by
    blk_simp [index_3 t]
  let y' : S256x128.Idx := fun a => ⟨(y a).val, Nat.lt_of_lt_of_le (y a).isLt (win0_3.xsize_le (grid0.coords t) a)⟩
  show maskedAt (V c main_while0b_v90) (V c main_while0b_v92) (V c main_while0b_v94)
      (32 * ((win0_3.blk t).view.emb y 0 : ℕ) + r.val) ⟨((win0_3.blk t).view.emb y 1 : ℕ), _⟩ ≤ oblk V c t y'
  have hy0 : (y 0).val < 256 := (y' 0).isLt
  have hy1 : (y 1).val < 128 := (y' 1).isLt
  have hl : (⟨((win0_3.blk t).view.emb y 1 : ℕ), by rw [k1]; exact hy1⟩ : Fin 128) = ⟨(y 1).val, hy1⟩ := Fin.ext k1
  have hn : 32 * ((win0_3.blk t).view.emb y 0 : ℕ) + r.val = (grid0.coords t 0).val * 8192 + (32 * (y 0).val + r.val) := by
    rw [k0]; omega
  refine le_trans (le_of_eq ?_) (blockOut_ge _ y' r)
  rw [maskedP_apply, hl, hn]
  unfold maskedAt
  by_cases h : (grid0.coords t 0).val * 8192 + (32 * (y 0).val + r.val) < 100000
  · rw [dif_pos h]
    refine Eq.trans ?_ (if_pos h).symm
    rw [xfill_row V c t _ h]
    exact congrArg Ideal.exp (congrArg₂ (· - ·) (congrArg₂ (· - ·) rfl (mblk_top V c t _).symm) (lblk_top V c t _).symm)
  · rw [dif_neg h]
    refine Eq.trans ?_ (if_neg h).symm
    exact Ideal.ofBits_zero_f32.symm

end Cert.Alg
-- ==== Proof.Alg.Grouped.lean ====
/-
  The top-k by groups is the top-k: of a batch of logits, with a table of group maxima that dominates the masked
  probabilities, the grouped selection returns what the full one does whenever few groups reach the threshold.
-/
module

public import proofs.«01_k».proof.Proof.Alg.Stretch
public import proofs.«01_k».proof.Proof.Alg.GroupMax

@[expose] public section

noncomputable section

namespace Cert.Alg

open Cert.KernelIdeal Cert.KernelIdeal.Gen
open Idealize.ShloMosaic Idealize.ShloMosaic.TcCoe

/-- The exponential is never negative. -/
theorem exp_nonneg (z : EReal) : 0 ≤ Ideal.exp z := by
  induction z with
  | bot => exact le_rfl
  | top => exact le_top
  | coe r => exact EReal.coe_nonneg.mpr (Real.exp_pos r).le

theorem maskedAt_nonneg (x : Vec Ideal S100000x128 .f32) (mx ls : Vec Ideal S8x128 .f32) (n : ℕ) (l : Fin 128) : 0 ≤ maskedAt x mx ls n l := by
  unfold maskedAt
  split
  · exact exp_nonneg _
  · exact le_rfl

/-- The probabilities of the whole vocabulary. -/
def probs (x : FVec Ideal S128x100000 .f32) (m l : FVec Ideal S128x1 .f32) : FVec Ideal S128x100000 .f32 :=
  Host.exp (subf (subf x (broadcastInDim S128x100000 ![0, 1] bcast_S128x1_S128x100000_0_1 m)) (broadcastInDim S128x100000 ![0, 1] bcast_S128x1_S128x100000_0_1 l))

/-- The logits, a row per word. -/
def wordsT (x : FVec Ideal S128x100000 .f32) : FVec Ideal S100000x128 .f32 := transpose S100000x128 [1, 0] x transposes_S128x100000_S100000x128_1_0
/-- A column as eight equal rows. -/
def rows8 (m : FVec Ideal S128x1 .f32) : FVec Ideal S8x128 .f32 :=
  broadcastInDim S8x128 ![0, 1] bcast_S1x128_S8x128_0_1 (transpose S1x128 [1, 0] m transposes_S128x1_S1x128_1_0)

/-- The 40 greatest of a row, with their places. -/
abbrev top40P (P : FVec Ideal S128x100000 .f32) : FVec Ideal S128x40 .f32 × IVec S128x40 32 :=
  Host.topK S128x40 1 (FloatOps.cmpfTotal (F := Ideal) (φ := .f32) .gt) P sliceFits_S128x100000_S128x40
abbrev top40C (P : FVec Ideal S128x1408 .f32) : FVec Ideal S128x40 .f32 × IVec S128x40 32 :=
  Host.topK S128x40 1 (FloatOps.cmpfTotal (F := Ideal) (φ := .f32) .gt) P sliceFits_S128x1408_S128x40

theorem probs_apply (x : FVec Ideal S128x100000 .f32) (m l : FVec Ideal S128x1 .f32) (b : Fin 128) (v : Fin 100000) :
    probs x m l (ix2 b v) = Ideal.exp ((x (ix2 b v) - m (ix2 b 0)) - l (ix2 b 0)) := by
  pointwise [probs]

theorem wordsT_apply (x : FVec Ideal S128x100000 .f32) (b : Fin 128) (v : Fin 100000) : wordsT x (ix2 v b) = x (ix2 b v) := by
  pointwise [wordsT]

theorem rows8_apply (m : FVec Ideal S128x1 .f32) (b : Fin 128) : rows8 m (ix2 0 b) = m (ix2 b 0) := by
  pointwise [rows8]

/-- A row of the candidates' indices: the members of the 44 groups of greatest maximum. -/
theorem cidx_gids (w : FVec Ideal S128x3328 .f32) (b : Fin 128) : ∃ g : Fin 44 → Fin 3328, StrictMono g
    ∧ (∀ q, (∃ i, g i = q) ↔ ∃ i : Fin 44, ord (α := EReal) (row w b) (i.castLE (by omega)) = q)
    ∧ ∀ c, cidx (gids w) (ix2 b c) = BitVec.ofNat 32 (cand g c) := by
  obtain ⟨g, hg, hq, hs⟩ := sort_row (by omega) (Host.topK S128x44 1 (FloatOps.cmpfTotal .gt) w sliceFits_S128x3328_S128x44).2 b
    (fun i : Fin 44 => pos w b (i.castLE (by omega))) (fun i j e => Fin.castLE_injective _ (ord_injective _ e))
    (fun i => (topK_rows (by omega) w sliceFits_S128x3328_S128x44 b i).2)
  exact ⟨g, hg, hq, fun c => cidx_apply _ b g hs c⟩

theorem cand_lt (g : Fin 44 → Fin 3328) (c : Fin 1408) : cand g c < 106496 := by
  unfold cand
  have := (g ⟨c.val / 32, by omega⟩).isLt
  omega

theorem ofNat_toNat (n : ℕ) (h : n < 106496) : (BitVec.ofNat 32 n).toNat = n := by
  rw [BitVec.toNat_ofNat]
  omega

section Main

variable (x : FVec Ideal S128x100000 .f32) (m l : FVec Ideal S128x1 .f32) (w : FVec Ideal S3328x128 .f32)

/-- The candidates' indices and probabilities of the grouped selection. -/
def candQ : IVec S128x1408 32 := cidx (gids (maxT w))
def candC : FVec Ideal S128x1408 .f32 := candP (candQ w) (takeRows (wordsT x) (cidxT (candQ w))) m l

theorem cidxT_le (j : S1408x128.Idx) : (cidxT (candQ w) j).toNat ≤ 99999 := by
  rw [eq_ix2 j]
  obtain ⟨g, -, -, h⟩ := cidx_gids (maxT w) (j 1)
  refine (congrArg BitVec.toNat (cidxT_apply (candQ w) (j 1) (j 0) _ (cand_lt g _) (h (j 0)))).trans_le ?_
  rw [ofNat_toNat _ (by omega)]
  omega

theorem candC_apply (b : Fin 128) (g : Fin 44 → Fin 3328) (hg : ∀ c, candQ w (ix2 b c) = BitVec.ofNat 32 (cand g c)) (c : Fin 1408) :
    candC x m l w (ix2 b c) = if h : cand g c < 100000 then probs x m l (ix2 b ⟨cand g c, h⟩) else 0 := by
  have hlt := cand_lt g c
  refine (candP_apply _ _ _ _ b c).trans ?_
  have hs : IntOp.cmpi .slt (candQ w (ix2 b c)) 100000#32 = 1#1 ↔ cand g c < 100000 := by
    rw [hg]
    exact StableHlo.Predicate.slt_ofNat_iff _ _ (by omega) (by omega)
  by_cases h : cand g c < 100000
  · rw [dif_pos h]
    refine (if_pos (hs.mpr h)).trans ?_
    rw [probs_apply]
    refine congrArg (fun z : EReal => Ideal.exp ((z - m (ix2 b 0)) - l (ix2 b 0))) ?_
    refine (takeRows_apply (wordsT x) (cidxT (candQ w)) (cidxT_le w) c b).trans ?_
    refine (wordsT_apply x b _).trans (congrArg (fun v => x (ix2 b v)) (Fin.ext ?_))
    show (cidxT (candQ w) (ix2 c b)).toNat = cand g c
    rw [cidxT_apply (candQ w) b c _ hlt (hg c), ofNat_toNat _ (by omega)]
    omega
  · rw [dif_neg h]
    exact if_neg fun e => h (hs.mp e)

/-- With a table of maxima that dominates the masked probabilities, and few groups at the threshold, the grouped
selection is the full one. -/
theorem grouped_eq (hw : ∀ (i : S3328x128.Idx) (r : Fin 32),
      maskedAt (wordsT x) (rows8 m) (rows8 l) (32 * (i 0).val + r.val) ⟨(i 1).val, (i 1).isLt⟩ ≤ w i)
    (hf : few (maxT w) (top40C (candC x m l w)).1 HostLoop.idx0 = 1#1) :
    (top40C (candC x m l w)).1 = (top40P (probs x m l)).1
    ∧ takeCols (candQ w) (top40C (candC x m l w)).2 = (top40P (probs x m l)).2 := by
  have hplace : ∀ (b : Fin 128) (i : Fin 40), (top40C (candC x m l w)).2 (ix2 b i) = BitVec.ofNat 32 (pos (candC x m l w) b (i.castLE (by omega))).val :=
    fun b i => (topK_rows (by omega) (candC x m l w) sliceFits_S128x1408_S128x40 b i).2
  have hval : ∀ (b : Fin 128) (i : Fin 40), (top40C (candC x m l w)).1 (ix2 b i) = candC x m l w (ix2 b (pos (candC x m l w) b (i.castLE (by omega)))) :=
    fun b i => (topK_rows (by omega) (candC x m l w) sliceFits_S128x1408_S128x40 b i).1
  have hle : ∀ j, ((top40C (candC x m l w)).2 j).toNat ≤ 1407 := fun j => by
    rw [eq_ix2 j]
    have e := hplace (j 0) (j 1)
    have hp := (pos (candC x m l w) (j 0) (Fin.castLE (by omega : 40 ≤ 1408) (j 1))).isLt
    refine (congrArg BitVec.toNat e).trans_le ?_
    refine (ofNat_toNat _ (by omega)).trans_le (by omega)
  have key : ∀ (b : Fin 128) (i : Fin 40), ∃ (g : Fin 44 → Fin 3328), (∀ c, candQ w (ix2 b c) = BitVec.ofNat 32 (cand g c))
      ∧ ∃ h : cand g (pos (candC x m l w) b (i.castLE (by omega))) < 100000,
        pos (probs x m l) b (i.castLE (by omega)) = ⟨cand g (pos (candC x m l w) b (i.castLE (by omega))), h⟩ := by
    intro b i
    obtain ⟨g, hg, hq, hc⟩ := cidx_gids (maxT w) b
    refine ⟨g, hc, ?_⟩
    refine top_of_groups (row (probs x m l) b) (row (maxT w) b) g (row (candC x m l w) b) hg hq (fun c => candC_apply x m l w b g hc c) ?_ ?_ ?_ i
    · intro v
      have h := hw (ix2 (⟨v.val / 32, by omega⟩ : Fin 3328) b) ⟨v.val % 32, by omega⟩
      have hv : 32 * (v.val / 32) + v.val % 32 = v.val := by omega
      refine le_trans (le_of_eq ?_) (h.trans (le_of_eq (maxT_apply w b _).symm))
      show probs x m l (ix2 b v) = maskedAt (wordsT x) (rows8 m) (rows8 l) (32 * (v.val / 32) + v.val % 32) b
      rw [hv, probs_apply]
      unfold maskedAt
      rw [dif_pos v.isLt, wordsT_apply, rows8_apply, rows8_apply]
    · intro g'
      exact (maskedAt_nonneg _ _ _ _ _).trans ((hw (ix2 g' b) 0).trans (le_of_eq (maxT_apply w b _).symm))
    · have h := few_le (maxT w) _ hf b
      rw [hval b 39] at h
      exact h
  constructor
  · funext j
    rw [eq_ix2 j]
    obtain ⟨g, hc, hlt, hp⟩ := key (j 0) (j 1)
    refine (hval (j 0) (j 1)).trans (Eq.trans ?_ (topK_rows (by omega) (probs x m l) sliceFits_S128x100000_S128x40 (j 0) (j 1)).1.symm)
    refine (candC_apply x m l w (j 0) g hc _).trans ?_
    rw [dif_pos hlt, hp]
  · funext j
    rw [eq_ix2 j]
    obtain ⟨g, hc, hlt, hp⟩ := key (j 0) (j 1)
    refine (takeCols_apply (candQ w) _ hle (j 0) (j 1)).trans (Eq.trans ?_ (topK_rows (by omega) (probs x m l) sliceFits_S128x100000_S128x40 (j 0) (j 1)).2.symm)
    rw [hp]
    refine Eq.trans (congrArg (fun c => candQ w (ix2 (j 0) c)) (Fin.ext ?_)) (hc _)
    have hpp := (pos (candC x m l w) (j 0) (Fin.castLE (by omega : 40 ≤ 1408) (j 1))).isLt
    exact (congrArg BitVec.toNat (hplace (j 0) (j 1))).trans (ofNat_toNat _ (by omega))

end Main

end Cert.Alg
-- ==== Proof.Alg.Select.lean ====
/-
  The forty candidates that a step of the kernel chooses: whichever arm the branch takes, they are the forty greatest
  probabilities and their words.
-/
module

public import proofs.«01_k».proof.Proof.Alg.Grouped

@[expose] public section

noncomputable section

namespace Cert.Alg

open Cert.KernelIdeal Cert.KernelIdeal.Gen Cert.KernelIdeal.Prf
open Idealize.ShloMosaic Idealize.ShloMosaic.TcCoe
open Idealize.ShloMosaic.StableHlo (after afterL)

/-- The greatest logit of a row, and the logarithm of the row's sum of exponentials. -/
def rowMax (x : FVec Ideal S128x100000 .f32) : FVec Ideal S128x1 .f32 :=
  broadcastInDim S128x1 ![0] bcast_S128_S128x1_0 (Host.reduce FloatOps.maximumf x (constant (F := Ideal) S_ .f32 0xFF800000#32) reducesTo_S128x100000_S128_d1 h_S_)
def rowLog (x : FVec Ideal S128x100000 .f32) : FVec Ideal S128x1 .f32 :=
  Host.log (broadcastInDim S128x1 ![0] bcast_S128_S128x1_0
    (Host.reduceAdd (Host.exp (subf x (broadcastInDim S128x100000 ![0, 1] bcast_S128x1_S128x100000_0_1 (rowMax x)))) (constant (F := Ideal) S_ .f32 0x00000000#32) reducesTo_S128x100000_S128_d1 h_S_))

/-- The operations between the logits and the step's key. -/
abbrev smOps : List (HloOp τ sig (Elt Ideal)) := while0Ops0.drop 56

section Reads

variable (V : Valuation τ sig (Elt Ideal))

theorem read_v81 : after smOps V (Proc.devRef .tc main_while0b_v81) = rowMax (V (Proc.devRef .tc main_while0b_v79)) := by
  unfold smOps
  simp only [List.drop_succ_cons, List.drop_zero]
  after_results
  rfl

theorem read_v87 : after smOps V (Proc.devRef .tc main_while0b_v87) = rowLog (V (Proc.devRef .tc main_while0b_v79)) := by
  unfold smOps
  simp only [List.drop_succ_cons, List.drop_zero]
  after_results
  rfl

theorem read_v88 : after smOps V (Proc.devRef .tc main_while0b_v88) = V (Proc.devRef .tc main_v31_9) := by
  unfold smOps
  simp only [List.drop_succ_cons, List.drop_zero]
  after_results
  rfl

theorem read_v90 : after while0Ops0_2 V (Proc.devRef .tc main_while0b_v90) = wordsT (V (Proc.devRef .tc main_while0b_v79)) := by
  after_results
  rfl

theorem read_v92 : after while0Ops0_2 V (Proc.devRef .tc main_while0b_v92) = rows8 (V (Proc.devRef .tc main_while0b_v81)) := by
  after_results
  rfl

theorem read_v94 : after while0Ops0_2 V (Proc.devRef .tc main_while0b_v94) = rows8 (V (Proc.devRef .tc main_while0b_v87)) := by
  after_results
  rfl

end Reads

/-! ## Between the launch and the branch -/

section Stretch

variable (V : Valuation τ sig (Elt Ideal))

/-- The buffers after each list of the stretch. -/
abbrev B0 := after while0Ops1 V
abbrev B1 := after while0Ops1_1 (B0 V)
abbrev B2 := after while0Ops1_2 (B1 V)
abbrev B3 := after while0Ops1_3 (B2 V)
abbrev B5 := after while0Ops1_5 (after while0Ops1_4 (B3 V))
abbrev B6 := after while0Ops1_6 (B5 V)
abbrev B7 := after while0Ops1_7 (B6 V)
abbrev B8 := after while0Ops1_8 (B7 V)

theorem stretchB_eq : afterL stretchB V = B8 V := rfl

theorem B2_v106 : B2 V (Proc.devRef .tc main_while0b_v106) = candQ (V (Proc.devRef .tc main_while0b_v95)) := by
  refine (read_v106 _).trans (congrArg cidx ?_)
  refine (read_v97 _).trans (congrArg (Host.sort S128x44 1 comparator_i32_d1) ?_)
  exact read_indices V

theorem B2_v109 : B2 V (Proc.devRef .tc main_while0b_v109) = cidxT (candQ (V (Proc.devRef .tc main_while0b_v95))) := by
  refine (read_v109 _).trans (congrArg (fun s => cidxT (cidx s)) ?_)
  refine (read_v97 _).trans (congrArg (Host.sort S128x44 1 comparator_i32_d1) ?_)
  exact read_indices V

/-- Nothing of the stretch touches the logits, their row statistics or the table of maxima. -/
theorem B2_v90 : B2 V (Proc.devRef .tc main_while0b_v90) = V (Proc.devRef .tc main_while0b_v90) := by
  have h : ∀ Y : Valuation τ sig (Elt Ideal), after while0Ops1_2 (after while0Ops1_1 (after while0Ops1 Y)) (Proc.devRef .tc main_while0b_v90) = Y (Proc.devRef .tc main_while0b_v90) := fun Y => by after_results
  exact h V
theorem B3_v81 : B3 V (Proc.devRef .tc main_while0b_v81) = V (Proc.devRef .tc main_while0b_v81) := by
  have h : ∀ Y : Valuation τ sig (Elt Ideal), after while0Ops1_3 (after while0Ops1_2 (after while0Ops1_1 (after while0Ops1 Y))) (Proc.devRef .tc main_while0b_v81) = Y (Proc.devRef .tc main_while0b_v81) := fun Y => by after_results
  exact h V
theorem B3_v87 : B3 V (Proc.devRef .tc main_while0b_v87) = V (Proc.devRef .tc main_while0b_v87) := by
  have h : ∀ Y : Valuation τ sig (Elt Ideal), after while0Ops1_3 (after while0Ops1_2 (after while0Ops1_1 (after while0Ops1 Y))) (Proc.devRef .tc main_while0b_v87) = Y (Proc.devRef .tc main_while0b_v87) := fun Y => by after_results
  exact h V
theorem keep_B8 (r : Ref sig .tc) (h : r ∉ WB.flatten) : B8 V (Proc.devRef .tc r) = V (Proc.devRef .tc r) :=
  Writes.keep (l := stretchB) writesB h V

theorem B3_v106 : B3 V (Proc.devRef .tc main_while0b_v106) = candQ (V (Proc.devRef .tc main_while0b_v95)) := by
  refine Eq.trans ?_ (B2_v106 V)
  have h : ∀ Y : Valuation τ sig (Elt Ideal), after while0Ops1_3 Y (Proc.devRef .tc main_while0b_v106) = Y (Proc.devRef .tc main_while0b_v106) := fun Y => by after_results
  exact h _
theorem B6_v106 : B6 V (Proc.devRef .tc main_while0b_v106) = candQ (V (Proc.devRef .tc main_while0b_v95)) := by
  refine Eq.trans ?_ (B3_v106 V)
  have h : ∀ Y : Valuation τ sig (Elt Ideal), after while0Ops1_6 (after while0Ops1_5 (after while0Ops1_4 Y)) (Proc.devRef .tc main_while0b_v106)
      = Y (Proc.devRef .tc main_while0b_v106) := fun Y => by after_results
  exact h _
theorem B7_v96 : B7 V (Proc.devRef .tc main_while0b_v96) = maxT (V (Proc.devRef .tc main_while0b_v95)) := by
  refine Eq.trans ?_ (read_v96 V)
  have h1 : ∀ Y : Valuation τ sig (Elt Ideal), after while0Ops1_3 (after while0Ops1_2 (after while0Ops1_1 Y)) (Proc.devRef .tc main_while0b_v96)
      = Y (Proc.devRef .tc main_while0b_v96) := fun Y => by after_results
  have h2 : ∀ Y : Valuation τ sig (Elt Ideal), after while0Ops1_6 (after while0Ops1_5 (after while0Ops1_4 Y)) (Proc.devRef .tc main_while0b_v96)
      = Y (Proc.devRef .tc main_while0b_v96) := fun Y => by after_results
  have h3 : ∀ Y : Valuation τ sig (Elt Ideal), after while0Ops1_7 Y (Proc.devRef .tc main_while0b_v96)
      = Y (Proc.devRef .tc main_while0b_v96) := fun Y => by after_results
  exact (h3 _).trans ((h2 _).trans (h1 _))
theorem keep_values (Y : Valuation τ sig (Elt Ideal)) : after while0Ops1_7 Y (Proc.devRef .tc main_while0b_values_39) = Y (Proc.devRef .tc main_while0b_values_39) := by
  after_results
theorem keep_values' (Y : Valuation τ sig (Elt Ideal)) : after while0Ops1_8 Y (Proc.devRef .tc main_while0b_values_39) = Y (Proc.devRef .tc main_while0b_values_39) := by
  after_results
theorem keep_v120 (Y : Valuation τ sig (Elt Ideal)) : after while0Ops1_8 Y (Proc.devRef .tc main_while0b_v120) = Y (Proc.devRef .tc main_while0b_v120) := by
  after_results

variable (x : FVec Ideal S128x100000 .f32) (m l : FVec Ideal S128x1 .f32) (w : FVec Ideal S3328x128 .f32)
variable (h90 : V (Proc.devRef .tc main_while0b_v90) = wordsT x) (h81 : V (Proc.devRef .tc main_while0b_v81) = m)
  (h87 : V (Proc.devRef .tc main_while0b_v87) = l) (h95 : V (Proc.devRef .tc main_while0b_v95) = w)

include h90 h81 h87 h95

theorem B5_v119 : B5 V (Proc.devRef .tc main_while0b_v119) = candC x m l w := by
  subst h95
  refine (read_v119 _).trans ?_
  have e1 : B3 V (Proc.devRef .tc main_while0b_v110) = takeRows (wordsT x) (cidxT (candQ (V (Proc.devRef .tc main_while0b_v95)))) :=
    (read_v110 _).trans (congrArg₂ takeRows ((B2_v90 V).trans h90) (B2_v109 V))
  unfold candC
  exact (congrArg₂ (fun q t => candP q t (B3 V (Proc.devRef .tc main_while0b_v81)) (B3 V (Proc.devRef .tc main_while0b_v87))) (B3_v106 V) e1).trans
    (congrArg₂ (candP _ _) ((B3_v81 V).trans h81) ((B3_v87 V).trans h87))

theorem B6_values : B6 V (Proc.devRef .tc main_while0b_values_39) = (top40C (candC x m l w)).1 :=
  (read_values _).trans (congrArg (fun z : FVec Ideal S128x1408 .f32 => (top40C z).1) (B5_v119 V x m l w h90 h81 h87 h95))

theorem B6_places : B6 V (Proc.devRef .tc main_while0b_indices_40) = (top40C (candC x m l w)).2 :=
  (read_places _).trans (congrArg (fun z : FVec Ideal S128x1408 .f32 => (top40C z).2) (B5_v119 V x m l w h90 h81 h87 h95))

theorem B8_values : B8 V (Proc.devRef .tc main_while0b_values_39) = (top40C (candC x m l w)).1 :=
  (keep_values' _).trans ((keep_values _).trans (B6_values V x m l w h90 h81 h87 h95))

theorem B8_v120 : B8 V (Proc.devRef .tc main_while0b_v120) = takeCols (candQ w) (top40C (candC x m l w)).2 := by
  refine (keep_v120 _).trans ((read_v120 _).trans ?_)
  refine congrArg₂ takeCols ((B6_v106 V).trans (congrArg candQ h95)) (B6_places V x m l w h90 h81 h87 h95)

theorem B8_v128 : B8 V (Proc.devRef .tc main_while0b_v128) = few (maxT w) (top40C (candC x m l w)).1 := by
  refine (read_v128 _).trans ?_
  exact congrArg₂ few ((B7_v96 V).trans (congrArg maxT h95)) ((keep_values _).trans (B6_values V x m l w h90 h81 h87 h95))

end Stretch

/-! ## The branch -/

theorem branch_one : HostLoop.branch (1#32) 1 = 1 := by decide
theorem branch_zero : HostLoop.branch (0#32) 1 = 0 := by decide

section Full

variable (V : Valuation τ sig (Elt Ideal))

theorem full_values : after fullOps V (Proc.devRef .tc main_while0b_v130_0)
    = (top40P (probs (V (Proc.devRef .tc main_while0b_v79)) (V (Proc.devRef .tc main_while0b_v81)) (V (Proc.devRef .tc main_while0b_v87)))).1 := by
  after_results
  rfl
theorem full_places : after fullOps V (Proc.devRef .tc main_while0b_v130_1)
    = (top40P (probs (V (Proc.devRef .tc main_while0b_v79)) (V (Proc.devRef .tc main_while0b_v81)) (V (Proc.devRef .tc main_while0b_v87)))).2 := by
  after_results
  rfl
theorem grouped_values : after groupedOps V (Proc.devRef .tc main_while0b_v130_0) = V (Proc.devRef .tc main_while0b_values_39) := by
  after_results
  rfl
theorem grouped_places : after groupedOps V (Proc.devRef .tc main_while0b_v130_1) = V (Proc.devRef .tc main_while0b_v120) := by
  after_results
  rfl
theorem rd_keep (r : Ref sig .tc) (h : r ≠ main_while0b_v129) : after [rdOp] V (Proc.devRef .tc r) = V (Proc.devRef .tc r) :=
  Writes.keep (l := [[rdOp]]) writesR (by simpa using h) V
theorem rd_word : after [rdOp] V (Proc.devRef .tc main_while0b_v129) HostLoop.idx0 = (V (Proc.devRef .tc main_while0b_v128) HostLoop.idx0 : BitVec 1).zeroExtend 32 := by
  after_results
  rfl

end Full

/-- After the branch the two buffers of candidates hold the forty greatest probabilities and their places. -/
theorem case_top (U : Dev nD → Valuation τ sig (Elt Ideal)) (c : Dev nD)
    (x : FVec Ideal S128x100000 .f32) (m l : FVec Ideal S128x1 .f32) (w : FVec Ideal S3328x128 .f32)
    (h79 : U c (Proc.devRef .tc main_while0b_v79) = x) (h81 : U c (Proc.devRef .tc main_while0b_v81) = m) (h87 : U c (Proc.devRef .tc main_while0b_v87) = l)
    (hv : U c (Proc.devRef .tc main_while0b_values_39) = (top40C (candC x m l w)).1)
    (hp : U c (Proc.devRef .tc main_while0b_v120) = takeCols (candQ w) (top40C (candC x m l w)).2)
    (hb : U c (Proc.devRef .tc main_while0b_v128) = few (maxT w) (top40C (candC x m l w)).1)
    (hw : ∀ (i : S3328x128.Idx) (r : Fin 32),
      maskedAt (wordsT x) (rows8 m) (rows8 l) (32 * (i 0).val + r.val) ⟨(i 1).val, (i 1).isLt⟩ ≤ w i) :
    afterCase U c (Proc.devRef .tc main_while0b_v130_0) = (top40P (probs x m l)).1
    ∧ afterCase U c (Proc.devRef .tc main_while0b_v130_1) = (top40P (probs x m l)).2 := by
  have hword : word U c = (few (maxT w) (top40C (candC x m l w)).1 HostLoop.idx0).zeroExtend 32 :=
    (rd_word (U c)).trans (congrArg (fun z : IVec S_ 1 => (z HostLoop.idx0).zeroExtend 32) hb)
  have hbit : ∀ b : BitVec 1, b = 0#1 ∨ b = 1#1 := by decide
  unfold afterCase
  rcases hbit (few (maxT w) (top40C (candC x m l w)).1 HostLoop.idx0) with h0 | h1
  · have hbr : HostLoop.branch (word U c) 1 = 0 := by
      rw [hword, h0]
      exact branch_zero
    rw [hbr]
    have e79 := (rd_keep (U c) main_while0b_v79 (by decide)).trans h79
    have e81 := (rd_keep (U c) main_while0b_v81 (by decide)).trans h81
    have e87 := (rd_keep (U c) main_while0b_v87 (by decide)).trans h87
    have hP : probs (after [rdOp] (U c) (Proc.devRef .tc main_while0b_v79)) (after [rdOp] (U c) (Proc.devRef .tc main_while0b_v81))
        (after [rdOp] (U c) (Proc.devRef .tc main_while0b_v87)) = probs x m l :=
      (congrArg₂ (fun a b => probs a b (after [rdOp] (U c) (Proc.devRef .tc main_while0b_v87))) e79 e81).trans (congrArg (probs x m) e87)
    exact ⟨(full_values _).trans (congrArg (fun P => (top40P P).1) hP), (full_places _).trans (congrArg (fun P => (top40P P).2) hP)⟩
  · have hbr : HostLoop.branch (word U c) 1 = 1 := by
      rw [hword, h1]
      exact branch_one
    rw [hbr]
    obtain ⟨g1, g2⟩ := grouped_eq x m l w hw h1
    exact ⟨(grouped_values _).trans (((rd_keep (U c) main_while0b_values_39 (by decide)).trans hv).trans g1),
      (grouped_places _).trans (((rd_keep (U c) main_while0b_v120 (by decide)).trans hp).trans g2)⟩

end Cert.Alg
-- ==== Proof.Alg.RefTop.lean ====
/-
  The reference's step from the logits to the forty candidates: the softmax and the top-k of its probabilities.
-/
module

public import proofs.«01_k».proof.Proof.Alg.Select
public import proofs.«01_k».proof.Proof.Gen.ReferenceIdeal.Run
public import proofs.«01_k».proof.Proof.Ref.Run

@[expose] public section

noncomputable section

namespace Cert.Alg.Ref

open Cert.ReferenceIdeal Cert.ReferenceIdeal.Gen Cert.ReferenceIdeal.Value Cert.ReferenceIdeal.Prf
open Idealize.ShloMosaic Idealize.ShloMosaic.TcCoe
open Idealize.ShloMosaic.StableHlo (after afterL)

/-- The greatest logit of each row, folded from the least value. -/
abbrev top1 (x : FVec Ideal S128x100000 .f32) : FVec Ideal S128 .f32 :=
  Host.reduce FloatOps.maximumf x (constant (F := Ideal) S_ .f32 0xFF800000#32) reducesTo_S128x100000_S128_d1 h_S_

/-- The greater of the least value and a value is the value. -/
theorem max_least (z : FVec Ideal S128 .f32) :
    maximumf (broadcastInDim S128 ![] bcast_S_S128 (constant (F := Ideal) S_ .f32 0xFF800000#32)) z = z := by
  funext i
  show max (Ideal.ofBits .f32 0xFF800000#32) (z i) = z i
  simp [Ideal.ofBits, Ideal.ieee]

/-- The log of the softmax of the rows, their greatest logits given. -/
abbrev logSoft (x : FVec Ideal S128x100000 .f32) (z : FVec Ideal S128 .f32) : FVec Ideal S128x100000 .f32 :=
  subf (subf x (broadcastInDim S128x100000 ![0, 1] bcast_S128x1_S128x100000_0_1 (broadcastInDim S128x1 ![0] bcast_S128_S128x1_0 z)))
    (broadcastInDim S128x100000 ![0, 1] bcast_S128x1_S128x100000_0_1 (Host.log (broadcastInDim S128x1 ![0] bcast_S128_S128x1_0
      (Host.reduceAdd (Host.exp (subf x (broadcastInDim S128x100000 ![0, 1] bcast_S128x1_S128x100000_0_1 (broadcastInDim S128x1 ![0] bcast_S128_S128x1_0 z))))
        (constant (F := Ideal) S_ .f32 0x00000000#32) reducesTo_S128x100000_S128_d1 h_S_))))

variable (Y : Valuation τ sig (Elt Ideal))

theorem ref_v80 : after while0Ops0_1 Y (Proc.devRef .tc main_while0b_v80) = logSoft (Y (Proc.devRef .tc main_while0b_v79))
    (maximumf (broadcastInDim S128 ![] bcast_S_S128 (constant (F := Ideal) S_ .f32 0xFF800000#32)) (top1 (Y (Proc.devRef .tc main_while0b_v79)))) := by
  after_results
  simp only [StableHlo.TRef.ofBuf_toBuf]
  unfold logSoft top1
  congr 1

theorem ref_v81 : after while0Ops0_2 Y (Proc.devRef .tc main_while0b_v81) = (Host.exp (F := Ideal) (φ := .f32) (s := S128x100000) (Y (Proc.devRef .tc main_while0b_v80)) : FVec Ideal S128x100000 .f32) := by
  after_results

theorem ref_v82 : after while0Ops0_2 Y (Proc.devRef .tc main_while0b_v82) = Y (Proc.devRef .tc main_v31_9) := by
  after_results
  rfl

/-- The first two operations after the step's key: the forty greatest probabilities and their words. -/
abbrev topOps : List (HloOp τ sig (Elt Ideal)) := while0Ops0_4.take 2

theorem ref_values : after topOps Y (Proc.devRef .tc main_while0b_values) = (top40P (Y (Proc.devRef .tc main_while0b_v81))).1 := by
  unfold topOps
  simp only [List.take_succ_cons, List.take_zero]
  after_results

theorem ref_indices : after topOps Y (Proc.devRef .tc main_while0b_indices) = (top40P (Y (Proc.devRef .tc main_while0b_v81))).2 := by
  unfold topOps
  simp only [List.take_succ_cons, List.take_zero]
  after_results

/-- The reference's probabilities are those of the kernel's row statistics. -/
theorem soft_eq (x : FVec Ideal S128x100000 .f32) : Host.exp (logSoft x (top1 x)) = probs x (rowMax x) (rowLog x) := rfl

/-- The probabilities of a step. -/
theorem ref_probs : after while0Ops0_2 (after while0Ops0_1 Y) (Proc.devRef .tc main_while0b_v81)
    = probs (Y (Proc.devRef .tc main_while0b_v79)) (rowMax (Y (Proc.devRef .tc main_while0b_v79))) (rowLog (Y (Proc.devRef .tc main_while0b_v79))) := by
  refine (ref_v81 _).trans ?_
  refine (congrArg (Host.exp (F := Ideal) (φ := .f32) (s := S128x100000)) (ref_v80 Y)).trans ?_
  exact (congrArg (fun z => Host.exp (logSoft (Y (Proc.devRef .tc main_while0b_v79)) z)) (max_least _)).trans (soft_eq _)

end Cert.Alg.Ref
-- ==== Proof.Alg.Middle.lean ====
/-
  From the logits to the forty candidates: programs that agree on the logits agree on the candidates.
-/
module

public import proofs.«01_k».proof.Proof.Alg.Rest
public import proofs.«01_k».proof.Proof.Alg.RefTop
public import proofs.«01_k».proof.Proof.Alg.LockFold
public import proofs.«01_k».proof.Proof.Alg.GroupMax

@[expose] public section

noncomputable section

namespace Cert.Alg

open Idealize.ShloMosaic Idealize.ShloMosaic.TcCoe
open Idealize.ShloMosaic.StableHlo (after afterL)

/-! ## The kernel's buffers -/

section Kernel

open Cert.KernelIdeal Cert.KernelIdeal.Gen Cert.KernelIdeal.Prf

variable (X : Dev nD → Valuation τ sig (Elt Ideal)) (c : Dev nD)

/-- After the row statistics, after the step's key, at the launch, after the launch, at the branch and after it. -/
abbrev K2 : Dev nD → Valuation τ sig (Elt Ideal) := fun c => after smOps (X c)
abbrev K3 : Dev nD → Valuation τ sig (Elt Ideal) := fun c => after while0Ops0_1 (K2 X c)
abbrev K4 : Dev nD → Valuation τ sig (Elt Ideal) := fun c => after while0Ops0_2 (K3 X c)
abbrev K5 : Dev nD → Valuation τ sig (Elt Ideal) := fun c => afterVm (K4 X) c
abbrev K6 : Dev nD → Valuation τ sig (Elt Ideal) := fun c => afterL stretchB (K5 X c)
abbrev K7 : Dev nD → Valuation τ sig (Elt Ideal) := fun c => afterCase (K6 X) c

abbrev WS : List (List (Ref sig .tc)) :=
  [[main_while0b_cst_33, main_while0b_v80, main_while0b_v81, main_while0b_v82, main_while0b_v83, main_while0b_v84, main_while0b_cst_34,
    main_while0b_v85, main_while0b_v86, main_while0b_v87, main_while0b_v88]]
abbrev WK : List (List (Ref sig .tc)) := (WA.drop 1).take 1
abbrev WL : List (List (Ref sig .tc)) := WA.drop 2

theorem writesS : Writes [smOps] WS := rfl
set_option maxRecDepth 100000 in
theorem writesK : Writes [while0Ops0_1 (F := Ideal)] WK := rfl
theorem writesL : Writes [while0Ops0_2 (F := Ideal)] WL := rfl

theorem K6_K5 (r : Ref sig .tc) (h : r ∉ WB.flatten) : K6 X c (Proc.devRef .tc r) = K5 X c (Proc.devRef .tc r) := writesB.keep h _

theorem K5_K3 (r : Ref sig .tc) (h : r ∉ (WL ++ [[main_while0b_v95]]).flatten) : K5 X c (Proc.devRef .tc r) = K3 X c (Proc.devRef .tc r) := by
  simp only [List.flatten_append, List.mem_append, not_or] at h
  exact (afterVm_ne _ _ _ (by simpa using h.2)).trans (writesL.keep h.1 (K3 X c))

theorem K3_K2 (r : Ref sig .tc) (h : r ∉ WK.flatten) : K3 X c (Proc.devRef .tc r) = K2 X c (Proc.devRef .tc r) := writesK.keep h (K2 X c)

theorem K7_K3 (r : Ref sig .tc) (h : r ∉ (WL ++ [[main_while0b_v95]] ++ WB ++ (WR ++ WF ++ WG)).flatten) :
    K7 X c (Proc.devRef .tc r) = K3 X c (Proc.devRef .tc r) := by
  rw [List.flatten_append, List.mem_append, not_or] at h
  rw [List.flatten_append (L₁ := WL ++ [[main_while0b_v95]]), List.mem_append, not_or] at h
  exact (afterCase_keep _ _ _ h.2).trans ((K6_K5 X c r h.1.2).trans (K5_K3 X c r h.1.1))

theorem K7_X (r : Ref sig .tc) (h : r ∉ (WS ++ WK ++ (WL ++ [[main_while0b_v95]] ++ WB ++ (WR ++ WF ++ WG))).flatten) :
    K7 X c (Proc.devRef .tc r) = X c (Proc.devRef .tc r) := by
  rw [List.flatten_append, List.mem_append, not_or, List.flatten_append, List.mem_append, not_or] at h
  exact (K7_K3 X c r h.2).trans ((K3_K2 X c r h.1.2).trans (writesS.keep h.1.1 (X c)))

/-- The kernel's candidates are the forty greatest probabilities and their words. -/
theorem K7_top (x : FVec Ideal S128x100000 .f32) (hx : X c (Proc.devRef .tc main_while0b_v79) = x) :
    K7 X c (Proc.devRef .tc main_while0b_v130_0) = (top40P (probs x (rowMax x) (rowLog x))).1
    ∧ K7 X c (Proc.devRef .tc main_while0b_v130_1) = (top40P (probs x (rowMax x) (rowLog x))).2 := by
  have s79 : K3 X c (Proc.devRef .tc main_while0b_v79) = x :=
    (K3_K2 X c main_while0b_v79 (by decide +kernel)).trans ((writesS.keep (by decide +kernel) (X c)).trans hx)
  have s81 : K3 X c (Proc.devRef .tc main_while0b_v81) = rowMax x :=
    (K3_K2 X c main_while0b_v81 (by decide +kernel)).trans ((read_v81 (X c)).trans (congrArg rowMax hx))
  have s87 : K3 X c (Proc.devRef .tc main_while0b_v87) = rowLog x :=
    (K3_K2 X c main_while0b_v87 (by decide +kernel)).trans ((read_v87 (X c)).trans (congrArg rowLog hx))
  have e90 : K4 X c (Proc.devRef .tc main_while0b_v90) = wordsT x := (read_v90 (K3 X c)).trans (congrArg wordsT s79)
  have e92 : K4 X c (Proc.devRef .tc main_while0b_v92) = rows8 (rowMax x) := (read_v92 (K3 X c)).trans (congrArg rows8 s81)
  have e94 : K4 X c (Proc.devRef .tc main_while0b_v94) = rows8 (rowLog x) := (read_v94 (K3 X c)).trans (congrArg rows8 s87)
  have h90 : K5 X c (Proc.devRef .tc main_while0b_v90) = wordsT x := (afterVm_ne _ _ _ (by decide)).trans e90
  have h79 := (K5_K3 X c main_while0b_v79 (by decide +kernel)).trans s79
  have h81 := (K5_K3 X c main_while0b_v81 (by decide +kernel)).trans s81
  have h87 := (K5_K3 X c main_while0b_v87 (by decide +kernel)).trans s87
  have h95 : K5 X c (Proc.devRef .tc main_while0b_v95) = vmOut (fun c b => K4 X c (Proc.devRef .tc b)) c := afterVm_out (K4 X) c
  refine case_top (K6 X) c x (rowMax x) (rowLog x) (vmOut (fun c b => K4 X c (Proc.devRef .tc b)) c)
    ((K6_K5 X c main_while0b_v79 (by decide +kernel)).trans h79) ((K6_K5 X c main_while0b_v81 (by decide +kernel)).trans h81)
    ((K6_K5 X c main_while0b_v87 (by decide +kernel)).trans h87)
    (B8_values (K5 X c) x _ _ _ h90 h81 h87 h95) (B8_v120 (K5 X c) x _ _ _ h90 h81 h87 h95) (B8_v128 (K5 X c) x _ _ _ h90 h81 h87 h95) fun i r => ?_
  have hge := vmOut_ge (fun c b => K4 X c (Proc.devRef .tc b)) c i r
  refine le_of_eq_of_le ?_ hge
  exact (congrArg₂ (fun a b => maskedAt a b (rows8 (rowLog x)) (32 * (i 0).val + r.val) ⟨(i 1).val, (i 1).isLt⟩) e90.symm e92.symm).trans
    (congrArg (fun d => maskedAt _ _ d (32 * (i 0).val + r.val) ⟨(i 1).val, (i 1).isLt⟩) e94.symm)

end Kernel

/-! ## The reference's buffers -/

section Reference

open Cert.ReferenceIdeal Cert.ReferenceIdeal.Gen Cert.ReferenceIdeal.Value Cert.ReferenceIdeal.Prf Cert.Alg.Ref

variable (Z : Valuation τ sig (Elt Ideal))

/-- After the softmax, after the step's key, after the top-k. -/
abbrev R3 : Valuation τ sig (Elt Ideal) := after while0Ops0_2 (after while0Ops0_1 Z)
abbrev R4 : Valuation τ sig (Elt Ideal) := after while0Ops0_3 (R3 Z)
abbrev R5 : Valuation τ sig (Elt Ideal) := after topOps (R4 Z)

theorem writesR3 : Writes [while0Ops0_1 (F := Ideal), while0Ops0_2] [while0Ops0_1_W, while0Ops0_2_W] := rfl
set_option maxRecDepth 100000 in
theorem writesR4 : Writes [while0Ops0_3 (F := Ideal)] [while0Ops0_3_W] := rfl
theorem writesR5 : Writes [topOps] [[main_while0b_values, main_while0b_indices]] := rfl

theorem R5_Z (r : Ref sig .tc) (h : r ∉ ([while0Ops0_1_W, while0Ops0_2_W] ++ [while0Ops0_3_W] ++ [[main_while0b_values, main_while0b_indices]]).flatten) :
    R5 Z (Proc.devRef .tc r) = Z (Proc.devRef .tc r) := by
  rw [List.flatten_append, List.mem_append, not_or, List.flatten_append, List.mem_append, not_or] at h
  exact (writesR5.keep h.2 (R4 Z)).trans ((writesR4.keep h.1.2 (R3 Z)).trans (writesR3.keep h.1.1 Z))

/-- The reference's candidates are the forty greatest probabilities and their words. -/
theorem R5_top (x : FVec Ideal S128x100000 .f32) (hx : Z (Proc.devRef .tc main_while0b_v79) = x) :
    R5 Z (Proc.devRef .tc main_while0b_values) = (top40P (probs x (rowMax x) (rowLog x))).1
    ∧ R5 Z (Proc.devRef .tc main_while0b_indices) = (top40P (probs x (rowMax x) (rowLog x))).2 := by
  have hp : R4 Z (Proc.devRef .tc main_while0b_v81) = probs x (rowMax x) (rowLog x) :=
    (writesR4.keep (by decide +kernel) (R3 Z)).trans ((ref_probs Z).trans (congrArg (fun x => probs x (rowMax x) (rowLog x)) hx))
  exact ⟨(ref_values (R4 Z)).trans (congrArg (fun P => (top40P P).1) hp), (ref_indices (R4 Z)).trans (congrArg (fun P => (top40P P).2) hp)⟩

end Reference

/-! ## Side by side -/

section Both

open Cert.KernelIdeal

/-- What the step's key is computed from, and the key. -/
abbrev LF : List RefPair := [(main_while0b_v88, Cert.ReferenceIdeal.main_while0b_v82), (main_v31_7, Cert.ReferenceIdeal.main_v31_7)]
abbrev LG : List RefPair := [(main_while0b_v89, Cert.ReferenceIdeal.main_while0b_v83)]
/-- What the trip found and what it computed before the logits; the counter and the random key; the logits. -/
abbrev LK : List RefPair := LT ++ LN
abbrev LX : List RefPair :=
  [(main_v31_9, Cert.ReferenceIdeal.main_v31_9), (main_v31_7, Cert.ReferenceIdeal.main_v31_7), (main_while0b_v79, Cert.ReferenceIdeal.main_while0b_v79)]
/-- The candidates. -/
abbrev LO : List RefPair :=
  [(main_while0b_v130_0, Cert.ReferenceIdeal.main_while0b_values), (main_while0b_v130_1, Cert.ReferenceIdeal.main_while0b_indices)]

theorem hbm_LF : InHbm LF := hbm_cons rfl rfl (hbm_cons rfl rfl hbm_nil)
theorem hbm_LG : InHbm LG := hbm_cons rfl rfl hbm_nil
theorem hbm_LK : InHbm LK := hbm_append hbm_LT hbm_LN
theorem hbm_LX : InHbm LX := hbm_cons rfl rfl (hbm_cons rfl rfl (hbm_cons rfl rfl hbm_nil))
theorem hbm_LO : InHbm LO := hbm_cons rfl rfl (hbm_cons rfl rfl hbm_nil)

theorem nums_PC : nums (LK ++ (LG ++ LO)) = PC := rfl

variable (X : Dev nD → Valuation τ sig (Elt Ideal)) (c : Dev nD) (Z : Valuation Cert.ReferenceIdeal.τ Cert.ReferenceIdeal.sig (Elt Ideal))

theorem kept_K (p : RefPair) (hp : p ∈ LK) : K7 X c (Proc.devRef .tc p.1) = X c (Proc.devRef .tc p.1) := by
  have h : ∀ r ∈ LK.map Prod.fst, r ∉ (WS ++ WK ++ (WL ++ [[main_while0b_v95]] ++ Prf.WB ++ (Prf.WR ++ Prf.WF ++ Prf.WG))).flatten := by decide +kernel
  exact K7_X X c p.1 (h _ (List.mem_map_of_mem hp))

theorem kept_R (p : RefPair) (hp : p ∈ LK) : R5 Z (Proc.devRef .tc p.2) = Z (Proc.devRef .tc p.2) := by
  have h : ∀ r ∈ LK.map Prod.snd, r ∉ ([Cert.ReferenceIdeal.Value.while0Ops0_1_W, Cert.ReferenceIdeal.Value.while0Ops0_2_W]
      ++ [Cert.ReferenceIdeal.Value.while0Ops0_3_W] ++ [[Cert.ReferenceIdeal.main_while0b_values, Cert.ReferenceIdeal.main_while0b_indices]]).flatten := by
    decide +kernel
  exact R5_Z Z p.2 (h _ (List.mem_map_of_mem hp))

/-- The step's key is the same. -/
theorem key_same (hX : Same2 LX (X c) Z) : Same2 LG (K3 X c) (R4 Z) := by
  have h9 := hX _ List.mem_cons_self
  have h7 := hX _ (List.mem_cons_of_mem _ List.mem_cons_self)
  have hF : Same2 LF (K2 X c) (R3 Z) := by
    refine same2_cons ?_ (same2_cons ?_ same2_nil)
    · refine (heq_of_eq (read_v88 (X c))).trans (h9.trans (heq_of_eq ?_).symm)
      exact (Ref.ref_v82 _).trans (Cert.ReferenceIdeal.Prf.Writes.keep (l := [Cert.ReferenceIdeal.Gen.while0Ops0_1]) (W := [Cert.ReferenceIdeal.Value.while0Ops0_1_W])
        rfl (by decide +kernel) Z)
    · exact (heq_of_eq (writesS.keep (by decide +kernel) (X c))).trans (h7.trans (heq_of_eq (writesR3.keep (by decide +kernel) Z)).symm)
  have hA := Seq.run_to (by decide +kernel) seq_fold (k' := 236) rfl (Agree.start _ 141 147 (agree_of_pairs hbm_LF hF))
  exact pairs_of_agree hbm_LG hA (by decide +kernel)

/-- Programs that agree on the logits agree on the candidates. -/
theorem middle (h : AgreeOn (okK PT 74 74 56) (X c) Z) : Agree PC (K7 X c) (R5 Z) := by
  have hK : Same2 LK (X c) Z := pairs_of_agree hbm_LK h (by decide +kernel)
  have hX : Same2 LX (X c) Z := pairs_of_agree hbm_LX h (by decide +kernel)
  have hx : (X c (Proc.devRef .tc main_while0b_v79) : FVec Ideal S128x100000 .f32) = Z (Proc.devRef .tc Cert.ReferenceIdeal.main_while0b_v79) :=
    eq_of_heq (hX _ (List.mem_cons_of_mem _ (List.mem_cons_of_mem _ List.mem_cons_self)))
  obtain ⟨k0, k1⟩ := K7_top X c _ hx
  obtain ⟨r0, r1⟩ := R5_top Z _ rfl
  have hG : Same2 LG (K7 X c) (R5 Z) :=
    (key_same X c Z hX).carry (List.forall_mem_cons.mpr ⟨K7_K3 X c main_while0b_v89 (by decide +kernel), fun _ h => absurd h List.not_mem_nil⟩)
      (List.forall_mem_cons.mpr ⟨writesR5.keep (by decide +kernel) (R4 Z), fun _ h => absurd h List.not_mem_nil⟩)
  have hO : Same2 LO (K7 X c) (R5 Z) :=
    same2_cons ((heq_of_eq k0).trans (heq_of_eq r0).symm) (same2_cons ((heq_of_eq k1).trans (heq_of_eq r1).symm) same2_nil)
  have hall : Same2 (LK ++ (LG ++ LO)) (K7 X c) (R5 Z) := same2_append (hK.carry (kept_K X c) (kept_R Z)) (same2_append hG hO)
  exact agree_of_pairs (hbm_append hbm_LK (hbm_append hbm_LG hbm_LO)) hall

end Both

end Cert.Alg
-- ==== Proof.Alg.LockEntry.lean ====
/-
  The two programs before their loops, side by side.
-/
module

public import proofs.«01_k».proof.Proof.Alg.Lock
public import proofs.«01_k».proof.Proof.Gen.KernelIdeal.Launch
public import proofs.«01_k».proof.Proof.Gen.ReferenceIdeal.Run

@[expose] public section

noncomputable section

namespace Cert.Alg

open Idealize.ShloMosaic Idealize.ShloMosaic.TcCoe Idealize.ShloMosaic.StableHlo

attribute [local irreducible] StableHlo.nullary StableHlo.unary StableHlo.binary StableHlo.ternary StableHlo.quaternary StableHlo.reshape

variable {F : FTy → Type} [FloatOps F]

/-- The arguments. -/
abbrev PE : List (ℕ × ℕ) := [(Cert.KernelIdeal.main_arg0.idx.val, Cert.ReferenceIdeal.main_arg0.idx.val), (Cert.KernelIdeal.main_arg1.idx.val, Cert.ReferenceIdeal.main_arg1.idx.val), (Cert.KernelIdeal.main_arg2.idx.val, Cert.ReferenceIdeal.main_arg2.idx.val), (Cert.KernelIdeal.main_arg3.idx.val, Cert.ReferenceIdeal.main_arg3.idx.val), (Cert.KernelIdeal.main_arg4.idx.val, Cert.ReferenceIdeal.main_arg4.idx.val), (Cert.KernelIdeal.main_arg5.idx.val, Cert.ReferenceIdeal.main_arg5.idx.val), (Cert.KernelIdeal.main_arg6.idx.val, Cert.ReferenceIdeal.main_arg6.idx.val), (Cert.KernelIdeal.main_arg7.idx.val, Cert.ReferenceIdeal.main_arg7.idx.val), (Cert.KernelIdeal.main_arg8.idx.val, Cert.ReferenceIdeal.main_arg8.idx.val), (Cert.KernelIdeal.main_arg9.idx.val, Cert.ReferenceIdeal.main_arg9.idx.val), (Cert.KernelIdeal.main_arg10.idx.val, Cert.ReferenceIdeal.main_arg10.idx.val), (Cert.KernelIdeal.main_arg11.idx.val, Cert.ReferenceIdeal.main_arg11.idx.val), (Cert.KernelIdeal.main_arg12.idx.val, Cert.ReferenceIdeal.main_arg12.idx.val)]

set_option maxRecDepth 100000 in
set_option maxHeartbeats 4000000 in
theorem seq_entry : Seq (Val := Elt F) PE 13 13 0 Cert.KernelIdeal.Gen.hostOps0 Cert.ReferenceIdeal.Gen.hostOps0 := by
  repeat (refine ⟨?_, ?_⟩; (first
    | exact Same.binary rfl rfl rfl rfl rfl rfl rfl rfl rfl rfl rfl rfl rfl HEq.rfl
    | exact Same.unary rfl rfl rfl rfl rfl rfl rfl rfl rfl HEq.rfl
    | exact Same.nullary rfl rfl rfl rfl HEq.rfl
    | exact Same.ternary rfl rfl rfl rfl rfl rfl rfl rfl rfl rfl rfl rfl rfl rfl rfl rfl rfl HEq.rfl
    | exact Same.reshape rfl rfl rfl rfl rfl rfl rfl rfl rfl HEq.rfl
    | exact Same.quaternary rfl rfl rfl rfl rfl rfl rfl rfl rfl rfl rfl rfl rfl rfl rfl rfl rfl rfl rfl rfl rfl HEq.rfl))
  exact trivial

end Cert.Alg
-- ==== Proof.Alg.Trips.lean ====
/-
  The two loops side by side: equal arguments give equal results.
-/
module

public import proofs.«01_k».proof.Proof.Alg.Middle
public import proofs.«01_k».proof.Proof.Alg.LockEntry

@[expose] public section

noncomputable section

namespace Cert.Alg

open Idealize.ShloMosaic Idealize.ShloMosaic.TcCoe
open Idealize.ShloMosaic.StableHlo (after afterL atTrip entryContents finalContents)

theorem after_two {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l₁ ih => exact ih _

/-! ## One trip -/

section Trip

open Cert.KernelIdeal Cert.KernelIdeal.Gen Cert.KernelIdeal.Prf

variable (V : Dev nD → Valuation τ sig (Elt Ideal)) (c : Dev nD) (V' : Valuation Cert.ReferenceIdeal.τ Cert.ReferenceIdeal.sig (Elt Ideal))

/-- The kernel's buffers at the logits. -/
abbrev K1 : Dev nD → Valuation τ sig (Elt Ideal) := fun c => after (while0Ops0.take 56) (V c)

theorem stretchA_eq : afterL stretchA (V c) = K4 (K1 V) c := by
  show after while0Ops0_2 (after while0Ops0_1 (after while0Ops0 (V c))) = after while0Ops0_2 (after while0Ops0_1 (after smOps (after (while0Ops0.take 56) (V c))))
  exact congrArg (fun X => after while0Ops0_2 (after while0Ops0_1 X))
    ((congrArg (fun l => after l (V c)) (List.take_append_drop 56 while0Ops0).symm).trans (after_two _ _ _))

theorem trip_eq : trip V c = afterL stretchC (K7 (K1 V) c) := by
  have h : (fun c => afterL stretchA (V c)) = K4 (K1 V) := funext fun c => stretchA_eq V c
  unfold trip
  rw [h]

/-- The reference's trip, at the logits and at the candidates. -/
theorem body_eq : afterL Cert.ReferenceIdeal.Value.bodyI V' = afterL stretchR (R5 (after Cert.ReferenceIdeal.Gen.while0Ops0 V')) := by
  have h : ∀ Y : Valuation Cert.ReferenceIdeal.τ Cert.ReferenceIdeal.sig (Elt Ideal),
      after Cert.ReferenceIdeal.Gen.while0Ops0_4 Y = after (Cert.ReferenceIdeal.Gen.while0Ops0_4.drop 2) (after Ref.topOps Y) := fun _ => rfl
  exact congrArg (afterL (stretchR.drop 1)) (h _)

/-- A trip of each program from buffers that agree leaves buffers that agree. -/
theorem trip_same (h : Same2 LT (V c) V') : Same2 LT (trip V c) (afterL Cert.ReferenceIdeal.Value.bodyI V') := by
  rw [trip_eq, body_eq]
  have hA := Seq.run_to (by decide +kernel) seq_logits (k' := 56) rfl (Agree.start PT 74 74 (agree_of_pairs hbm_LT h))
  exact rest _ _ (middle (K1 V) c _ hA)

end Trip

/-! ## All of them -/

section All

open Cert.KernelIdeal

/-- The arguments. -/
abbrev LE : List RefPair :=
  [(main_arg0, Cert.ReferenceIdeal.main_arg0), (main_arg1, Cert.ReferenceIdeal.main_arg1), (main_arg2, Cert.ReferenceIdeal.main_arg2),
   (main_arg3, Cert.ReferenceIdeal.main_arg3), (main_arg4, Cert.ReferenceIdeal.main_arg4), (main_arg5, Cert.ReferenceIdeal.main_arg5),
   (main_arg6, Cert.ReferenceIdeal.main_arg6), (main_arg7, Cert.ReferenceIdeal.main_arg7), (main_arg8, Cert.ReferenceIdeal.main_arg8),
   (main_arg9, Cert.ReferenceIdeal.main_arg9), (main_arg10, Cert.ReferenceIdeal.main_arg10), (main_arg11, Cert.ReferenceIdeal.main_arg11),
   (main_arg12, Cert.ReferenceIdeal.main_arg12)]

theorem hbm_LE : InHbm LE := by
  repeat refine hbm_cons rfl rfl ?_
  exact hbm_nil

/-- The conditions leave what a trip finds. -/
theorem cond_K (Y : Valuation τ sig (Elt Ideal)) (p : RefPair) (hp : p ∈ LT) : after Prf.condOps Y (Proc.devRef .tc p.1) = Y (Proc.devRef .tc p.1) := by
  have h : ∀ r ∈ LT.map Prod.fst, r ∉ Prf.Wcond.flatten := by decide +kernel
  exact Prf.writesCond.keep (h _ (List.mem_map_of_mem hp)) Y
theorem cond_R (Y : Valuation Cert.ReferenceIdeal.τ Cert.ReferenceIdeal.sig (Elt Ideal)) (p : RefPair) (hp : p ∈ LT) :
    after Cert.ReferenceIdeal.Value.condOps Y (Proc.devRef .tc p.2) = Y (Proc.devRef .tc p.2) := by
  have h : ∀ r ∈ LT.map Prod.snd, r ∉ Cert.ReferenceIdeal.Prf.Wcond.flatten := by decide +kernel
  exact Cert.ReferenceIdeal.Prf.writesCond.keep (h _ (List.mem_map_of_mem hp)) Y

variable (m : (ℓ : Loc nD τ sig) → Buf (Elt Ideal) ℓ)
  (m' : (ℓ : Loc Cert.ReferenceIdeal.nD Cert.ReferenceIdeal.τ Cert.ReferenceIdeal.sig) → Buf (Elt Ideal) ℓ)
  (c : Dev nD)

/-- The reference's buffers before the `k`-th run of its condition. -/
abbrev Rk (k : ℕ) : Valuation Cert.ReferenceIdeal.τ Cert.ReferenceIdeal.sig (Elt Ideal) :=
  atTrip Cert.ReferenceIdeal.Value.condOps Cert.ReferenceIdeal.Value.bodyI (entryContents Cert.ReferenceIdeal.Value.preI m') k c

theorem entry_same (h : Same2 LE (Prf.W0 m c) (StableHlo.launchContents m' c)) : Same2 LT (Prf.Went m c) (entryContents Cert.ReferenceIdeal.Value.preI m' c) := by
  have hA := Seq.run_to (by decide +kernel) seq_entry (k' := 59) rfl (Agree.start PE 13 13 (agree_of_pairs hbm_LE h))
  exact pairs_of_agree hbm_LT hA (by decide +kernel)

theorem trips_same (h : Same2 LE (Prf.W0 m c) (StableHlo.launchContents m' c)) : ∀ k, Same2 LT (Prf.Wk m k c) (Rk m' c k)
  | 0 => entry_same m m' c h
  | k + 1 => by
    have ih := trips_same h k
    rw [Prf.Wk_succ]
    refine trip_same (fun c => after Prf.condOps (Prf.Wk m k c)) c (after Cert.ReferenceIdeal.Value.condOps (Rk m' c k)) ?_
    exact ih.carry (cond_K _) (cond_R _)

/-- Equal arguments give equal results. -/
theorem end_same (h : Same2 LE (Prf.W0 m c) (StableHlo.launchContents m' c)) : Same2 LT (Prf.Wend m c) (Cert.ReferenceIdeal.Prf.Wend m' c) := by
  have hk := trips_same m m' c h 15
  unfold Prf.Wend Cert.ReferenceIdeal.Prf.Wend finalContents
  generalize 15 = k at hk ⊢
  exact hk.carry (cond_K _) (cond_R _)

end All

end Cert.Alg
-- ==== Proof.Alg.Claim.lean ====
/-
  The claim over the extended reals: the kernel's program and the reference end with equal results.
-/
module

public import proofs.«01_k».proof.Defs
public import proofs.«01_k».proof.Proof.Gen.KernelIdeal
public import proofs.«01_k».proof.Proof.Gen.ReferenceIdeal
public import proofs.«01_k».proof.Proof.KI.Run
public import proofs.«01_k».proof.Proof.Ref.Run
public import proofs.«01_k».proof.Proof.Alg.Trips

@[expose] public section

noncomputable section

namespace Cert.Proof

open Idealize.ShloMosaic Idealize.ShloMosaic.TcCoe Idealize.SL.Sem Cert.Alg

/-- The results are buffers outside every scope. -/
theorem results_uc (r : Ref Cert.KernelIdeal.sig .tc) (h : r ∈ [Cert.KernelIdeal.main_v31_12, Cert.KernelIdeal.main_v31_13, Cert.KernelIdeal.main_v31_14]) :
    Proc.devRef .tc r ∈ Cert.KernelIdeal.Prf.uc :=
  Finset.mem_filter.mpr ⟨StableHlo.devRef_mem_tcRefs r, by revert r; decide +kernel⟩
theorem results_unscoped (r : Ref Cert.ReferenceIdeal.sig .tc)
    (h : r ∈ [Cert.ReferenceIdeal.main_v31_12, Cert.ReferenceIdeal.main_v31_13, Cert.ReferenceIdeal.main_v31_14]) :
    (Proc.devRef .tc r : DevRef Cert.ReferenceIdeal.τ Cert.ReferenceIdeal.sig).isScoped = false := by
  revert r; decide +kernel

theorem algebraic : Cert.algebraic_KernelIdeal_ReferenceIdeal := by
  intro m g m' g' _ hargs
  have hE : ∀ c : Dev Cert.KernelIdeal.nD, Same2 LE (Cert.KernelIdeal.Prf.W0 m c) (StableHlo.launchContents m' c) := fun c => by
    obtain ⟨a0, a1, a2, a3, a4, a5, a6, a7, a8, a9, a10, a11, a12⟩ := hargs c
    exact same2_cons (heq_of_eq a0.symm) (same2_cons (heq_of_eq a1.symm) (same2_cons (heq_of_eq a2.symm) (same2_cons (heq_of_eq a3.symm)
      (same2_cons (heq_of_eq a4.symm) (same2_cons (heq_of_eq a5.symm) (same2_cons (heq_of_eq a6.symm) (same2_cons (heq_of_eq a7.symm)
      (same2_cons (heq_of_eq a8.symm) (same2_cons (heq_of_eq a9.symm) (same2_cons (heq_of_eq a10.symm) (same2_cons (heq_of_eq a11.symm)
      (same2_cons (heq_of_eq a12.symm) same2_nil))))))))))))
  have hS := fun c => end_same m m' c (hE c)
  refine ⟨fun c => Cert.KernelIdeal.Prf.Wend m c (Proc.devRef .tc Cert.KernelIdeal.main_v31_13),
    fun c => Cert.KernelIdeal.Prf.Wend m c (Proc.devRef .tc Cert.KernelIdeal.main_v31_14),
    fun c => Cert.KernelIdeal.Prf.Wend m c (Proc.devRef .tc Cert.KernelIdeal.main_v31_12), ?_, ?_⟩
  · refine (θ_run Cert.KernelIdeal.defs _ _).mono (fun r h c => ?_) (Cert.KernelIdeal.Prf.run_args m g)
    have k := fun b hb => (h.1 c b (Cert.KernelIdeal.Prf.args_uc b hb)).trans (Cert.KernelIdeal.Prf.Wend_args m c b hb)
    refine ⟨h.1 c _ (results_uc _ (by decide +kernel)), h.1 c _ (results_uc _ (by decide +kernel)), h.1 c _ (results_uc _ (by decide +kernel)),
      k _ ?_, k _ ?_, k _ ?_, k _ ?_, k _ ?_, k _ ?_, k _ ?_, k _ ?_, k _ ?_, k _ ?_, k _ ?_, k _ ?_, k _ ?_⟩ <;> decide +kernel
  · refine (θ_run Cert.ReferenceIdeal.defs _ _).mono (fun r h c => ?_) (Cert.ReferenceIdeal.Prf.run_args m' g')
    have k := fun b hb => (h.1 c b (Cert.ReferenceIdeal.Prf.args_unscoped b hb)).trans (Cert.ReferenceIdeal.Prf.Wend_args m' c b hb)
    have e13 := eq_of_heq (hS c (Cert.KernelIdeal.main_v31_13, Cert.ReferenceIdeal.main_v31_13) (by decide +kernel))
    have e14 := eq_of_heq (hS c (Cert.KernelIdeal.main_v31_14, Cert.ReferenceIdeal.main_v31_14) (by decide +kernel))
    have e12 := eq_of_heq (hS c (Cert.KernelIdeal.main_v31_12, Cert.ReferenceIdeal.main_v31_12) (by decide +kernel))
    refine ⟨(h.1 c _ (results_unscoped _ (by decide +kernel))).trans e13.symm, (h.1 c _ (results_unscoped _ (by decide +kernel))).trans e14.symm,
      (h.1 c _ (results_unscoped _ (by decide +kernel))).trans e12.symm,
      k _ ?_, k _ ?_, k _ ?_, k _ ?_, k _ ?_, k _ ?_, k _ ?_, k _ ?_, k _ ?_, k _ ?_, k _ ?_, k _ ?_, k _ ?_⟩ <;> decide +kernel

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Alg.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
